-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qkv [hPre_finite_qkv : Cert.Pre_finite_qkv.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qkv.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qkv [hPre_finite_qkv : Cert.Pre_finite_qkv.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qkv.fn (F := Ideal) (m ((c.tc : Thread Cert.ReferenceIdeal.nD Cert.ReferenceIdeal.τ).loc Cert.ReferenceIdeal.main_arg0))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3))).1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3))).2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3))).2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3))).1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3))).2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3))).2.2 = (fun _ => 1#1)

def Pre_SsdIn (m : (ℓ : Loc Cert.SsdIn.nD Cert.SsdIn.τ Cert.SsdIn.sig) → Buf (Elt Bits) ℓ) : Prop :=
  True

def Pre_SsdInIdeal (m : (ℓ : Loc Cert.SsdInIdeal.nD Cert.SsdInIdeal.τ Cert.SsdInIdeal.sig) → Buf (Elt Ideal) ℓ) : Prop :=
  True

def Pre_SsdInRefIdeal (m : (ℓ : Loc Cert.SsdInRefIdeal.nD Cert.SsdInRefIdeal.τ Cert.SsdInRefIdeal.sig) → Buf (Elt Ideal) ℓ) : Prop :=
  True

def Pre_SsdDt (m : (ℓ : Loc Cert.SsdDt.nD Cert.SsdDt.τ Cert.SsdDt.sig) → Buf (Elt Bits) ℓ) : Prop :=
  True

def Pre_SsdDtIdeal (m : (ℓ : Loc Cert.SsdDtIdeal.nD Cert.SsdDtIdeal.τ Cert.SsdDtIdeal.sig) → Buf (Elt Ideal) ℓ) : Prop :=
  True

def Pre_SsdDtRefIdeal (m : (ℓ : Loc Cert.SsdDtRefIdeal.nD Cert.SsdDtRefIdeal.τ Cert.SsdDtRefIdeal.sig) → Buf (Elt Ideal) ℓ) : Prop :=
  True

def Pre_SsdOut (m : (ℓ : Loc Cert.SsdOut.nD Cert.SsdOut.τ Cert.SsdOut.sig) → Buf (Elt Bits) ℓ) : Prop :=
  True

def Pre_SsdOutIdeal (m : (ℓ : Loc Cert.SsdOutIdeal.nD Cert.SsdOutIdeal.τ Cert.SsdOutIdeal.sig) → Buf (Elt Ideal) ℓ) : Prop :=
  True

def Pre_SsdOutRefIdeal (m : (ℓ : Loc Cert.SsdOutRefIdeal.nD Cert.SsdOutRefIdeal.τ Cert.SsdOutRefIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutRefIdeal (m : (ℓ : Loc Cert.AttnOutRefIdeal.nD Cert.AttnOutRefIdeal.τ Cert.AttnOutRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_FfnNext (m : (ℓ : Loc Cert.FfnNext.nD Cert.FfnNext.τ Cert.FfnNext.sig) → Buf (Elt Bits) ℓ) : Prop :=
  True

def Pre_FfnNextIdeal (m : (ℓ : Loc Cert.FfnNextIdeal.nD Cert.FfnNextIdeal.τ Cert.FfnNextIdeal.sig) → Buf (Elt Ideal) ℓ) : Prop :=
  True

def Pre_FfnNextIdeal_finite_ffn_next [hPre_finite_ffn_next : Cert.Pre_finite_ffn_next.Facts] (m : (ℓ : Loc Cert.FfnNextIdeal.nD Cert.FfnNextIdeal.τ Cert.FfnNextIdeal.sig) → Buf (Elt Ideal) ℓ) : Prop :=
  ∀ c : Dev Cert.FfnNextIdeal.nD,
    (Cert.Pre_finite_ffn_next.fn (F := Ideal) (m ((c.tc : Thread Cert.FfnNextIdeal.nD Cert.FfnNextIdeal.τ).loc Cert.FfnNextIdeal.main_arg0)) (m ((c.tc : Thread Cert.FfnNextIdeal.nD Cert.FfnNextIdeal.τ).loc Cert.FfnNextIdeal.main_arg1)) (m ((c.tc : Thread Cert.FfnNextIdeal.nD Cert.FfnNextIdeal.τ).loc Cert.FfnNextIdeal.main_arg2)) (m ((c.tc : Thread Cert.FfnNextIdeal.nD Cert.FfnNextIdeal.τ).loc Cert.FfnNextIdeal.main_arg3)) (m ((c.tc : Thread Cert.FfnNextIdeal.nD Cert.FfnNextIdeal.τ).loc Cert.FfnNextIdeal.main_arg4)) (m ((c.tc : Thread Cert.FfnNextIdeal.nD Cert.FfnNextIdeal.τ).loc Cert.FfnNextIdeal.main_arg5))).1 = (fun _ => 1#1)
    ∧ (Cert.Pre_finite_ffn_next.fn (F := Ideal) (m ((c.tc : Thread Cert.FfnNextIdeal.nD Cert.FfnNextIdeal.τ).loc Cert.FfnNextIdeal.main_arg0)) (m ((c.tc : Thread Cert.FfnNextIdeal.nD Cert.FfnNextIdeal.τ).loc Cert.FfnNextIdeal.main_arg1)) (m ((c.tc : Thread Cert.FfnNextIdeal.nD Cert.FfnNextIdeal.τ).loc Cert.FfnNextIdeal.main_arg2)) (m ((c.tc : Thread Cert.FfnNextIdeal.nD Cert.FfnNextIdeal.τ).loc Cert.FfnNextIdeal.main_arg3)) (m ((c.tc : Thread Cert.FfnNextIdeal.nD Cert.FfnNextIdeal.τ).loc Cert.FfnNextIdeal.main_arg4)) (m ((c.tc : Thread Cert.FfnNextIdeal.nD Cert.FfnNextIdeal.τ).loc Cert.FfnNextIdeal.main_arg5))).2.1 = (fun _ => 1#1)
    ∧ (Cert.Pre_finite_ffn_next.fn (F := Ideal) (m ((c.tc : Thread Cert.FfnNextIdeal.nD Cert.FfnNextIdeal.τ).loc Cert.FfnNextIdeal.main_arg0)) (m ((c.tc : Thread Cert.FfnNextIdeal.nD Cert.FfnNextIdeal.τ).loc Cert.FfnNextIdeal.main_arg1)) (m ((c.tc : Thread Cert.FfnNextIdeal.nD Cert.FfnNextIdeal.τ).loc Cert.FfnNextIdeal.main_arg2)) (m ((c.tc : Thread Cert.FfnNextIdeal.nD Cert.FfnNextIdeal.τ).loc Cert.FfnNextIdeal.main_arg3)) (m ((c.tc : Thread Cert.FfnNextIdeal.nD Cert.FfnNextIdeal.τ).loc Cert.FfnNextIdeal.main_arg4)) (m ((c.tc : Thread Cert.FfnNextIdeal.nD Cert.FfnNextIdeal.τ).loc Cert.FfnNextIdeal.main_arg5))).2.2 = (fun _ => 1#1)

def Pre_FfnNextRefIdeal (m : (ℓ : Loc Cert.FfnNextRefIdeal.nD Cert.FfnNextRefIdeal.τ Cert.FfnNextRefIdeal.sig) → Buf (Elt Ideal) ℓ) : Prop :=
  True

def Pre_FfnNextRefIdeal_finite_ffn_next [hPre_finite_ffn_next : Cert.Pre_finite_ffn_next.Facts] (m : (ℓ : Loc Cert.FfnNextRefIdeal.nD Cert.FfnNextRefIdeal.τ Cert.FfnNextRefIdeal.sig) → Buf (Elt Ideal) ℓ) : Prop :=
  ∀ c : Dev Cert.FfnNextRefIdeal.nD,
    (Cert.Pre_finite_ffn_next.fn (F := Ideal) (m ((c.tc : Thread Cert.FfnNextRefIdeal.nD Cert.FfnNextRefIdeal.τ).loc Cert.FfnNextRefIdeal.main_arg0)) (m ((c.tc : Thread Cert.FfnNextRefIdeal.nD Cert.FfnNextRefIdeal.τ).loc Cert.FfnNextRefIdeal.main_arg1)) (m ((c.tc : Thread Cert.FfnNextRefIdeal.nD Cert.FfnNextRefIdeal.τ).loc Cert.FfnNextRefIdeal.main_arg2)) (m ((c.tc : Thread Cert.FfnNextRefIdeal.nD Cert.FfnNextRefIdeal.τ).loc Cert.FfnNextRefIdeal.main_arg3)) (m ((c.tc : Thread Cert.FfnNextRefIdeal.nD Cert.FfnNextRefIdeal.τ).loc Cert.FfnNextRefIdeal.main_arg4)) (m ((c.tc : Thread Cert.FfnNextRefIdeal.nD Cert.FfnNextRefIdeal.τ).loc Cert.FfnNextRefIdeal.main_arg5))).1 = (fun _ => 1#1)
    ∧ (Cert.Pre_finite_ffn_next.fn (F := Ideal) (m ((c.tc : Thread Cert.FfnNextRefIdeal.nD Cert.FfnNextRefIdeal.τ).loc Cert.FfnNextRefIdeal.main_arg0)) (m ((c.tc : Thread Cert.FfnNextRefIdeal.nD Cert.FfnNextRefIdeal.τ).loc Cert.FfnNextRefIdeal.main_arg1)) (m ((c.tc : Thread Cert.FfnNextRefIdeal.nD Cert.FfnNextRefIdeal.τ).loc Cert.FfnNextRefIdeal.main_arg2)) (m ((c.tc : Thread Cert.FfnNextRefIdeal.nD Cert.FfnNextRefIdeal.τ).loc Cert.FfnNextRefIdeal.main_arg3)) (m ((c.tc : Thread Cert.FfnNextRefIdeal.nD Cert.FfnNextRefIdeal.τ).loc Cert.FfnNextRefIdeal.main_arg4)) (m ((c.tc : Thread Cert.FfnNextRefIdeal.nD Cert.FfnNextRefIdeal.τ).loc Cert.FfnNextRefIdeal.main_arg5))).2.1 = (fun _ => 1#1)
    ∧ (Cert.Pre_finite_ffn_next.fn (F := Ideal) (m ((c.tc : Thread Cert.FfnNextRefIdeal.nD Cert.FfnNextRefIdeal.τ).loc Cert.FfnNextRefIdeal.main_arg0)) (m ((c.tc : Thread Cert.FfnNextRefIdeal.nD Cert.FfnNextRefIdeal.τ).loc Cert.FfnNextRefIdeal.main_arg1)) (m ((c.tc : Thread Cert.FfnNextRefIdeal.nD Cert.FfnNextRefIdeal.τ).loc Cert.FfnNextRefIdeal.main_arg2)) (m ((c.tc : Thread Cert.FfnNextRefIdeal.nD Cert.FfnNextRefIdeal.τ).loc Cert.FfnNextRefIdeal.main_arg3)) (m ((c.tc : Thread Cert.FfnNextRefIdeal.nD Cert.FfnNextRefIdeal.τ).loc Cert.FfnNextRefIdeal.main_arg4)) (m ((c.tc : Thread Cert.FfnNextRefIdeal.nD Cert.FfnNextRefIdeal.τ).loc Cert.FfnNextRefIdeal.main_arg5))).2.2 = (fun _ => 1#1)

def Pre_FfnAttn (m : (ℓ : Loc Cert.FfnAttn.nD Cert.FfnAttn.τ Cert.FfnAttn.sig) → Buf (Elt Bits) ℓ) : Prop :=
  True

def Pre_FfnAttnIdeal (m : (ℓ : Loc Cert.FfnAttnIdeal.nD Cert.FfnAttnIdeal.τ Cert.FfnAttnIdeal.sig) → Buf (Elt Ideal) ℓ) : Prop :=
  True

def Pre_FfnAttnIdeal_finite_ffn_attn [hPre_finite_ffn_attn : Cert.Pre_finite_ffn_attn.Facts] (m : (ℓ : Loc Cert.FfnAttnIdeal.nD Cert.FfnAttnIdeal.τ Cert.FfnAttnIdeal.sig) → Buf (Elt Ideal) ℓ) : Prop :=
  ∀ c : Dev Cert.FfnAttnIdeal.nD,
    (Cert.Pre_finite_ffn_attn.fn (F := Ideal) (m ((c.tc : Thread Cert.FfnAttnIdeal.nD Cert.FfnAttnIdeal.τ).loc Cert.FfnAttnIdeal.main_arg0)) (m ((c.tc : Thread Cert.FfnAttnIdeal.nD Cert.FfnAttnIdeal.τ).loc Cert.FfnAttnIdeal.main_arg1)) (m ((c.tc : Thread Cert.FfnAttnIdeal.nD Cert.FfnAttnIdeal.τ).loc Cert.FfnAttnIdeal.main_arg2)) (m ((c.tc : Thread Cert.FfnAttnIdeal.nD Cert.FfnAttnIdeal.τ).loc Cert.FfnAttnIdeal.main_arg3)) (m ((c.tc : Thread Cert.FfnAttnIdeal.nD Cert.FfnAttnIdeal.τ).loc Cert.FfnAttnIdeal.main_arg4)) (m ((c.tc : Thread Cert.FfnAttnIdeal.nD Cert.FfnAttnIdeal.τ).loc Cert.FfnAttnIdeal.main_arg5)) (m ((c.tc : Thread Cert.FfnAttnIdeal.nD Cert.FfnAttnIdeal.τ).loc Cert.FfnAttnIdeal.main_arg6)) (m ((c.tc : Thread Cert.FfnAttnIdeal.nD Cert.FfnAttnIdeal.τ).loc Cert.FfnAttnIdeal.main_arg7))).1 = (fun _ => 1#1)
    ∧ (Cert.Pre_finite_ffn_attn.fn (F := Ideal) (m ((c.tc : Thread Cert.FfnAttnIdeal.nD Cert.FfnAttnIdeal.τ).loc Cert.FfnAttnIdeal.main_arg0)) (m ((c.tc : Thread Cert.FfnAttnIdeal.nD Cert.FfnAttnIdeal.τ).loc Cert.FfnAttnIdeal.main_arg1)) (m ((c.tc : Thread Cert.FfnAttnIdeal.nD Cert.FfnAttnIdeal.τ).loc Cert.FfnAttnIdeal.main_arg2)) (m ((c.tc : Thread Cert.FfnAttnIdeal.nD Cert.FfnAttnIdeal.τ).loc Cert.FfnAttnIdeal.main_arg3)) (m ((c.tc : Thread Cert.FfnAttnIdeal.nD Cert.FfnAttnIdeal.τ).loc Cert.FfnAttnIdeal.main_arg4)) (m ((c.tc : Thread Cert.FfnAttnIdeal.nD Cert.FfnAttnIdeal.τ).loc Cert.FfnAttnIdeal.main_arg5)) (m ((c.tc : Thread Cert.FfnAttnIdeal.nD Cert.FfnAttnIdeal.τ).loc Cert.FfnAttnIdeal.main_arg6)) (m ((c.tc : Thread Cert.FfnAttnIdeal.nD Cert.FfnAttnIdeal.τ).loc Cert.FfnAttnIdeal.main_arg7))).2.1 = (fun _ => 1#1)
    ∧ (Cert.Pre_finite_ffn_attn.fn (F := Ideal) (m ((c.tc : Thread Cert.FfnAttnIdeal.nD Cert.FfnAttnIdeal.τ).loc Cert.FfnAttnIdeal.main_arg0)) (m ((c.tc : Thread Cert.FfnAttnIdeal.nD Cert.FfnAttnIdeal.τ).loc Cert.FfnAttnIdeal.main_arg1)) (m ((c.tc : Thread Cert.FfnAttnIdeal.nD Cert.FfnAttnIdeal.τ).loc Cert.FfnAttnIdeal.main_arg2)) (m ((c.tc : Thread Cert.FfnAttnIdeal.nD Cert.FfnAttnIdeal.τ).loc Cert.FfnAttnIdeal.main_arg3)) (m ((c.tc : Thread Cert.FfnAttnIdeal.nD Cert.FfnAttnIdeal.τ).loc Cert.FfnAttnIdeal.main_arg4)) (m ((c.tc : Thread Cert.FfnAttnIdeal.nD Cert.FfnAttnIdeal.τ).loc Cert.FfnAttnIdeal.main_arg5)) (m ((c.tc : Thread Cert.FfnAttnIdeal.nD Cert.FfnAttnIdeal.τ).loc Cert.FfnAttnIdeal.main_arg6)) (m ((c.tc : Thread Cert.FfnAttnIdeal.nD Cert.FfnAttnIdeal.τ).loc Cert.FfnAttnIdeal.main_arg7))).2.2 = (fun _ => 1#1)

def Pre_FfnAttnRefIdeal (m : (ℓ : Loc Cert.FfnAttnRefIdeal.nD Cert.FfnAttnRefIdeal.τ Cert.FfnAttnRefIdeal.sig) → Buf (Elt Ideal) ℓ) : Prop :=
  True

def Pre_FfnAttnRefIdeal_finite_ffn_attn [hPre_finite_ffn_attn : Cert.Pre_finite_ffn_attn.Facts] (m : (ℓ : Loc Cert.FfnAttnRefIdeal.nD Cert.FfnAttnRefIdeal.τ Cert.FfnAttnRefIdeal.sig) → Buf (Elt Ideal) ℓ) : Prop :=
  ∀ c : Dev Cert.FfnAttnRefIdeal.nD,
    (Cert.Pre_finite_ffn_attn.fn (F := Ideal) (m ((c.tc : Thread Cert.FfnAttnRefIdeal.nD Cert.FfnAttnRefIdeal.τ).loc Cert.FfnAttnRefIdeal.main_arg0)) (m ((c.tc : Thread Cert.FfnAttnRefIdeal.nD Cert.FfnAttnRefIdeal.τ).loc Cert.FfnAttnRefIdeal.main_arg1)) (m ((c.tc : Thread Cert.FfnAttnRefIdeal.nD Cert.FfnAttnRefIdeal.τ).loc Cert.FfnAttnRefIdeal.main_arg2)) (m ((c.tc : Thread Cert.FfnAttnRefIdeal.nD Cert.FfnAttnRefIdeal.τ).loc Cert.FfnAttnRefIdeal.main_arg3)) (m ((c.tc : Thread Cert.FfnAttnRefIdeal.nD Cert.FfnAttnRefIdeal.τ).loc Cert.FfnAttnRefIdeal.main_arg4)) (m ((c.tc : Thread Cert.FfnAttnRefIdeal.nD Cert.FfnAttnRefIdeal.τ).loc Cert.FfnAttnRefIdeal.main_arg5)) (m ((c.tc : Thread Cert.FfnAttnRefIdeal.nD Cert.FfnAttnRefIdeal.τ).loc Cert.FfnAttnRefIdeal.main_arg6)) (m ((c.tc : Thread Cert.FfnAttnRefIdeal.nD Cert.FfnAttnRefIdeal.τ).loc Cert.FfnAttnRefIdeal.main_arg7))).1 = (fun _ => 1#1)
    ∧ (Cert.Pre_finite_ffn_attn.fn (F := Ideal) (m ((c.tc : Thread Cert.FfnAttnRefIdeal.nD Cert.FfnAttnRefIdeal.τ).loc Cert.FfnAttnRefIdeal.main_arg0)) (m ((c.tc : Thread Cert.FfnAttnRefIdeal.nD Cert.FfnAttnRefIdeal.τ).loc Cert.FfnAttnRefIdeal.main_arg1)) (m ((c.tc : Thread Cert.FfnAttnRefIdeal.nD Cert.FfnAttnRefIdeal.τ).loc Cert.FfnAttnRefIdeal.main_arg2)) (m ((c.tc : Thread Cert.FfnAttnRefIdeal.nD Cert.FfnAttnRefIdeal.τ).loc Cert.FfnAttnRefIdeal.main_arg3)) (m ((c.tc : Thread Cert.FfnAttnRefIdeal.nD Cert.FfnAttnRefIdeal.τ).loc Cert.FfnAttnRefIdeal.main_arg4)) (m ((c.tc : Thread Cert.FfnAttnRefIdeal.nD Cert.FfnAttnRefIdeal.τ).loc Cert.FfnAttnRefIdeal.main_arg5)) (m ((c.tc : Thread Cert.FfnAttnRefIdeal.nD Cert.FfnAttnRefIdeal.τ).loc Cert.FfnAttnRefIdeal.main_arg6)) (m ((c.tc : Thread Cert.FfnAttnRefIdeal.nD Cert.FfnAttnRefIdeal.τ).loc Cert.FfnAttnRefIdeal.main_arg7))).2.1 = (fun _ => 1#1)
    ∧ (Cert.Pre_finite_ffn_attn.fn (F := Ideal) (m ((c.tc : Thread Cert.FfnAttnRefIdeal.nD Cert.FfnAttnRefIdeal.τ).loc Cert.FfnAttnRefIdeal.main_arg0)) (m ((c.tc : Thread Cert.FfnAttnRefIdeal.nD Cert.FfnAttnRefIdeal.τ).loc Cert.FfnAttnRefIdeal.main_arg1)) (m ((c.tc : Thread Cert.FfnAttnRefIdeal.nD Cert.FfnAttnRefIdeal.τ).loc Cert.FfnAttnRefIdeal.main_arg2)) (m ((c.tc : Thread Cert.FfnAttnRefIdeal.nD Cert.FfnAttnRefIdeal.τ).loc Cert.FfnAttnRefIdeal.main_arg3)) (m ((c.tc : Thread Cert.FfnAttnRefIdeal.nD Cert.FfnAttnRefIdeal.τ).loc Cert.FfnAttnRefIdeal.main_arg4)) (m ((c.tc : Thread Cert.FfnAttnRefIdeal.nD Cert.FfnAttnRefIdeal.τ).loc Cert.FfnAttnRefIdeal.main_arg5)) (m ((c.tc : Thread Cert.FfnAttnRefIdeal.nD Cert.FfnAttnRefIdeal.τ).loc Cert.FfnAttnRefIdeal.main_arg6)) (m ((c.tc : Thread Cert.FfnAttnRefIdeal.nD Cert.FfnAttnRefIdeal.τ).loc Cert.FfnAttnRefIdeal.main_arg7))).2.2 = (fun _ => 1#1)

def Pre_FfnSsd (m : (ℓ : Loc Cert.FfnSsd.nD Cert.FfnSsd.τ Cert.FfnSsd.sig) → Buf (Elt Bits) ℓ) : Prop :=
  True

def Pre_FfnSsdIdeal (m : (ℓ : Loc Cert.FfnSsdIdeal.nD Cert.FfnSsdIdeal.τ Cert.FfnSsdIdeal.sig) → Buf (Elt Ideal) ℓ) : Prop :=
  True

def Pre_FfnSsdIdeal_finite_ffn_ssd [hPre_finite_ffn_ssd : Cert.Pre_finite_ffn_ssd.Facts] (m : (ℓ : Loc Cert.FfnSsdIdeal.nD Cert.FfnSsdIdeal.τ Cert.FfnSsdIdeal.sig) → Buf (Elt Ideal) ℓ) : Prop :=
  ∀ c : Dev Cert.FfnSsdIdeal.nD,
    (Cert.Pre_finite_ffn_ssd.fn (F := Ideal) (m ((c.tc : Thread Cert.FfnSsdIdeal.nD Cert.FfnSsdIdeal.τ).loc Cert.FfnSsdIdeal.main_arg0)) (m ((c.tc : Thread Cert.FfnSsdIdeal.nD Cert.FfnSsdIdeal.τ).loc Cert.FfnSsdIdeal.main_arg1)) (m ((c.tc : Thread Cert.FfnSsdIdeal.nD Cert.FfnSsdIdeal.τ).loc Cert.FfnSsdIdeal.main_arg2)) (m ((c.tc : Thread Cert.FfnSsdIdeal.nD Cert.FfnSsdIdeal.τ).loc Cert.FfnSsdIdeal.main_arg3)) (m ((c.tc : Thread Cert.FfnSsdIdeal.nD Cert.FfnSsdIdeal.τ).loc Cert.FfnSsdIdeal.main_arg4)) (m ((c.tc : Thread Cert.FfnSsdIdeal.nD Cert.FfnSsdIdeal.τ).loc Cert.FfnSsdIdeal.main_arg5)) (m ((c.tc : Thread Cert.FfnSsdIdeal.nD Cert.FfnSsdIdeal.τ).loc Cert.FfnSsdIdeal.main_arg6)) (m ((c.tc : Thread Cert.FfnSsdIdeal.nD Cert.FfnSsdIdeal.τ).loc Cert.FfnSsdIdeal.main_arg7))).1 = (fun _ => 1#1)
    ∧ (Cert.Pre_finite_ffn_ssd.fn (F := Ideal) (m ((c.tc : Thread Cert.FfnSsdIdeal.nD Cert.FfnSsdIdeal.τ).loc Cert.FfnSsdIdeal.main_arg0)) (m ((c.tc : Thread Cert.FfnSsdIdeal.nD Cert.FfnSsdIdeal.τ).loc Cert.FfnSsdIdeal.main_arg1)) (m ((c.tc : Thread Cert.FfnSsdIdeal.nD Cert.FfnSsdIdeal.τ).loc Cert.FfnSsdIdeal.main_arg2)) (m ((c.tc : Thread Cert.FfnSsdIdeal.nD Cert.FfnSsdIdeal.τ).loc Cert.FfnSsdIdeal.main_arg3)) (m ((c.tc : Thread Cert.FfnSsdIdeal.nD Cert.FfnSsdIdeal.τ).loc Cert.FfnSsdIdeal.main_arg4)) (m ((c.tc : Thread Cert.FfnSsdIdeal.nD Cert.FfnSsdIdeal.τ).loc Cert.FfnSsdIdeal.main_arg5)) (m ((c.tc : Thread Cert.FfnSsdIdeal.nD Cert.FfnSsdIdeal.τ).loc Cert.FfnSsdIdeal.main_arg6)) (m ((c.tc : Thread Cert.FfnSsdIdeal.nD Cert.FfnSsdIdeal.τ).loc Cert.FfnSsdIdeal.main_arg7))).2.1 = (fun _ => 1#1)
    ∧ (Cert.Pre_finite_ffn_ssd.fn (F := Ideal) (m ((c.tc : Thread Cert.FfnSsdIdeal.nD Cert.FfnSsdIdeal.τ).loc Cert.FfnSsdIdeal.main_arg0)) (m ((c.tc : Thread Cert.FfnSsdIdeal.nD Cert.FfnSsdIdeal.τ).loc Cert.FfnSsdIdeal.main_arg1)) (m ((c.tc : Thread Cert.FfnSsdIdeal.nD Cert.FfnSsdIdeal.τ).loc Cert.FfnSsdIdeal.main_arg2)) (m ((c.tc : Thread Cert.FfnSsdIdeal.nD Cert.FfnSsdIdeal.τ).loc Cert.FfnSsdIdeal.main_arg3)) (m ((c.tc : Thread Cert.FfnSsdIdeal.nD Cert.FfnSsdIdeal.τ).loc Cert.FfnSsdIdeal.main_arg4)) (m ((c.tc : Thread Cert.FfnSsdIdeal.nD Cert.FfnSsdIdeal.τ).loc Cert.FfnSsdIdeal.main_arg5)) (m ((c.tc : Thread Cert.FfnSsdIdeal.nD Cert.FfnSsdIdeal.τ).loc Cert.FfnSsdIdeal.main_arg6)) (m ((c.tc : Thread Cert.FfnSsdIdeal.nD Cert.FfnSsdIdeal.τ).loc Cert.FfnSsdIdeal.main_arg7))).2.2 = (fun _ => 1#1)

def Pre_FfnSsdRefIdeal (m : (ℓ : Loc Cert.FfnSsdRefIdeal.nD Cert.FfnSsdRefIdeal.τ Cert.FfnSsdRefIdeal.sig) → Buf (Elt Ideal) ℓ) : Prop :=
  True

def Pre_FfnSsdRefIdeal_finite_ffn_ssd [hPre_finite_ffn_ssd : Cert.Pre_finite_ffn_ssd.Facts] (m : (ℓ : Loc Cert.FfnSsdRefIdeal.nD Cert.FfnSsdRefIdeal.τ Cert.FfnSsdRefIdeal.sig) → Buf (Elt Ideal) ℓ) : Prop :=
  ∀ c : Dev Cert.FfnSsdRefIdeal.nD,
    (Cert.Pre_finite_ffn_ssd.fn (F := Ideal) (m ((c.tc : Thread Cert.FfnSsdRefIdeal.nD Cert.FfnSsdRefIdeal.τ).loc Cert.FfnSsdRefIdeal.main_arg0)) (m ((c.tc : Thread Cert.FfnSsdRefIdeal.nD Cert.FfnSsdRefIdeal.τ).loc Cert.FfnSsdRefIdeal.main_arg1)) (m ((c.tc : Thread Cert.FfnSsdRefIdeal.nD Cert.FfnSsdRefIdeal.τ).loc Cert.FfnSsdRefIdeal.main_arg2)) (m ((c.tc : Thread Cert.FfnSsdRefIdeal.nD Cert.FfnSsdRefIdeal.τ).loc Cert.FfnSsdRefIdeal.main_arg3)) (m ((c.tc : Thread Cert.FfnSsdRefIdeal.nD Cert.FfnSsdRefIdeal.τ).loc Cert.FfnSsdRefIdeal.main_arg4)) (m ((c.tc : Thread Cert.FfnSsdRefIdeal.nD Cert.FfnSsdRefIdeal.τ).loc Cert.FfnSsdRefIdeal.main_arg5)) (m ((c.tc : Thread Cert.FfnSsdRefIdeal.nD Cert.FfnSsdRefIdeal.τ).loc Cert.FfnSsdRefIdeal.main_arg6)) (m ((c.tc : Thread Cert.FfnSsdRefIdeal.nD Cert.FfnSsdRefIdeal.τ).loc Cert.FfnSsdRefIdeal.main_arg7))).1 = (fun _ => 1#1)
    ∧ (Cert.Pre_finite_ffn_ssd.fn (F := Ideal) (m ((c.tc : Thread Cert.FfnSsdRefIdeal.nD Cert.FfnSsdRefIdeal.τ).loc Cert.FfnSsdRefIdeal.main_arg0)) (m ((c.tc : Thread Cert.FfnSsdRefIdeal.nD Cert.FfnSsdRefIdeal.τ).loc Cert.FfnSsdRefIdeal.main_arg1)) (m ((c.tc : Thread Cert.FfnSsdRefIdeal.nD Cert.FfnSsdRefIdeal.τ).loc Cert.FfnSsdRefIdeal.main_arg2)) (m ((c.tc : Thread Cert.FfnSsdRefIdeal.nD Cert.FfnSsdRefIdeal.τ).loc Cert.FfnSsdRefIdeal.main_arg3)) (m ((c.tc : Thread Cert.FfnSsdRefIdeal.nD Cert.FfnSsdRefIdeal.τ).loc Cert.FfnSsdRefIdeal.main_arg4)) (m ((c.tc : Thread Cert.FfnSsdRefIdeal.nD Cert.FfnSsdRefIdeal.τ).loc Cert.FfnSsdRefIdeal.main_arg5)) (m ((c.tc : Thread Cert.FfnSsdRefIdeal.nD Cert.FfnSsdRefIdeal.τ).loc Cert.FfnSsdRefIdeal.main_arg6)) (m ((c.tc : Thread Cert.FfnSsdRefIdeal.nD Cert.FfnSsdRefIdeal.τ).loc Cert.FfnSsdRefIdeal.main_arg7))).2.1 = (fun _ => 1#1)
    ∧ (Cert.Pre_finite_ffn_ssd.fn (F := Ideal) (m ((c.tc : Thread Cert.FfnSsdRefIdeal.nD Cert.FfnSsdRefIdeal.τ).loc Cert.FfnSsdRefIdeal.main_arg0)) (m ((c.tc : Thread Cert.FfnSsdRefIdeal.nD Cert.FfnSsdRefIdeal.τ).loc Cert.FfnSsdRefIdeal.main_arg1)) (m ((c.tc : Thread Cert.FfnSsdRefIdeal.nD Cert.FfnSsdRefIdeal.τ).loc Cert.FfnSsdRefIdeal.main_arg2)) (m ((c.tc : Thread Cert.FfnSsdRefIdeal.nD Cert.FfnSsdRefIdeal.τ).loc Cert.FfnSsdRefIdeal.main_arg3)) (m ((c.tc : Thread Cert.FfnSsdRefIdeal.nD Cert.FfnSsdRefIdeal.τ).loc Cert.FfnSsdRefIdeal.main_arg4)) (m ((c.tc : Thread Cert.FfnSsdRefIdeal.nD Cert.FfnSsdRefIdeal.τ).loc Cert.FfnSsdRefIdeal.main_arg5)) (m ((c.tc : Thread Cert.FfnSsdRefIdeal.nD Cert.FfnSsdRefIdeal.τ).loc Cert.FfnSsdRefIdeal.main_arg6)) (m ((c.tc : Thread Cert.FfnSsdRefIdeal.nD Cert.FfnSsdRefIdeal.τ).loc Cert.FfnSsdRefIdeal.main_arg7))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_qkv [hKernelIdeal : Cert.KernelIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qkv m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_qkv [hReferenceIdeal : Cert.ReferenceIdeal.Facts] [hPre_finite_qkv : Cert.Pre_finite_qkv.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qkv m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_SsdIn [hSsdIn : Cert.SsdIn.Facts] : Prop :=
  ∀ (m : (ℓ : Loc Cert.SsdIn.nD Cert.SsdIn.τ Cert.SsdIn.sig) → Buf (Elt Bits) ℓ) (g : Dev Cert.SsdIn.nD → PrngReg), Pre_SsdIn m →
    θ_run (Cert.SsdIn.defs (F := Bits)) (onTc (τ := Cert.SsdIn.τ) (Cert.SsdIn.main (F := Bits))) ⟨m, fun _ => 0, g⟩ (fun r => (∀ c : Dev Cert.SsdIn.nD,
      r.2.mem ((c.tc : Thread Cert.SsdIn.nD Cert.SsdIn.τ).loc Cert.SsdIn.main_arg0) = m ((c.tc : Thread Cert.SsdIn.nD Cert.SsdIn.τ).loc Cert.SsdIn.main_arg0)
      ∧ r.2.mem ((c.tc : Thread Cert.SsdIn.nD Cert.SsdIn.τ).loc Cert.SsdIn.main_arg1) = m ((c.tc : Thread Cert.SsdIn.nD Cert.SsdIn.τ).loc Cert.SsdIn.main_arg1)
      ∧ r.2.mem ((c.tc : Thread Cert.SsdIn.nD Cert.SsdIn.τ).loc Cert.SsdIn.main_arg2) = m ((c.tc : Thread Cert.SsdIn.nD Cert.SsdIn.τ).loc Cert.SsdIn.main_arg2))
      ∧ r.2.sem = fun _ => 0)

def quiescent_SsdInIdeal [hSsdInIdeal : Cert.SsdInIdeal.Facts] : Prop :=
  ∀ (m : (ℓ : Loc Cert.SsdInIdeal.nD Cert.SsdInIdeal.τ Cert.SsdInIdeal.sig) → Buf (Elt Ideal) ℓ) (g : Dev Cert.SsdInIdeal.nD → PrngReg), Pre_SsdInIdeal m →
    θ_run (Cert.SsdInIdeal.defs (F := Ideal)) (onTc (τ := Cert.SsdInIdeal.τ) (Cert.SsdInIdeal.main (F := Ideal))) ⟨m, fun _ => 0, g⟩ (fun r => (∀ c : Dev Cert.SsdInIdeal.nD,
      r.2.mem ((c.tc : Thread Cert.SsdInIdeal.nD Cert.SsdInIdeal.τ).loc Cert.SsdInIdeal.main_arg0) = m ((c.tc : Thread Cert.SsdInIdeal.nD Cert.SsdInIdeal.τ).loc Cert.SsdInIdeal.main_arg0)
      ∧ r.2.mem ((c.tc : Thread Cert.SsdInIdeal.nD Cert.SsdInIdeal.τ).loc Cert.SsdInIdeal.main_arg1) = m ((c.tc : Thread Cert.SsdInIdeal.nD Cert.SsdInIdeal.τ).loc Cert.SsdInIdeal.main_arg1)
      ∧ r.2.mem ((c.tc : Thread Cert.SsdInIdeal.nD Cert.SsdInIdeal.τ).loc Cert.SsdInIdeal.main_arg2) = m ((c.tc : Thread Cert.SsdInIdeal.nD Cert.SsdInIdeal.τ).loc Cert.SsdInIdeal.main_arg2))
      ∧ r.2.sem = fun _ => 0)

def quiescent_SsdInRefIdeal [hSsdInRefIdeal : Cert.SsdInRefIdeal.Facts] : Prop :=
  ∀ (m : (ℓ : Loc Cert.SsdInRefIdeal.nD Cert.SsdInRefIdeal.τ Cert.SsdInRefIdeal.sig) → Buf (Elt Ideal) ℓ) (g : Dev Cert.SsdInRefIdeal.nD → PrngReg), Pre_SsdInRefIdeal m →
    θ_run (Cert.SsdInRefIdeal.defs (F := Ideal)) (onTc (τ := Cert.SsdInRefIdeal.τ) (Cert.SsdInRefIdeal.main (F := Ideal))) ⟨m, fun _ => 0, g⟩ (fun r => (∀ c : Dev Cert.SsdInRefIdeal.nD,
      r.2.mem ((c.tc : Thread Cert.SsdInRefIdeal.nD Cert.SsdInRefIdeal.τ).loc Cert.SsdInRefIdeal.main_arg0) = m ((c.tc : Thread Cert.SsdInRefIdeal.nD Cert.SsdInRefIdeal.τ).loc Cert.SsdInRefIdeal.main_arg0)
      ∧ r.2.mem ((c.tc : Thread Cert.SsdInRefIdeal.nD Cert.SsdInRefIdeal.τ).loc Cert.SsdInRefIdeal.main_arg1) = m ((c.tc : Thread Cert.SsdInRefIdeal.nD Cert.SsdInRefIdeal.τ).loc Cert.SsdInRefIdeal.main_arg1)
      ∧ r.2.mem ((c.tc : Thread Cert.SsdInRefIdeal.nD Cert.SsdInRefIdeal.τ).loc Cert.SsdInRefIdeal.main_arg2) = m ((c.tc : Thread Cert.SsdInRefIdeal.nD Cert.SsdInRefIdeal.τ).loc Cert.SsdInRefIdeal.main_arg2))
      ∧ r.2.sem = fun _ => 0)

def quiescent_SsdDt [hSsdDt : Cert.SsdDt.Facts] : Prop :=
  ∀ (m : (ℓ : Loc Cert.SsdDt.nD Cert.SsdDt.τ Cert.SsdDt.sig) → Buf (Elt Bits) ℓ) (g : Dev Cert.SsdDt.nD → PrngReg), Pre_SsdDt m →
    θ_run (Cert.SsdDt.defs (F := Bits)) (onTc (τ := Cert.SsdDt.τ) (Cert.SsdDt.main (F := Bits))) ⟨m, fun _ => 0, g⟩ (fun r => (∀ c : Dev Cert.SsdDt.nD,
      r.2.mem ((c.tc : Thread Cert.SsdDt.nD Cert.SsdDt.τ).loc Cert.SsdDt.main_arg0) = m ((c.tc : Thread Cert.SsdDt.nD Cert.SsdDt.τ).loc Cert.SsdDt.main_arg0)
      ∧ r.2.mem ((c.tc : Thread Cert.SsdDt.nD Cert.SsdDt.τ).loc Cert.SsdDt.main_arg1) = m ((c.tc : Thread Cert.SsdDt.nD Cert.SsdDt.τ).loc Cert.SsdDt.main_arg1)
      ∧ r.2.mem ((c.tc : Thread Cert.SsdDt.nD Cert.SsdDt.τ).loc Cert.SsdDt.main_arg2) = m ((c.tc : Thread Cert.SsdDt.nD Cert.SsdDt.τ).loc Cert.SsdDt.main_arg2))
      ∧ r.2.sem = fun _ => 0)

def quiescent_SsdDtIdeal [hSsdDtIdeal : Cert.SsdDtIdeal.Facts] : Prop :=
  ∀ (m : (ℓ : Loc Cert.SsdDtIdeal.nD Cert.SsdDtIdeal.τ Cert.SsdDtIdeal.sig) → Buf (Elt Ideal) ℓ) (g : Dev Cert.SsdDtIdeal.nD → PrngReg), Pre_SsdDtIdeal m →
    θ_run (Cert.SsdDtIdeal.defs (F := Ideal)) (onTc (τ := Cert.SsdDtIdeal.τ) (Cert.SsdDtIdeal.main (F := Ideal))) ⟨m, fun _ => 0, g⟩ (fun r => (∀ c : Dev Cert.SsdDtIdeal.nD,
      r.2.mem ((c.tc : Thread Cert.SsdDtIdeal.nD Cert.SsdDtIdeal.τ).loc Cert.SsdDtIdeal.main_arg0) = m ((c.tc : Thread Cert.SsdDtIdeal.nD Cert.SsdDtIdeal.τ).loc Cert.SsdDtIdeal.main_arg0)
      ∧ r.2.mem ((c.tc : Thread Cert.SsdDtIdeal.nD Cert.SsdDtIdeal.τ).loc Cert.SsdDtIdeal.main_arg1) = m ((c.tc : Thread Cert.SsdDtIdeal.nD Cert.SsdDtIdeal.τ).loc Cert.SsdDtIdeal.main_arg1)
      ∧ r.2.mem ((c.tc : Thread Cert.SsdDtIdeal.nD Cert.SsdDtIdeal.τ).loc Cert.SsdDtIdeal.main_arg2) = m ((c.tc : Thread Cert.SsdDtIdeal.nD Cert.SsdDtIdeal.τ).loc Cert.SsdDtIdeal.main_arg2))
      ∧ r.2.sem = fun _ => 0)

def quiescent_SsdDtRefIdeal [hSsdDtRefIdeal : Cert.SsdDtRefIdeal.Facts] : Prop :=
  ∀ (m : (ℓ : Loc Cert.SsdDtRefIdeal.nD Cert.SsdDtRefIdeal.τ Cert.SsdDtRefIdeal.sig) → Buf (Elt Ideal) ℓ) (g : Dev Cert.SsdDtRefIdeal.nD → PrngReg), Pre_SsdDtRefIdeal m →
    θ_run (Cert.SsdDtRefIdeal.defs (F := Ideal)) (onTc (τ := Cert.SsdDtRefIdeal.τ) (Cert.SsdDtRefIdeal.main (F := Ideal))) ⟨m, fun _ => 0, g⟩ (fun r => (∀ c : Dev Cert.SsdDtRefIdeal.nD,
      r.2.mem ((c.tc : Thread Cert.SsdDtRefIdeal.nD Cert.SsdDtRefIdeal.τ).loc Cert.SsdDtRefIdeal.main_arg0) = m ((c.tc : Thread Cert.SsdDtRefIdeal.nD Cert.SsdDtRefIdeal.τ).loc Cert.SsdDtRefIdeal.main_arg0)
      ∧ r.2.mem ((c.tc : Thread Cert.SsdDtRefIdeal.nD Cert.SsdDtRefIdeal.τ).loc Cert.SsdDtRefIdeal.main_arg1) = m ((c.tc : Thread Cert.SsdDtRefIdeal.nD Cert.SsdDtRefIdeal.τ).loc Cert.SsdDtRefIdeal.main_arg1)
      ∧ r.2.mem ((c.tc : Thread Cert.SsdDtRefIdeal.nD Cert.SsdDtRefIdeal.τ).loc Cert.SsdDtRefIdeal.main_arg2) = m ((c.tc : Thread Cert.SsdDtRefIdeal.nD Cert.SsdDtRefIdeal.τ).loc Cert.SsdDtRefIdeal.main_arg2))
      ∧ r.2.sem = fun _ => 0)

def quiescent_SsdOut [hSsdOut : Cert.SsdOut.Facts] : Prop :=
  ∀ (m : (ℓ : Loc Cert.SsdOut.nD Cert.SsdOut.τ Cert.SsdOut.sig) → Buf (Elt Bits) ℓ) (g : Dev Cert.SsdOut.nD → PrngReg), Pre_SsdOut m →
    θ_run (Cert.SsdOut.defs (F := Bits)) (onTc (τ := Cert.SsdOut.τ) (Cert.SsdOut.main (F := Bits))) ⟨m, fun _ => 0, g⟩ (fun r => (∀ c : Dev Cert.SsdOut.nD,
      r.2.mem ((c.tc : Thread Cert.SsdOut.nD Cert.SsdOut.τ).loc Cert.SsdOut.main_arg0) = m ((c.tc : Thread Cert.SsdOut.nD Cert.SsdOut.τ).loc Cert.SsdOut.main_arg0)
      ∧ r.2.mem ((c.tc : Thread Cert.SsdOut.nD Cert.SsdOut.τ).loc Cert.SsdOut.main_arg1) = m ((c.tc : Thread Cert.SsdOut.nD Cert.SsdOut.τ).loc Cert.SsdOut.main_arg1)
      ∧ r.2.mem ((c.tc : Thread Cert.SsdOut.nD Cert.SsdOut.τ).loc Cert.SsdOut.main_arg2) = m ((c.tc : Thread Cert.SsdOut.nD Cert.SsdOut.τ).loc Cert.SsdOut.main_arg2))
      ∧ r.2.sem = fun _ => 0)

def quiescent_SsdOutIdeal [hSsdOutIdeal : Cert.SsdOutIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg), Pre_SsdOutIdeal m →
    θ_run (Cert.SsdOutIdeal.defs (F := Ideal)) (onTc (τ := Cert.SsdOutIdeal.τ) (Cert.SsdOutIdeal.main (F := Ideal))) ⟨m, fun _ => 0, g⟩ (fun r => (∀ c : Dev Cert.SsdOutIdeal.nD,
      r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
      ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1)
      ∧ r.2.mem ((c.tc : Thread Cert.SsdOutIdeal.nD Cert.SsdOutIdeal.τ).loc Cert.SsdOutIdeal.main_arg2) = m ((c.tc : Thread Cert.SsdOutIdeal.nD Cert.SsdOutIdeal.τ).loc Cert.SsdOutIdeal.main_arg2))
      ∧ r.2.sem = fun _ => 0)

def quiescent_SsdOutRefIdeal [hSsdOutRefIdeal : Cert.SsdOutRefIdeal.Facts] : Prop :=
  ∀ (m : (ℓ : Loc Cert.SsdOutRefIdeal.nD Cert.SsdOutRefIdeal.τ Cert.SsdOutRefIdeal.sig) → Buf (Elt Ideal) ℓ) (g : Dev Cert.SsdOutRefIdeal.nD → PrngReg), Pre_SsdOutRefIdeal m →
    θ_run (Cert.SsdOutRefIdeal.defs (F := Ideal)) (onTc (τ := Cert.SsdOutRefIdeal.τ) (Cert.SsdOutRefIdeal.main (F := Ideal))) ⟨m, fun _ => 0, g⟩ (fun r => (∀ c : Dev Cert.SsdOutRefIdeal.nD,
      r.2.mem ((c.tc : Thread Cert.SsdOutRefIdeal.nD Cert.SsdOutRefIdeal.τ).loc Cert.SsdOutRefIdeal.main_arg0) = m ((c.tc : Thread Cert.SsdOutRefIdeal.nD Cert.SsdOutRefIdeal.τ).loc Cert.SsdOutRefIdeal.main_arg0)
      ∧ r.2.mem ((c.tc : Thread Cert.SsdOutRefIdeal.nD Cert.SsdOutRefIdeal.τ).loc Cert.SsdOutRefIdeal.main_arg1) = m ((c.tc : Thread Cert.SsdOutRefIdeal.nD Cert.SsdOutRefIdeal.τ).loc Cert.SsdOutRefIdeal.main_arg1)
      ∧ r.2.mem ((c.tc : Thread Cert.SsdOutRefIdeal.nD Cert.SsdOutRefIdeal.τ).loc Cert.SsdOutRefIdeal.main_arg2) = m ((c.tc : Thread Cert.SsdOutRefIdeal.nD Cert.SsdOutRefIdeal.τ).loc Cert.SsdOutRefIdeal.main_arg2))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2))
      ∧ r.2.sem = fun _ => 0)

def quiescent_AttnOutRefIdeal [hAttnOutRefIdeal : Cert.AttnOutRefIdeal.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1)
      ∧ r.2.mem ((c.tc : Thread Cert.AttnOutRefIdeal.nD Cert.AttnOutRefIdeal.τ).loc Cert.AttnOutRefIdeal.main_arg2) = m ((c.tc : Thread Cert.AttnOutRefIdeal.nD Cert.AttnOutRefIdeal.τ).loc Cert.AttnOutRefIdeal.main_arg2))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4))
      ∧ r.2.sem = fun _ => 0)

def quiescent_FfnNext [hFfnNext : Cert.FfnNext.Facts] : Prop :=
  ∀ (m : (ℓ : Loc Cert.FfnNext.nD Cert.FfnNext.τ Cert.FfnNext.sig) → Buf (Elt Bits) ℓ) (g : Dev Cert.FfnNext.nD → PrngReg), Pre_FfnNext m →
    θ_run (Cert.FfnNext.defs (F := Bits)) (onTc (τ := Cert.FfnNext.τ) (Cert.FfnNext.main (F := Bits))) ⟨m, fun _ => 0, g⟩ (fun r => (∀ c : Dev Cert.FfnNext.nD,
      r.2.mem ((c.tc : Thread Cert.FfnNext.nD Cert.FfnNext.τ).loc Cert.FfnNext.main_arg0) = m ((c.tc : Thread Cert.FfnNext.nD Cert.FfnNext.τ).loc Cert.FfnNext.main_arg0)
      ∧ r.2.mem ((c.tc : Thread Cert.FfnNext.nD Cert.FfnNext.τ).loc Cert.FfnNext.main_arg1) = m ((c.tc : Thread Cert.FfnNext.nD Cert.FfnNext.τ).loc Cert.FfnNext.main_arg1)
      ∧ r.2.mem ((c.tc : Thread Cert.FfnNext.nD Cert.FfnNext.τ).loc Cert.FfnNext.main_arg2) = m ((c.tc : Thread Cert.FfnNext.nD Cert.FfnNext.τ).loc Cert.FfnNext.main_arg2)
      ∧ r.2.mem ((c.tc : Thread Cert.FfnNext.nD Cert.FfnNext.τ).loc Cert.FfnNext.main_arg3) = m ((c.tc : Thread Cert.FfnNext.nD Cert.FfnNext.τ).loc Cert.FfnNext.main_arg3)
      ∧ r.2.mem ((c.tc : Thread Cert.FfnNext.nD Cert.FfnNext.τ).loc Cert.FfnNext.main_arg4) = m ((c.tc : Thread Cert.FfnNext.nD Cert.FfnNext.τ).loc Cert.FfnNext.main_arg4)
      ∧ r.2.mem ((c.tc : Thread Cert.FfnNext.nD Cert.FfnNext.τ).loc Cert.FfnNext.main_arg5) = m ((c.tc : Thread Cert.FfnNext.nD Cert.FfnNext.τ).loc Cert.FfnNext.main_arg5))
      ∧ r.2.sem = fun _ => 0)

def quiescent_FfnNextIdeal [hFfnNextIdeal : Cert.FfnNextIdeal.Facts] : Prop :=
  ∀ (m : (ℓ : Loc Cert.FfnNextIdeal.nD Cert.FfnNextIdeal.τ Cert.FfnNextIdeal.sig) → Buf (Elt Ideal) ℓ) (g : Dev Cert.FfnNextIdeal.nD → PrngReg), Pre_FfnNextIdeal m →
    θ_run (Cert.FfnNextIdeal.defs (F := Ideal)) (onTc (τ := Cert.FfnNextIdeal.τ) (Cert.FfnNextIdeal.main (F := Ideal))) ⟨m, fun _ => 0, g⟩ (fun r => (∀ c : Dev Cert.FfnNextIdeal.nD,
      r.2.mem ((c.tc : Thread Cert.FfnNextIdeal.nD Cert.FfnNextIdeal.τ).loc Cert.FfnNextIdeal.main_arg0) = m ((c.tc : Thread Cert.FfnNextIdeal.nD Cert.FfnNextIdeal.τ).loc Cert.FfnNextIdeal.main_arg0)
      ∧ r.2.mem ((c.tc : Thread Cert.FfnNextIdeal.nD Cert.FfnNextIdeal.τ).loc Cert.FfnNextIdeal.main_arg1) = m ((c.tc : Thread Cert.FfnNextIdeal.nD Cert.FfnNextIdeal.τ).loc Cert.FfnNextIdeal.main_arg1)
      ∧ r.2.mem ((c.tc : Thread Cert.FfnNextIdeal.nD Cert.FfnNextIdeal.τ).loc Cert.FfnNextIdeal.main_arg2) = m ((c.tc : Thread Cert.FfnNextIdeal.nD Cert.FfnNextIdeal.τ).loc Cert.FfnNextIdeal.main_arg2)
      ∧ r.2.mem ((c.tc : Thread Cert.FfnNextIdeal.nD Cert.FfnNextIdeal.τ).loc Cert.FfnNextIdeal.main_arg3) = m ((c.tc : Thread Cert.FfnNextIdeal.nD Cert.FfnNextIdeal.τ).loc Cert.FfnNextIdeal.main_arg3)
      ∧ r.2.mem ((c.tc : Thread Cert.FfnNextIdeal.nD Cert.FfnNextIdeal.τ).loc Cert.FfnNextIdeal.main_arg4) = m ((c.tc : Thread Cert.FfnNextIdeal.nD Cert.FfnNextIdeal.τ).loc Cert.FfnNextIdeal.main_arg4)
      ∧ r.2.mem ((c.tc : Thread Cert.FfnNextIdeal.nD Cert.FfnNextIdeal.τ).loc Cert.FfnNextIdeal.main_arg5) = m ((c.tc : Thread Cert.FfnNextIdeal.nD Cert.FfnNextIdeal.τ).loc Cert.FfnNextIdeal.main_arg5))
      ∧ r.2.sem = fun _ => 0)

def quiescent_FfnNextIdeal_pre_finite_ffn_next [hFfnNextIdeal : Cert.FfnNextIdeal.Facts] [hPre_finite_ffn_next : Cert.Pre_finite_ffn_next.Facts] : Prop :=
  ∀ (m : (ℓ : Loc Cert.FfnNextIdeal.nD Cert.FfnNextIdeal.τ Cert.FfnNextIdeal.sig) → Buf (Elt Ideal) ℓ) (g : Dev Cert.FfnNextIdeal.nD → PrngReg), Pre_FfnNextIdeal_finite_ffn_next m →
    θ_run (Cert.FfnNextIdeal.defs (F := Ideal)) (onTc (τ := Cert.FfnNextIdeal.τ) (Cert.FfnNextIdeal.main (F := Ideal))) ⟨m, fun _ => 0, g⟩ (fun r => (∀ c : Dev Cert.FfnNextIdeal.nD,
      r.2.mem ((c.tc : Thread Cert.FfnNextIdeal.nD Cert.FfnNextIdeal.τ).loc Cert.FfnNextIdeal.main_arg0) = m ((c.tc : Thread Cert.FfnNextIdeal.nD Cert.FfnNextIdeal.τ).loc Cert.FfnNextIdeal.main_arg0)
      ∧ r.2.mem ((c.tc : Thread Cert.FfnNextIdeal.nD Cert.FfnNextIdeal.τ).loc Cert.FfnNextIdeal.main_arg1) = m ((c.tc : Thread Cert.FfnNextIdeal.nD Cert.FfnNextIdeal.τ).loc Cert.FfnNextIdeal.main_arg1)
      ∧ r.2.mem ((c.tc : Thread Cert.FfnNextIdeal.nD Cert.FfnNextIdeal.τ).loc Cert.FfnNextIdeal.main_arg2) = m ((c.tc : Thread Cert.FfnNextIdeal.nD Cert.FfnNextIdeal.τ).loc Cert.FfnNextIdeal.main_arg2)
      ∧ r.2.mem ((c.tc : Thread Cert.FfnNextIdeal.nD Cert.FfnNextIdeal.τ).loc Cert.FfnNextIdeal.main_arg3) = m ((c.tc : Thread Cert.FfnNextIdeal.nD Cert.FfnNextIdeal.τ).loc Cert.FfnNextIdeal.main_arg3)
      ∧ r.2.mem ((c.tc : Thread Cert.FfnNextIdeal.nD Cert.FfnNextIdeal.τ).loc Cert.FfnNextIdeal.main_arg4) = m ((c.tc : Thread Cert.FfnNextIdeal.nD Cert.FfnNextIdeal.τ).loc Cert.FfnNextIdeal.main_arg4)
      ∧ r.2.mem ((c.tc : Thread Cert.FfnNextIdeal.nD Cert.FfnNextIdeal.τ).loc Cert.FfnNextIdeal.main_arg5) = m ((c.tc : Thread Cert.FfnNextIdeal.nD Cert.FfnNextIdeal.τ).loc Cert.FfnNextIdeal.main_arg5))
      ∧ r.2.sem = fun _ => 0)

def quiescent_FfnNextRefIdeal [hFfnNextRefIdeal : Cert.FfnNextRefIdeal.Facts] : Prop :=
  ∀ (m : (ℓ : Loc Cert.FfnNextRefIdeal.nD Cert.FfnNextRefIdeal.τ Cert.FfnNextRefIdeal.sig) → Buf (Elt Ideal) ℓ) (g : Dev Cert.FfnNextRefIdeal.nD → PrngReg), Pre_FfnNextRefIdeal m →
    θ_run (Cert.FfnNextRefIdeal.defs (F := Ideal)) (onTc (τ := Cert.FfnNextRefIdeal.τ) (Cert.FfnNextRefIdeal.main (F := Ideal))) ⟨m, fun _ => 0, g⟩ (fun r => (∀ c : Dev Cert.FfnNextRefIdeal.nD,
      r.2.mem ((c.tc : Thread Cert.FfnNextRefIdeal.nD Cert.FfnNextRefIdeal.τ).loc Cert.FfnNextRefIdeal.main_arg0) = m ((c.tc : Thread Cert.FfnNextRefIdeal.nD Cert.FfnNextRefIdeal.τ).loc Cert.FfnNextRefIdeal.main_arg0)
      ∧ r.2.mem ((c.tc : Thread Cert.FfnNextRefIdeal.nD Cert.FfnNextRefIdeal.τ).loc Cert.FfnNextRefIdeal.main_arg1) = m ((c.tc : Thread Cert.FfnNextRefIdeal.nD Cert.FfnNextRefIdeal.τ).loc Cert.FfnNextRefIdeal.main_arg1)
      ∧ r.2.mem ((c.tc : Thread Cert.FfnNextRefIdeal.nD Cert.FfnNextRefIdeal.τ).loc Cert.FfnNextRefIdeal.main_arg2) = m ((c.tc : Thread Cert.FfnNextRefIdeal.nD Cert.FfnNextRefIdeal.τ).loc Cert.FfnNextRefIdeal.main_arg2)
      ∧ r.2.mem ((c.tc : Thread Cert.FfnNextRefIdeal.nD Cert.FfnNextRefIdeal.τ).loc Cert.FfnNextRefIdeal.main_arg3) = m ((c.tc : Thread Cert.FfnNextRefIdeal.nD Cert.FfnNextRefIdeal.τ).loc Cert.FfnNextRefIdeal.main_arg3)
      ∧ r.2.mem ((c.tc : Thread Cert.FfnNextRefIdeal.nD Cert.FfnNextRefIdeal.τ).loc Cert.FfnNextRefIdeal.main_arg4) = m ((c.tc : Thread Cert.FfnNextRefIdeal.nD Cert.FfnNextRefIdeal.τ).loc Cert.FfnNextRefIdeal.main_arg4)
      ∧ r.2.mem ((c.tc : Thread Cert.FfnNextRefIdeal.nD Cert.FfnNextRefIdeal.τ).loc Cert.FfnNextRefIdeal.main_arg5) = m ((c.tc : Thread Cert.FfnNextRefIdeal.nD Cert.FfnNextRefIdeal.τ).loc Cert.FfnNextRefIdeal.main_arg5))
      ∧ r.2.sem = fun _ => 0)

def quiescent_FfnNextRefIdeal_pre_finite_ffn_next [hFfnNextRefIdeal : Cert.FfnNextRefIdeal.Facts] [hPre_finite_ffn_next : Cert.Pre_finite_ffn_next.Facts] : Prop :=
  ∀ (m : (ℓ : Loc Cert.FfnNextRefIdeal.nD Cert.FfnNextRefIdeal.τ Cert.FfnNextRefIdeal.sig) → Buf (Elt Ideal) ℓ) (g : Dev Cert.FfnNextRefIdeal.nD → PrngReg), Pre_FfnNextRefIdeal_finite_ffn_next m →
    θ_run (Cert.FfnNextRefIdeal.defs (F := Ideal)) (onTc (τ := Cert.FfnNextRefIdeal.τ) (Cert.FfnNextRefIdeal.main (F := Ideal))) ⟨m, fun _ => 0, g⟩ (fun r => (∀ c : Dev Cert.FfnNextRefIdeal.nD,
      r.2.mem ((c.tc : Thread Cert.FfnNextRefIdeal.nD Cert.FfnNextRefIdeal.τ).loc Cert.FfnNextRefIdeal.main_arg0) = m ((c.tc : Thread Cert.FfnNextRefIdeal.nD Cert.FfnNextRefIdeal.τ).loc Cert.FfnNextRefIdeal.main_arg0)
      ∧ r.2.mem ((c.tc : Thread Cert.FfnNextRefIdeal.nD Cert.FfnNextRefIdeal.τ).loc Cert.FfnNextRefIdeal.main_arg1) = m ((c.tc : Thread Cert.FfnNextRefIdeal.nD Cert.FfnNextRefIdeal.τ).loc Cert.FfnNextRefIdeal.main_arg1)
      ∧ r.2.mem ((c.tc : Thread Cert.FfnNextRefIdeal.nD Cert.FfnNextRefIdeal.τ).loc Cert.FfnNextRefIdeal.main_arg2) = m ((c.tc : Thread Cert.FfnNextRefIdeal.nD Cert.FfnNextRefIdeal.τ).loc Cert.FfnNextRefIdeal.main_arg2)
      ∧ r.2.mem ((c.tc : Thread Cert.FfnNextRefIdeal.nD Cert.FfnNextRefIdeal.τ).loc Cert.FfnNextRefIdeal.main_arg3) = m ((c.tc : Thread Cert.FfnNextRefIdeal.nD Cert.FfnNextRefIdeal.τ).loc Cert.FfnNextRefIdeal.main_arg3)
      ∧ r.2.mem ((c.tc : Thread Cert.FfnNextRefIdeal.nD Cert.FfnNextRefIdeal.τ).loc Cert.FfnNextRefIdeal.main_arg4) = m ((c.tc : Thread Cert.FfnNextRefIdeal.nD Cert.FfnNextRefIdeal.τ).loc Cert.FfnNextRefIdeal.main_arg4)
      ∧ r.2.mem ((c.tc : Thread Cert.FfnNextRefIdeal.nD Cert.FfnNextRefIdeal.τ).loc Cert.FfnNextRefIdeal.main_arg5) = m ((c.tc : Thread Cert.FfnNextRefIdeal.nD Cert.FfnNextRefIdeal.τ).loc Cert.FfnNextRefIdeal.main_arg5))
      ∧ r.2.sem = fun _ => 0)

def quiescent_FfnAttn [hFfnAttn : Cert.FfnAttn.Facts] : Prop :=
  ∀ (m : (ℓ : Loc Cert.FfnAttn.nD Cert.FfnAttn.τ Cert.FfnAttn.sig) → Buf (Elt Bits) ℓ) (g : Dev Cert.FfnAttn.nD → PrngReg), Pre_FfnAttn m →
    θ_run (Cert.FfnAttn.defs (F := Bits)) (onTc (τ := Cert.FfnAttn.τ) (Cert.FfnAttn.main (F := Bits))) ⟨m, fun _ => 0, g⟩ (fun r => (∀ c : Dev Cert.FfnAttn.nD,
      r.2.mem ((c.tc : Thread Cert.FfnAttn.nD Cert.FfnAttn.τ).loc Cert.FfnAttn.main_arg0) = m ((c.tc : Thread Cert.FfnAttn.nD Cert.FfnAttn.τ).loc Cert.FfnAttn.main_arg0)
      ∧ r.2.mem ((c.tc : Thread Cert.FfnAttn.nD Cert.FfnAttn.τ).loc Cert.FfnAttn.main_arg1) = m ((c.tc : Thread Cert.FfnAttn.nD Cert.FfnAttn.τ).loc Cert.FfnAttn.main_arg1)
      ∧ r.2.mem ((c.tc : Thread Cert.FfnAttn.nD Cert.FfnAttn.τ).loc Cert.FfnAttn.main_arg2) = m ((c.tc : Thread Cert.FfnAttn.nD Cert.FfnAttn.τ).loc Cert.FfnAttn.main_arg2)
      ∧ r.2.mem ((c.tc : Thread Cert.FfnAttn.nD Cert.FfnAttn.τ).loc Cert.FfnAttn.main_arg3) = m ((c.tc : Thread Cert.FfnAttn.nD Cert.FfnAttn.τ).loc Cert.FfnAttn.main_arg3)
      ∧ r.2.mem ((c.tc : Thread Cert.FfnAttn.nD Cert.FfnAttn.τ).loc Cert.FfnAttn.main_arg4) = m ((c.tc : Thread Cert.FfnAttn.nD Cert.FfnAttn.τ).loc Cert.FfnAttn.main_arg4)
      ∧ r.2.mem ((c.tc : Thread Cert.FfnAttn.nD Cert.FfnAttn.τ).loc Cert.FfnAttn.main_arg5) = m ((c.tc : Thread Cert.FfnAttn.nD Cert.FfnAttn.τ).loc Cert.FfnAttn.main_arg5)
      ∧ r.2.mem ((c.tc : Thread Cert.FfnAttn.nD Cert.FfnAttn.τ).loc Cert.FfnAttn.main_arg6) = m ((c.tc : Thread Cert.FfnAttn.nD Cert.FfnAttn.τ).loc Cert.FfnAttn.main_arg6)
      ∧ r.2.mem ((c.tc : Thread Cert.FfnAttn.nD Cert.FfnAttn.τ).loc Cert.FfnAttn.main_arg7) = m ((c.tc : Thread Cert.FfnAttn.nD Cert.FfnAttn.τ).loc Cert.FfnAttn.main_arg7))
      ∧ r.2.sem = fun _ => 0)

def quiescent_FfnAttnIdeal [hFfnAttnIdeal : Cert.FfnAttnIdeal.Facts] : Prop :=
  ∀ (m : (ℓ : Loc Cert.FfnAttnIdeal.nD Cert.FfnAttnIdeal.τ Cert.FfnAttnIdeal.sig) → Buf (Elt Ideal) ℓ) (g : Dev Cert.FfnAttnIdeal.nD → PrngReg), Pre_FfnAttnIdeal m →
    θ_run (Cert.FfnAttnIdeal.defs (F := Ideal)) (onTc (τ := Cert.FfnAttnIdeal.τ) (Cert.FfnAttnIdeal.main (F := Ideal))) ⟨m, fun _ => 0, g⟩ (fun r => (∀ c : Dev Cert.FfnAttnIdeal.nD,
      r.2.mem ((c.tc : Thread Cert.FfnAttnIdeal.nD Cert.FfnAttnIdeal.τ).loc Cert.FfnAttnIdeal.main_arg0) = m ((c.tc : Thread Cert.FfnAttnIdeal.nD Cert.FfnAttnIdeal.τ).loc Cert.FfnAttnIdeal.main_arg0)
      ∧ r.2.mem ((c.tc : Thread Cert.FfnAttnIdeal.nD Cert.FfnAttnIdeal.τ).loc Cert.FfnAttnIdeal.main_arg1) = m ((c.tc : Thread Cert.FfnAttnIdeal.nD Cert.FfnAttnIdeal.τ).loc Cert.FfnAttnIdeal.main_arg1)
      ∧ r.2.mem ((c.tc : Thread Cert.FfnAttnIdeal.nD Cert.FfnAttnIdeal.τ).loc Cert.FfnAttnIdeal.main_arg2) = m ((c.tc : Thread Cert.FfnAttnIdeal.nD Cert.FfnAttnIdeal.τ).loc Cert.FfnAttnIdeal.main_arg2)
      ∧ r.2.mem ((c.tc : Thread Cert.FfnAttnIdeal.nD Cert.FfnAttnIdeal.τ).loc Cert.FfnAttnIdeal.main_arg3) = m ((c.tc : Thread Cert.FfnAttnIdeal.nD Cert.FfnAttnIdeal.τ).loc Cert.FfnAttnIdeal.main_arg3)
      ∧ r.2.mem ((c.tc : Thread Cert.FfnAttnIdeal.nD Cert.FfnAttnIdeal.τ).loc Cert.FfnAttnIdeal.main_arg4) = m ((c.tc : Thread Cert.FfnAttnIdeal.nD Cert.FfnAttnIdeal.τ).loc Cert.FfnAttnIdeal.main_arg4)
      ∧ r.2.mem ((c.tc : Thread Cert.FfnAttnIdeal.nD Cert.FfnAttnIdeal.τ).loc Cert.FfnAttnIdeal.main_arg5) = m ((c.tc : Thread Cert.FfnAttnIdeal.nD Cert.FfnAttnIdeal.τ).loc Cert.FfnAttnIdeal.main_arg5)
      ∧ r.2.mem ((c.tc : Thread Cert.FfnAttnIdeal.nD Cert.FfnAttnIdeal.τ).loc Cert.FfnAttnIdeal.main_arg6) = m ((c.tc : Thread Cert.FfnAttnIdeal.nD Cert.FfnAttnIdeal.τ).loc Cert.FfnAttnIdeal.main_arg6)
      ∧ r.2.mem ((c.tc : Thread Cert.FfnAttnIdeal.nD Cert.FfnAttnIdeal.τ).loc Cert.FfnAttnIdeal.main_arg7) = m ((c.tc : Thread Cert.FfnAttnIdeal.nD Cert.FfnAttnIdeal.τ).loc Cert.FfnAttnIdeal.main_arg7))
      ∧ r.2.sem = fun _ => 0)

def quiescent_FfnAttnIdeal_pre_finite_ffn_attn [hFfnAttnIdeal : Cert.FfnAttnIdeal.Facts] [hPre_finite_ffn_attn : Cert.Pre_finite_ffn_attn.Facts] : Prop :=
  ∀ (m : (ℓ : Loc Cert.FfnAttnIdeal.nD Cert.FfnAttnIdeal.τ Cert.FfnAttnIdeal.sig) → Buf (Elt Ideal) ℓ) (g : Dev Cert.FfnAttnIdeal.nD → PrngReg), Pre_FfnAttnIdeal_finite_ffn_attn m →
    θ_run (Cert.FfnAttnIdeal.defs (F := Ideal)) (onTc (τ := Cert.FfnAttnIdeal.τ) (Cert.FfnAttnIdeal.main (F := Ideal))) ⟨m, fun _ => 0, g⟩ (fun r => (∀ c : Dev Cert.FfnAttnIdeal.nD,
      r.2.mem ((c.tc : Thread Cert.FfnAttnIdeal.nD Cert.FfnAttnIdeal.τ).loc Cert.FfnAttnIdeal.main_arg0) = m ((c.tc : Thread Cert.FfnAttnIdeal.nD Cert.FfnAttnIdeal.τ).loc Cert.FfnAttnIdeal.main_arg0)
      ∧ r.2.mem ((c.tc : Thread Cert.FfnAttnIdeal.nD Cert.FfnAttnIdeal.τ).loc Cert.FfnAttnIdeal.main_arg1) = m ((c.tc : Thread Cert.FfnAttnIdeal.nD Cert.FfnAttnIdeal.τ).loc Cert.FfnAttnIdeal.main_arg1)
      ∧ r.2.mem ((c.tc : Thread Cert.FfnAttnIdeal.nD Cert.FfnAttnIdeal.τ).loc Cert.FfnAttnIdeal.main_arg2) = m ((c.tc : Thread Cert.FfnAttnIdeal.nD Cert.FfnAttnIdeal.τ).loc Cert.FfnAttnIdeal.main_arg2)
      ∧ r.2.mem ((c.tc : Thread Cert.FfnAttnIdeal.nD Cert.FfnAttnIdeal.τ).loc Cert.FfnAttnIdeal.main_arg3) = m ((c.tc : Thread Cert.FfnAttnIdeal.nD Cert.FfnAttnIdeal.τ).loc Cert.FfnAttnIdeal.main_arg3)
      ∧ r.2.mem ((c.tc : Thread Cert.FfnAttnIdeal.nD Cert.FfnAttnIdeal.τ).loc Cert.FfnAttnIdeal.main_arg4) = m ((c.tc : Thread Cert.FfnAttnIdeal.nD Cert.FfnAttnIdeal.τ).loc Cert.FfnAttnIdeal.main_arg4)
      ∧ r.2.mem ((c.tc : Thread Cert.FfnAttnIdeal.nD Cert.FfnAttnIdeal.τ).loc Cert.FfnAttnIdeal.main_arg5) = m ((c.tc : Thread Cert.FfnAttnIdeal.nD Cert.FfnAttnIdeal.τ).loc Cert.FfnAttnIdeal.main_arg5)
      ∧ r.2.mem ((c.tc : Thread Cert.FfnAttnIdeal.nD Cert.FfnAttnIdeal.τ).loc Cert.FfnAttnIdeal.main_arg6) = m ((c.tc : Thread Cert.FfnAttnIdeal.nD Cert.FfnAttnIdeal.τ).loc Cert.FfnAttnIdeal.main_arg6)
      ∧ r.2.mem ((c.tc : Thread Cert.FfnAttnIdeal.nD Cert.FfnAttnIdeal.τ).loc Cert.FfnAttnIdeal.main_arg7) = m ((c.tc : Thread Cert.FfnAttnIdeal.nD Cert.FfnAttnIdeal.τ).loc Cert.FfnAttnIdeal.main_arg7))
      ∧ r.2.sem = fun _ => 0)

def quiescent_FfnAttnRefIdeal [hFfnAttnRefIdeal : Cert.FfnAttnRefIdeal.Facts] : Prop :=
  ∀ (m : (ℓ : Loc Cert.FfnAttnRefIdeal.nD Cert.FfnAttnRefIdeal.τ Cert.FfnAttnRefIdeal.sig) → Buf (Elt Ideal) ℓ) (g : Dev Cert.FfnAttnRefIdeal.nD → PrngReg), Pre_FfnAttnRefIdeal m →
    θ_run (Cert.FfnAttnRefIdeal.defs (F := Ideal)) (onTc (τ := Cert.FfnAttnRefIdeal.τ) (Cert.FfnAttnRefIdeal.main (F := Ideal))) ⟨m, fun _ => 0, g⟩ (fun r => (∀ c : Dev Cert.FfnAttnRefIdeal.nD,
      r.2.mem ((c.tc : Thread Cert.FfnAttnRefIdeal.nD Cert.FfnAttnRefIdeal.τ).loc Cert.FfnAttnRefIdeal.main_arg0) = m ((c.tc : Thread Cert.FfnAttnRefIdeal.nD Cert.FfnAttnRefIdeal.τ).loc Cert.FfnAttnRefIdeal.main_arg0)
      ∧ r.2.mem ((c.tc : Thread Cert.FfnAttnRefIdeal.nD Cert.FfnAttnRefIdeal.τ).loc Cert.FfnAttnRefIdeal.main_arg1) = m ((c.tc : Thread Cert.FfnAttnRefIdeal.nD Cert.FfnAttnRefIdeal.τ).loc Cert.FfnAttnRefIdeal.main_arg1)
      ∧ r.2.mem ((c.tc : Thread Cert.FfnAttnRefIdeal.nD Cert.FfnAttnRefIdeal.τ).loc Cert.FfnAttnRefIdeal.main_arg2) = m ((c.tc : Thread Cert.FfnAttnRefIdeal.nD Cert.FfnAttnRefIdeal.τ).loc Cert.FfnAttnRefIdeal.main_arg2)
      ∧ r.2.mem ((c.tc : Thread Cert.FfnAttnRefIdeal.nD Cert.FfnAttnRefIdeal.τ).loc Cert.FfnAttnRefIdeal.main_arg3) = m ((c.tc : Thread Cert.FfnAttnRefIdeal.nD Cert.FfnAttnRefIdeal.τ).loc Cert.FfnAttnRefIdeal.main_arg3)
      ∧ r.2.mem ((c.tc : Thread Cert.FfnAttnRefIdeal.nD Cert.FfnAttnRefIdeal.τ).loc Cert.FfnAttnRefIdeal.main_arg4) = m ((c.tc : Thread Cert.FfnAttnRefIdeal.nD Cert.FfnAttnRefIdeal.τ).loc Cert.FfnAttnRefIdeal.main_arg4)
      ∧ r.2.mem ((c.tc : Thread Cert.FfnAttnRefIdeal.nD Cert.FfnAttnRefIdeal.τ).loc Cert.FfnAttnRefIdeal.main_arg5) = m ((c.tc : Thread Cert.FfnAttnRefIdeal.nD Cert.FfnAttnRefIdeal.τ).loc Cert.FfnAttnRefIdeal.main_arg5)
      ∧ r.2.mem ((c.tc : Thread Cert.FfnAttnRefIdeal.nD Cert.FfnAttnRefIdeal.τ).loc Cert.FfnAttnRefIdeal.main_arg6) = m ((c.tc : Thread Cert.FfnAttnRefIdeal.nD Cert.FfnAttnRefIdeal.τ).loc Cert.FfnAttnRefIdeal.main_arg6)
      ∧ r.2.mem ((c.tc : Thread Cert.FfnAttnRefIdeal.nD Cert.FfnAttnRefIdeal.τ).loc Cert.FfnAttnRefIdeal.main_arg7) = m ((c.tc : Thread Cert.FfnAttnRefIdeal.nD Cert.FfnAttnRefIdeal.τ).loc Cert.FfnAttnRefIdeal.main_arg7))
      ∧ r.2.sem = fun _ => 0)

def quiescent_FfnAttnRefIdeal_pre_finite_ffn_attn [hFfnAttnRefIdeal : Cert.FfnAttnRefIdeal.Facts] [hPre_finite_ffn_attn : Cert.Pre_finite_ffn_attn.Facts] : Prop :=
  ∀ (m : (ℓ : Loc Cert.FfnAttnRefIdeal.nD Cert.FfnAttnRefIdeal.τ Cert.FfnAttnRefIdeal.sig) → Buf (Elt Ideal) ℓ) (g : Dev Cert.FfnAttnRefIdeal.nD → PrngReg), Pre_FfnAttnRefIdeal_finite_ffn_attn m →
    θ_run (Cert.FfnAttnRefIdeal.defs (F := Ideal)) (onTc (τ := Cert.FfnAttnRefIdeal.τ) (Cert.FfnAttnRefIdeal.main (F := Ideal))) ⟨m, fun _ => 0, g⟩ (fun r => (∀ c : Dev Cert.FfnAttnRefIdeal.nD,
      r.2.mem ((c.tc : Thread Cert.FfnAttnRefIdeal.nD Cert.FfnAttnRefIdeal.τ).loc Cert.FfnAttnRefIdeal.main_arg0) = m ((c.tc : Thread Cert.FfnAttnRefIdeal.nD Cert.FfnAttnRefIdeal.τ).loc Cert.FfnAttnRefIdeal.main_arg0)
      ∧ r.2.mem ((c.tc : Thread Cert.FfnAttnRefIdeal.nD Cert.FfnAttnRefIdeal.τ).loc Cert.FfnAttnRefIdeal.main_arg1) = m ((c.tc : Thread Cert.FfnAttnRefIdeal.nD Cert.FfnAttnRefIdeal.τ).loc Cert.FfnAttnRefIdeal.main_arg1)
      ∧ r.2.mem ((c.tc : Thread Cert.FfnAttnRefIdeal.nD Cert.FfnAttnRefIdeal.τ).loc Cert.FfnAttnRefIdeal.main_arg2) = m ((c.tc : Thread Cert.FfnAttnRefIdeal.nD Cert.FfnAttnRefIdeal.τ).loc Cert.FfnAttnRefIdeal.main_arg2)
      ∧ r.2.mem ((c.tc : Thread Cert.FfnAttnRefIdeal.nD Cert.FfnAttnRefIdeal.τ).loc Cert.FfnAttnRefIdeal.main_arg3) = m ((c.tc : Thread Cert.FfnAttnRefIdeal.nD Cert.FfnAttnRefIdeal.τ).loc Cert.FfnAttnRefIdeal.main_arg3)
      ∧ r.2.mem ((c.tc : Thread Cert.FfnAttnRefIdeal.nD Cert.FfnAttnRefIdeal.τ).loc Cert.FfnAttnRefIdeal.main_arg4) = m ((c.tc : Thread Cert.FfnAttnRefIdeal.nD Cert.FfnAttnRefIdeal.τ).loc Cert.FfnAttnRefIdeal.main_arg4)
      ∧ r.2.mem ((c.tc : Thread Cert.FfnAttnRefIdeal.nD Cert.FfnAttnRefIdeal.τ).loc Cert.FfnAttnRefIdeal.main_arg5) = m ((c.tc : Thread Cert.FfnAttnRefIdeal.nD Cert.FfnAttnRefIdeal.τ).loc Cert.FfnAttnRefIdeal.main_arg5)
      ∧ r.2.mem ((c.tc : Thread Cert.FfnAttnRefIdeal.nD Cert.FfnAttnRefIdeal.τ).loc Cert.FfnAttnRefIdeal.main_arg6) = m ((c.tc : Thread Cert.FfnAttnRefIdeal.nD Cert.FfnAttnRefIdeal.τ).loc Cert.FfnAttnRefIdeal.main_arg6)
      ∧ r.2.mem ((c.tc : Thread Cert.FfnAttnRefIdeal.nD Cert.FfnAttnRefIdeal.τ).loc Cert.FfnAttnRefIdeal.main_arg7) = m ((c.tc : Thread Cert.FfnAttnRefIdeal.nD Cert.FfnAttnRefIdeal.τ).loc Cert.FfnAttnRefIdeal.main_arg7))
      ∧ r.2.sem = fun _ => 0)

def quiescent_FfnSsd [hFfnSsd : Cert.FfnSsd.Facts] : Prop :=
  ∀ (m : (ℓ : Loc Cert.FfnSsd.nD Cert.FfnSsd.τ Cert.FfnSsd.sig) → Buf (Elt Bits) ℓ) (g : Dev Cert.FfnSsd.nD → PrngReg), Pre_FfnSsd m →
    θ_run (Cert.FfnSsd.defs (F := Bits)) (onTc (τ := Cert.FfnSsd.τ) (Cert.FfnSsd.main (F := Bits))) ⟨m, fun _ => 0, g⟩ (fun r => (∀ c : Dev Cert.FfnSsd.nD,
      r.2.mem ((c.tc : Thread Cert.FfnSsd.nD Cert.FfnSsd.τ).loc Cert.FfnSsd.main_arg0) = m ((c.tc : Thread Cert.FfnSsd.nD Cert.FfnSsd.τ).loc Cert.FfnSsd.main_arg0)
      ∧ r.2.mem ((c.tc : Thread Cert.FfnSsd.nD Cert.FfnSsd.τ).loc Cert.FfnSsd.main_arg1) = m ((c.tc : Thread Cert.FfnSsd.nD Cert.FfnSsd.τ).loc Cert.FfnSsd.main_arg1)
      ∧ r.2.mem ((c.tc : Thread Cert.FfnSsd.nD Cert.FfnSsd.τ).loc Cert.FfnSsd.main_arg2) = m ((c.tc : Thread Cert.FfnSsd.nD Cert.FfnSsd.τ).loc Cert.FfnSsd.main_arg2)
      ∧ r.2.mem ((c.tc : Thread Cert.FfnSsd.nD Cert.FfnSsd.τ).loc Cert.FfnSsd.main_arg3) = m ((c.tc : Thread Cert.FfnSsd.nD Cert.FfnSsd.τ).loc Cert.FfnSsd.main_arg3)
      ∧ r.2.mem ((c.tc : Thread Cert.FfnSsd.nD Cert.FfnSsd.τ).loc Cert.FfnSsd.main_arg4) = m ((c.tc : Thread Cert.FfnSsd.nD Cert.FfnSsd.τ).loc Cert.FfnSsd.main_arg4)
      ∧ r.2.mem ((c.tc : Thread Cert.FfnSsd.nD Cert.FfnSsd.τ).loc Cert.FfnSsd.main_arg5) = m ((c.tc : Thread Cert.FfnSsd.nD Cert.FfnSsd.τ).loc Cert.FfnSsd.main_arg5)
      ∧ r.2.mem ((c.tc : Thread Cert.FfnSsd.nD Cert.FfnSsd.τ).loc Cert.FfnSsd.main_arg6) = m ((c.tc : Thread Cert.FfnSsd.nD Cert.FfnSsd.τ).loc Cert.FfnSsd.main_arg6)
      ∧ r.2.mem ((c.tc : Thread Cert.FfnSsd.nD Cert.FfnSsd.τ).loc Cert.FfnSsd.main_arg7) = m ((c.tc : Thread Cert.FfnSsd.nD Cert.FfnSsd.τ).loc Cert.FfnSsd.main_arg7))
      ∧ r.2.sem = fun _ => 0)

def quiescent_FfnSsdIdeal [hFfnSsdIdeal : Cert.FfnSsdIdeal.Facts] : Prop :=
  ∀ (m : (ℓ : Loc Cert.FfnSsdIdeal.nD Cert.FfnSsdIdeal.τ Cert.FfnSsdIdeal.sig) → Buf (Elt Ideal) ℓ) (g : Dev Cert.FfnSsdIdeal.nD → PrngReg), Pre_FfnSsdIdeal m →
    θ_run (Cert.FfnSsdIdeal.defs (F := Ideal)) (onTc (τ := Cert.FfnSsdIdeal.τ) (Cert.FfnSsdIdeal.main (F := Ideal))) ⟨m, fun _ => 0, g⟩ (fun r => (∀ c : Dev Cert.FfnSsdIdeal.nD,
      r.2.mem ((c.tc : Thread Cert.FfnSsdIdeal.nD Cert.FfnSsdIdeal.τ).loc Cert.FfnSsdIdeal.main_arg0) = m ((c.tc : Thread Cert.FfnSsdIdeal.nD Cert.FfnSsdIdeal.τ).loc Cert.FfnSsdIdeal.main_arg0)
      ∧ r.2.mem ((c.tc : Thread Cert.FfnSsdIdeal.nD Cert.FfnSsdIdeal.τ).loc Cert.FfnSsdIdeal.main_arg1) = m ((c.tc : Thread Cert.FfnSsdIdeal.nD Cert.FfnSsdIdeal.τ).loc Cert.FfnSsdIdeal.main_arg1)
      ∧ r.2.mem ((c.tc : Thread Cert.FfnSsdIdeal.nD Cert.FfnSsdIdeal.τ).loc Cert.FfnSsdIdeal.main_arg2) = m ((c.tc : Thread Cert.FfnSsdIdeal.nD Cert.FfnSsdIdeal.τ).loc Cert.FfnSsdIdeal.main_arg2)
      ∧ r.2.mem ((c.tc : Thread Cert.FfnSsdIdeal.nD Cert.FfnSsdIdeal.τ).loc Cert.FfnSsdIdeal.main_arg3) = m ((c.tc : Thread Cert.FfnSsdIdeal.nD Cert.FfnSsdIdeal.τ).loc Cert.FfnSsdIdeal.main_arg3)
      ∧ r.2.mem ((c.tc : Thread Cert.FfnSsdIdeal.nD Cert.FfnSsdIdeal.τ).loc Cert.FfnSsdIdeal.main_arg4) = m ((c.tc : Thread Cert.FfnSsdIdeal.nD Cert.FfnSsdIdeal.τ).loc Cert.FfnSsdIdeal.main_arg4)
      ∧ r.2.mem ((c.tc : Thread Cert.FfnSsdIdeal.nD Cert.FfnSsdIdeal.τ).loc Cert.FfnSsdIdeal.main_arg5) = m ((c.tc : Thread Cert.FfnSsdIdeal.nD Cert.FfnSsdIdeal.τ).loc Cert.FfnSsdIdeal.main_arg5)
      ∧ r.2.mem ((c.tc : Thread Cert.FfnSsdIdeal.nD Cert.FfnSsdIdeal.τ).loc Cert.FfnSsdIdeal.main_arg6) = m ((c.tc : Thread Cert.FfnSsdIdeal.nD Cert.FfnSsdIdeal.τ).loc Cert.FfnSsdIdeal.main_arg6)
      ∧ r.2.mem ((c.tc : Thread Cert.FfnSsdIdeal.nD Cert.FfnSsdIdeal.τ).loc Cert.FfnSsdIdeal.main_arg7) = m ((c.tc : Thread Cert.FfnSsdIdeal.nD Cert.FfnSsdIdeal.τ).loc Cert.FfnSsdIdeal.main_arg7))
      ∧ r.2.sem = fun _ => 0)

def quiescent_FfnSsdIdeal_pre_finite_ffn_ssd [hFfnSsdIdeal : Cert.FfnSsdIdeal.Facts] [hPre_finite_ffn_ssd : Cert.Pre_finite_ffn_ssd.Facts] : Prop :=
  ∀ (m : (ℓ : Loc Cert.FfnSsdIdeal.nD Cert.FfnSsdIdeal.τ Cert.FfnSsdIdeal.sig) → Buf (Elt Ideal) ℓ) (g : Dev Cert.FfnSsdIdeal.nD → PrngReg), Pre_FfnSsdIdeal_finite_ffn_ssd m →
    θ_run (Cert.FfnSsdIdeal.defs (F := Ideal)) (onTc (τ := Cert.FfnSsdIdeal.τ) (Cert.FfnSsdIdeal.main (F := Ideal))) ⟨m, fun _ => 0, g⟩ (fun r => (∀ c : Dev Cert.FfnSsdIdeal.nD,
      r.2.mem ((c.tc : Thread Cert.FfnSsdIdeal.nD Cert.FfnSsdIdeal.τ).loc Cert.FfnSsdIdeal.main_arg0) = m ((c.tc : Thread Cert.FfnSsdIdeal.nD Cert.FfnSsdIdeal.τ).loc Cert.FfnSsdIdeal.main_arg0)
      ∧ r.2.mem ((c.tc : Thread Cert.FfnSsdIdeal.nD Cert.FfnSsdIdeal.τ).loc Cert.FfnSsdIdeal.main_arg1) = m ((c.tc : Thread Cert.FfnSsdIdeal.nD Cert.FfnSsdIdeal.τ).loc Cert.FfnSsdIdeal.main_arg1)
      ∧ r.2.mem ((c.tc : Thread Cert.FfnSsdIdeal.nD Cert.FfnSsdIdeal.τ).loc Cert.FfnSsdIdeal.main_arg2) = m ((c.tc : Thread Cert.FfnSsdIdeal.nD Cert.FfnSsdIdeal.τ).loc Cert.FfnSsdIdeal.main_arg2)
      ∧ r.2.mem ((c.tc : Thread Cert.FfnSsdIdeal.nD Cert.FfnSsdIdeal.τ).loc Cert.FfnSsdIdeal.main_arg3) = m ((c.tc : Thread Cert.FfnSsdIdeal.nD Cert.FfnSsdIdeal.τ).loc Cert.FfnSsdIdeal.main_arg3)
      ∧ r.2.mem ((c.tc : Thread Cert.FfnSsdIdeal.nD Cert.FfnSsdIdeal.τ).loc Cert.FfnSsdIdeal.main_arg4) = m ((c.tc : Thread Cert.FfnSsdIdeal.nD Cert.FfnSsdIdeal.τ).loc Cert.FfnSsdIdeal.main_arg4)
      ∧ r.2.mem ((c.tc : Thread Cert.FfnSsdIdeal.nD Cert.FfnSsdIdeal.τ).loc Cert.FfnSsdIdeal.main_arg5) = m ((c.tc : Thread Cert.FfnSsdIdeal.nD Cert.FfnSsdIdeal.τ).loc Cert.FfnSsdIdeal.main_arg5)
      ∧ r.2.mem ((c.tc : Thread Cert.FfnSsdIdeal.nD Cert.FfnSsdIdeal.τ).loc Cert.FfnSsdIdeal.main_arg6) = m ((c.tc : Thread Cert.FfnSsdIdeal.nD Cert.FfnSsdIdeal.τ).loc Cert.FfnSsdIdeal.main_arg6)
      ∧ r.2.mem ((c.tc : Thread Cert.FfnSsdIdeal.nD Cert.FfnSsdIdeal.τ).loc Cert.FfnSsdIdeal.main_arg7) = m ((c.tc : Thread Cert.FfnSsdIdeal.nD Cert.FfnSsdIdeal.τ).loc Cert.FfnSsdIdeal.main_arg7))
      ∧ r.2.sem = fun _ => 0)

def quiescent_FfnSsdRefIdeal [hFfnSsdRefIdeal : Cert.FfnSsdRefIdeal.Facts] : Prop :=
  ∀ (m : (ℓ : Loc Cert.FfnSsdRefIdeal.nD Cert.FfnSsdRefIdeal.τ Cert.FfnSsdRefIdeal.sig) → Buf (Elt Ideal) ℓ) (g : Dev Cert.FfnSsdRefIdeal.nD → PrngReg), Pre_FfnSsdRefIdeal m →
    θ_run (Cert.FfnSsdRefIdeal.defs (F := Ideal)) (onTc (τ := Cert.FfnSsdRefIdeal.τ) (Cert.FfnSsdRefIdeal.main (F := Ideal))) ⟨m, fun _ => 0, g⟩ (fun r => (∀ c : Dev Cert.FfnSsdRefIdeal.nD,
      r.2.mem ((c.tc : Thread Cert.FfnSsdRefIdeal.nD Cert.FfnSsdRefIdeal.τ).loc Cert.FfnSsdRefIdeal.main_arg0) = m ((c.tc : Thread Cert.FfnSsdRefIdeal.nD Cert.FfnSsdRefIdeal.τ).loc Cert.FfnSsdRefIdeal.main_arg0)
      ∧ r.2.mem ((c.tc : Thread Cert.FfnSsdRefIdeal.nD Cert.FfnSsdRefIdeal.τ).loc Cert.FfnSsdRefIdeal.main_arg1) = m ((c.tc : Thread Cert.FfnSsdRefIdeal.nD Cert.FfnSsdRefIdeal.τ).loc Cert.FfnSsdRefIdeal.main_arg1)
      ∧ r.2.mem ((c.tc : Thread Cert.FfnSsdRefIdeal.nD Cert.FfnSsdRefIdeal.τ).loc Cert.FfnSsdRefIdeal.main_arg2) = m ((c.tc : Thread Cert.FfnSsdRefIdeal.nD Cert.FfnSsdRefIdeal.τ).loc Cert.FfnSsdRefIdeal.main_arg2)
      ∧ r.2.mem ((c.tc : Thread Cert.FfnSsdRefIdeal.nD Cert.FfnSsdRefIdeal.τ).loc Cert.FfnSsdRefIdeal.main_arg3) = m ((c.tc : Thread Cert.FfnSsdRefIdeal.nD Cert.FfnSsdRefIdeal.τ).loc Cert.FfnSsdRefIdeal.main_arg3)
      ∧ r.2.mem ((c.tc : Thread Cert.FfnSsdRefIdeal.nD Cert.FfnSsdRefIdeal.τ).loc Cert.FfnSsdRefIdeal.main_arg4) = m ((c.tc : Thread Cert.FfnSsdRefIdeal.nD Cert.FfnSsdRefIdeal.τ).loc Cert.FfnSsdRefIdeal.main_arg4)
      ∧ r.2.mem ((c.tc : Thread Cert.FfnSsdRefIdeal.nD Cert.FfnSsdRefIdeal.τ).loc Cert.FfnSsdRefIdeal.main_arg5) = m ((c.tc : Thread Cert.FfnSsdRefIdeal.nD Cert.FfnSsdRefIdeal.τ).loc Cert.FfnSsdRefIdeal.main_arg5)
      ∧ r.2.mem ((c.tc : Thread Cert.FfnSsdRefIdeal.nD Cert.FfnSsdRefIdeal.τ).loc Cert.FfnSsdRefIdeal.main_arg6) = m ((c.tc : Thread Cert.FfnSsdRefIdeal.nD Cert.FfnSsdRefIdeal.τ).loc Cert.FfnSsdRefIdeal.main_arg6)
      ∧ r.2.mem ((c.tc : Thread Cert.FfnSsdRefIdeal.nD Cert.FfnSsdRefIdeal.τ).loc Cert.FfnSsdRefIdeal.main_arg7) = m ((c.tc : Thread Cert.FfnSsdRefIdeal.nD Cert.FfnSsdRefIdeal.τ).loc Cert.FfnSsdRefIdeal.main_arg7))
      ∧ r.2.sem = fun _ => 0)

def quiescent_FfnSsdRefIdeal_pre_finite_ffn_ssd [hFfnSsdRefIdeal : Cert.FfnSsdRefIdeal.Facts] [hPre_finite_ffn_ssd : Cert.Pre_finite_ffn_ssd.Facts] : Prop :=
  ∀ (m : (ℓ : Loc Cert.FfnSsdRefIdeal.nD Cert.FfnSsdRefIdeal.τ Cert.FfnSsdRefIdeal.sig) → Buf (Elt Ideal) ℓ) (g : Dev Cert.FfnSsdRefIdeal.nD → PrngReg), Pre_FfnSsdRefIdeal_finite_ffn_ssd m →
    θ_run (Cert.FfnSsdRefIdeal.defs (F := Ideal)) (onTc (τ := Cert.FfnSsdRefIdeal.τ) (Cert.FfnSsdRefIdeal.main (F := Ideal))) ⟨m, fun _ => 0, g⟩ (fun r => (∀ c : Dev Cert.FfnSsdRefIdeal.nD,
      r.2.mem ((c.tc : Thread Cert.FfnSsdRefIdeal.nD Cert.FfnSsdRefIdeal.τ).loc Cert.FfnSsdRefIdeal.main_arg0) = m ((c.tc : Thread Cert.FfnSsdRefIdeal.nD Cert.FfnSsdRefIdeal.τ).loc Cert.FfnSsdRefIdeal.main_arg0)
      ∧ r.2.mem ((c.tc : Thread Cert.FfnSsdRefIdeal.nD Cert.FfnSsdRefIdeal.τ).loc Cert.FfnSsdRefIdeal.main_arg1) = m ((c.tc : Thread Cert.FfnSsdRefIdeal.nD Cert.FfnSsdRefIdeal.τ).loc Cert.FfnSsdRefIdeal.main_arg1)
      ∧ r.2.mem ((c.tc : Thread Cert.FfnSsdRefIdeal.nD Cert.FfnSsdRefIdeal.τ).loc Cert.FfnSsdRefIdeal.main_arg2) = m ((c.tc : Thread Cert.FfnSsdRefIdeal.nD Cert.FfnSsdRefIdeal.τ).loc Cert.FfnSsdRefIdeal.main_arg2)
      ∧ r.2.mem ((c.tc : Thread Cert.FfnSsdRefIdeal.nD Cert.FfnSsdRefIdeal.τ).loc Cert.FfnSsdRefIdeal.main_arg3) = m ((c.tc : Thread Cert.FfnSsdRefIdeal.nD Cert.FfnSsdRefIdeal.τ).loc Cert.FfnSsdRefIdeal.main_arg3)
      ∧ r.2.mem ((c.tc : Thread Cert.FfnSsdRefIdeal.nD Cert.FfnSsdRefIdeal.τ).loc Cert.FfnSsdRefIdeal.main_arg4) = m ((c.tc : Thread Cert.FfnSsdRefIdeal.nD Cert.FfnSsdRefIdeal.τ).loc Cert.FfnSsdRefIdeal.main_arg4)
      ∧ r.2.mem ((c.tc : Thread Cert.FfnSsdRefIdeal.nD Cert.FfnSsdRefIdeal.τ).loc Cert.FfnSsdRefIdeal.main_arg5) = m ((c.tc : Thread Cert.FfnSsdRefIdeal.nD Cert.FfnSsdRefIdeal.τ).loc Cert.FfnSsdRefIdeal.main_arg5)
      ∧ r.2.mem ((c.tc : Thread Cert.FfnSsdRefIdeal.nD Cert.FfnSsdRefIdeal.τ).loc Cert.FfnSsdRefIdeal.main_arg6) = m ((c.tc : Thread Cert.FfnSsdRefIdeal.nD Cert.FfnSsdRefIdeal.τ).loc Cert.FfnSsdRefIdeal.main_arg6)
      ∧ r.2.mem ((c.tc : Thread Cert.FfnSsdRefIdeal.nD Cert.FfnSsdRefIdeal.τ).loc Cert.FfnSsdRefIdeal.main_arg7) = m ((c.tc : Thread Cert.FfnSsdRefIdeal.nD Cert.FfnSsdRefIdeal.τ).loc Cert.FfnSsdRefIdeal.main_arg7))
      ∧ r.2.sem = fun _ => 0)

def preserves_Kernel_KernelIdeal : Prop :=
  True

def algebraic_KernelIdeal_ReferenceIdeal_pre_finite_qkv [hKernelIdeal : Cert.KernelIdeal.Facts] [hReferenceIdeal : Cert.ReferenceIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qkv m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Ffn_FfnIdeal : Prop :=
  True

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v1) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v23) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_SsdIn_SsdInIdeal : Prop :=
  True

def algebraic_SsdInIdeal_SsdInRefIdeal [hSsdInIdeal : Cert.SsdInIdeal.Facts] [hSsdInRefIdeal : Cert.SsdInRefIdeal.Facts] : Prop :=
  ∀ (m : (ℓ : Loc Cert.SsdInIdeal.nD Cert.SsdInIdeal.τ Cert.SsdInIdeal.sig) → Buf (Elt Ideal) ℓ) (g : Dev Cert.SsdInIdeal.nD → PrngReg)
    (m' : (ℓ : Loc Cert.SsdInRefIdeal.nD Cert.SsdInRefIdeal.τ Cert.SsdInRefIdeal.sig) → Buf (Elt Ideal) ℓ) (g' : Dev Cert.SsdInRefIdeal.nD → PrngReg), Pre_SsdInIdeal m →
    (∀ c : Dev Cert.SsdInIdeal.nD,
      m' ((c.tc : Thread Cert.SsdInRefIdeal.nD Cert.SsdInRefIdeal.τ).loc Cert.SsdInRefIdeal.main_arg0) = m ((c.tc : Thread Cert.SsdInIdeal.nD Cert.SsdInIdeal.τ).loc Cert.SsdInIdeal.main_arg0)
      ∧ m' ((c.tc : Thread Cert.SsdInRefIdeal.nD Cert.SsdInRefIdeal.τ).loc Cert.SsdInRefIdeal.main_arg1) = m ((c.tc : Thread Cert.SsdInIdeal.nD Cert.SsdInIdeal.τ).loc Cert.SsdInIdeal.main_arg1)
      ∧ m' ((c.tc : Thread Cert.SsdInRefIdeal.nD Cert.SsdInRefIdeal.τ).loc Cert.SsdInRefIdeal.main_arg2) = m ((c.tc : Thread Cert.SsdInIdeal.nD Cert.SsdInIdeal.τ).loc Cert.SsdInIdeal.main_arg2)) →
    ∃ (v0 : (c : Dev Cert.SsdInIdeal.nD) → Buf (Elt Ideal) ((c.tc : Thread Cert.SsdInIdeal.nD Cert.SsdInIdeal.τ).loc Cert.SsdInIdeal.main_v1)),
      θ_run (Cert.SsdInIdeal.defs (F := Ideal)) (onTc (τ := Cert.SsdInIdeal.τ) (Cert.SsdInIdeal.main (F := Ideal))) ⟨m, fun _ => 0, g⟩ (fun r => ∀ c : Dev Cert.SsdInIdeal.nD,
          r.2.mem ((c.tc : Thread Cert.SsdInIdeal.nD Cert.SsdInIdeal.τ).loc Cert.SsdInIdeal.main_v1) = v0 c
          ∧ r.2.mem ((c.tc : Thread Cert.SsdInIdeal.nD Cert.SsdInIdeal.τ).loc Cert.SsdInIdeal.main_arg0) = m ((c.tc : Thread Cert.SsdInIdeal.nD Cert.SsdInIdeal.τ).loc Cert.SsdInIdeal.main_arg0)
          ∧ r.2.mem ((c.tc : Thread Cert.SsdInIdeal.nD Cert.SsdInIdeal.τ).loc Cert.SsdInIdeal.main_arg1) = m ((c.tc : Thread Cert.SsdInIdeal.nD Cert.SsdInIdeal.τ).loc Cert.SsdInIdeal.main_arg1)
          ∧ r.2.mem ((c.tc : Thread Cert.SsdInIdeal.nD Cert.SsdInIdeal.τ).loc Cert.SsdInIdeal.main_arg2) = m ((c.tc : Thread Cert.SsdInIdeal.nD Cert.SsdInIdeal.τ).loc Cert.SsdInIdeal.main_arg2))
      ∧ θ_run (Cert.SsdInRefIdeal.defs (F := Ideal)) (onTc (τ := Cert.SsdInRefIdeal.τ) (Cert.SsdInRefIdeal.main (F := Ideal))) ⟨m', fun _ => 0, g'⟩ (fun r => ∀ c : Dev Cert.SsdInRefIdeal.nD,
          r.2.mem ((c.tc : Thread Cert.SsdInRefIdeal.nD Cert.SsdInRefIdeal.τ).loc Cert.SsdInRefIdeal.main_v15) = v0 c
          ∧ r.2.mem ((c.tc : Thread Cert.SsdInRefIdeal.nD Cert.SsdInRefIdeal.τ).loc Cert.SsdInRefIdeal.main_arg0) = m' ((c.tc : Thread Cert.SsdInRefIdeal.nD Cert.SsdInRefIdeal.τ).loc Cert.SsdInRefIdeal.main_arg0)
          ∧ r.2.mem ((c.tc : Thread Cert.SsdInRefIdeal.nD Cert.SsdInRefIdeal.τ).loc Cert.SsdInRefIdeal.main_arg1) = m' ((c.tc : Thread Cert.SsdInRefIdeal.nD Cert.SsdInRefIdeal.τ).loc Cert.SsdInRefIdeal.main_arg1)
          ∧ r.2.mem ((c.tc : Thread Cert.SsdInRefIdeal.nD Cert.SsdInRefIdeal.τ).loc Cert.SsdInRefIdeal.main_arg2) = m' ((c.tc : Thread Cert.SsdInRefIdeal.nD Cert.SsdInRefIdeal.τ).loc Cert.SsdInRefIdeal.main_arg2))

def preserves_SsdDt_SsdDtIdeal : Prop :=
  True

def algebraic_SsdDtIdeal_SsdDtRefIdeal [hSsdDtIdeal : Cert.SsdDtIdeal.Facts] [hSsdDtRefIdeal : Cert.SsdDtRefIdeal.Facts] : Prop :=
  ∀ (m : (ℓ : Loc Cert.SsdDtIdeal.nD Cert.SsdDtIdeal.τ Cert.SsdDtIdeal.sig) → Buf (Elt Ideal) ℓ) (g : Dev Cert.SsdDtIdeal.nD → PrngReg)
    (m' : (ℓ : Loc Cert.SsdDtRefIdeal.nD Cert.SsdDtRefIdeal.τ Cert.SsdDtRefIdeal.sig) → Buf (Elt Ideal) ℓ) (g' : Dev Cert.SsdDtRefIdeal.nD → PrngReg), Pre_SsdDtIdeal m →
    (∀ c : Dev Cert.SsdDtIdeal.nD,
      m' ((c.tc : Thread Cert.SsdDtRefIdeal.nD Cert.SsdDtRefIdeal.τ).loc Cert.SsdDtRefIdeal.main_arg0) = m ((c.tc : Thread Cert.SsdDtIdeal.nD Cert.SsdDtIdeal.τ).loc Cert.SsdDtIdeal.main_arg0)
      ∧ m' ((c.tc : Thread Cert.SsdDtRefIdeal.nD Cert.SsdDtRefIdeal.τ).loc Cert.SsdDtRefIdeal.main_arg1) = m ((c.tc : Thread Cert.SsdDtIdeal.nD Cert.SsdDtIdeal.τ).loc Cert.SsdDtIdeal.main_arg1)
      ∧ m' ((c.tc : Thread Cert.SsdDtRefIdeal.nD Cert.SsdDtRefIdeal.τ).loc Cert.SsdDtRefIdeal.main_arg2) = m ((c.tc : Thread Cert.SsdDtIdeal.nD Cert.SsdDtIdeal.τ).loc Cert.SsdDtIdeal.main_arg2)) →
    ∃ (v0 : (c : Dev Cert.SsdDtIdeal.nD) → Buf (Elt Ideal) ((c.tc : Thread Cert.SsdDtIdeal.nD Cert.SsdDtIdeal.τ).loc Cert.SsdDtIdeal.main_v1)),
      θ_run (Cert.SsdDtIdeal.defs (F := Ideal)) (onTc (τ := Cert.SsdDtIdeal.τ) (Cert.SsdDtIdeal.main (F := Ideal))) ⟨m, fun _ => 0, g⟩ (fun r => ∀ c : Dev Cert.SsdDtIdeal.nD,
          r.2.mem ((c.tc : Thread Cert.SsdDtIdeal.nD Cert.SsdDtIdeal.τ).loc Cert.SsdDtIdeal.main_v1) = v0 c
          ∧ r.2.mem ((c.tc : Thread Cert.SsdDtIdeal.nD Cert.SsdDtIdeal.τ).loc Cert.SsdDtIdeal.main_arg0) = m ((c.tc : Thread Cert.SsdDtIdeal.nD Cert.SsdDtIdeal.τ).loc Cert.SsdDtIdeal.main_arg0)
          ∧ r.2.mem ((c.tc : Thread Cert.SsdDtIdeal.nD Cert.SsdDtIdeal.τ).loc Cert.SsdDtIdeal.main_arg1) = m ((c.tc : Thread Cert.SsdDtIdeal.nD Cert.SsdDtIdeal.τ).loc Cert.SsdDtIdeal.main_arg1)
          ∧ r.2.mem ((c.tc : Thread Cert.SsdDtIdeal.nD Cert.SsdDtIdeal.τ).loc Cert.SsdDtIdeal.main_arg2) = m ((c.tc : Thread Cert.SsdDtIdeal.nD Cert.SsdDtIdeal.τ).loc Cert.SsdDtIdeal.main_arg2))
      ∧ θ_run (Cert.SsdDtRefIdeal.defs (F := Ideal)) (onTc (τ := Cert.SsdDtRefIdeal.τ) (Cert.SsdDtRefIdeal.main (F := Ideal))) ⟨m', fun _ => 0, g'⟩ (fun r => ∀ c : Dev Cert.SsdDtRefIdeal.nD,
          r.2.mem ((c.tc : Thread Cert.SsdDtRefIdeal.nD Cert.SsdDtRefIdeal.τ).loc Cert.SsdDtRefIdeal.main_v14) = v0 c
          ∧ r.2.mem ((c.tc : Thread Cert.SsdDtRefIdeal.nD Cert.SsdDtRefIdeal.τ).loc Cert.SsdDtRefIdeal.main_arg0) = m' ((c.tc : Thread Cert.SsdDtRefIdeal.nD Cert.SsdDtRefIdeal.τ).loc Cert.SsdDtRefIdeal.main_arg0)
          ∧ r.2.mem ((c.tc : Thread Cert.SsdDtRefIdeal.nD Cert.SsdDtRefIdeal.τ).loc Cert.SsdDtRefIdeal.main_arg1) = m' ((c.tc : Thread Cert.SsdDtRefIdeal.nD Cert.SsdDtRefIdeal.τ).loc Cert.SsdDtRefIdeal.main_arg1)
          ∧ r.2.mem ((c.tc : Thread Cert.SsdDtRefIdeal.nD Cert.SsdDtRefIdeal.τ).loc Cert.SsdDtRefIdeal.main_arg2) = m' ((c.tc : Thread Cert.SsdDtRefIdeal.nD Cert.SsdDtRefIdeal.τ).loc Cert.SsdDtRefIdeal.main_arg2))

def preserves_SsdOut_SsdOutIdeal : Prop :=
  True

def algebraic_SsdOutIdeal_SsdOutRefIdeal [hSsdOutIdeal : Cert.SsdOutIdeal.Facts] [hSsdOutRefIdeal : Cert.SsdOutRefIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg)
    (m' : (ℓ : Loc Cert.SsdOutRefIdeal.nD Cert.SsdOutRefIdeal.τ Cert.SsdOutRefIdeal.sig) → Buf (Elt Ideal) ℓ) (g' : Dev Cert.SsdOutRefIdeal.nD → PrngReg), Pre_SsdOutIdeal m →
    (∀ c : Dev Cert.SsdOutIdeal.nD,
      m' ((c.tc : Thread Cert.SsdOutRefIdeal.nD Cert.SsdOutRefIdeal.τ).loc Cert.SsdOutRefIdeal.main_arg0) = m ((c.tc : Thread Cert.SsdOutIdeal.nD Cert.SsdOutIdeal.τ).loc Cert.SsdOutIdeal.main_arg0)
      ∧ m' ((c.tc : Thread Cert.SsdOutRefIdeal.nD Cert.SsdOutRefIdeal.τ).loc Cert.SsdOutRefIdeal.main_arg1) = m ((c.tc : Thread Cert.SsdOutIdeal.nD Cert.SsdOutIdeal.τ).loc Cert.SsdOutIdeal.main_arg1)
      ∧ m' ((c.tc : Thread Cert.SsdOutRefIdeal.nD Cert.SsdOutRefIdeal.τ).loc Cert.SsdOutRefIdeal.main_arg2) = m ((c.tc : Thread Cert.SsdOutIdeal.nD Cert.SsdOutIdeal.τ).loc Cert.SsdOutIdeal.main_arg2)) →
    ∃ (v0 : (c : Dev Cert.SsdOutIdeal.nD) → Buf (Elt Ideal) ((c.tc : Thread Cert.SsdOutIdeal.nD Cert.SsdOutIdeal.τ).loc Cert.SsdOutIdeal.main_v0)),
      θ_run (Cert.SsdOutIdeal.defs (F := Ideal)) (onTc (τ := Cert.SsdOutIdeal.τ) (Cert.SsdOutIdeal.main (F := Ideal))) ⟨m, fun _ => 0, g⟩ (fun r => ∀ c : Dev Cert.SsdOutIdeal.nD,
          r.2.mem ((c.tc : Thread Cert.SsdOutIdeal.nD Cert.SsdOutIdeal.τ).loc Cert.SsdOutIdeal.main_v0) = v0 c
          ∧ r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
          ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1)
          ∧ r.2.mem ((c.tc : Thread Cert.SsdOutIdeal.nD Cert.SsdOutIdeal.τ).loc Cert.SsdOutIdeal.main_arg2) = m ((c.tc : Thread Cert.SsdOutIdeal.nD Cert.SsdOutIdeal.τ).loc Cert.SsdOutIdeal.main_arg2))
      ∧ θ_run (Cert.SsdOutRefIdeal.defs (F := Ideal)) (onTc (τ := Cert.SsdOutRefIdeal.τ) (Cert.SsdOutRefIdeal.main (F := Ideal))) ⟨m', fun _ => 0, g'⟩ (fun r => ∀ c : Dev Cert.SsdOutRefIdeal.nD,
          r.2.mem ((c.tc : Thread Cert.SsdOutRefIdeal.nD Cert.SsdOutRefIdeal.τ).loc Cert.SsdOutRefIdeal.main_v3) = v0 c
          ∧ r.2.mem ((c.tc : Thread Cert.SsdOutRefIdeal.nD Cert.SsdOutRefIdeal.τ).loc Cert.SsdOutRefIdeal.main_arg0) = m' ((c.tc : Thread Cert.SsdOutRefIdeal.nD Cert.SsdOutRefIdeal.τ).loc Cert.SsdOutRefIdeal.main_arg0)
          ∧ r.2.mem ((c.tc : Thread Cert.SsdOutRefIdeal.nD Cert.SsdOutRefIdeal.τ).loc Cert.SsdOutRefIdeal.main_arg1) = m' ((c.tc : Thread Cert.SsdOutRefIdeal.nD Cert.SsdOutRefIdeal.τ).loc Cert.SsdOutRefIdeal.main_arg1)
          ∧ r.2.mem ((c.tc : Thread Cert.SsdOutRefIdeal.nD Cert.SsdOutRefIdeal.τ).loc Cert.SsdOutRefIdeal.main_arg2) = m' ((c.tc : Thread Cert.SsdOutRefIdeal.nD Cert.SsdOutRefIdeal.τ).loc Cert.SsdOutRefIdeal.main_arg2))

def preserves_AttnOut_AttnOutIdeal : Prop :=
  True

def algebraic_AttnOutIdeal_AttnOutRefIdeal [hAttnOutIdeal : Cert.AttnOutIdeal.Facts] [hAttnOutRefIdeal : Cert.AttnOutRefIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutRefIdeal.nD Cert.AttnOutRefIdeal.τ Cert.AttnOutRefIdeal.sig) → Buf (Elt Ideal) ℓ) (g' : Dev Cert.AttnOutRefIdeal.nD → PrngReg), Pre_AttnOutIdeal m →
    (∀ c : Dev Cert.AttnOutIdeal.nD,
      m' ((c.tc : Thread Cert.AttnOutRefIdeal.nD Cert.AttnOutRefIdeal.τ).loc Cert.AttnOutRefIdeal.main_arg0) = m ((c.tc : Thread Cert.AttnOutIdeal.nD Cert.AttnOutIdeal.τ).loc Cert.AttnOutIdeal.main_arg0)
      ∧ m' ((c.tc : Thread Cert.AttnOutRefIdeal.nD Cert.AttnOutRefIdeal.τ).loc Cert.AttnOutRefIdeal.main_arg1) = m ((c.tc : Thread Cert.AttnOutIdeal.nD Cert.AttnOutIdeal.τ).loc Cert.AttnOutIdeal.main_arg1)
      ∧ m' ((c.tc : Thread Cert.AttnOutRefIdeal.nD Cert.AttnOutRefIdeal.τ).loc Cert.AttnOutRefIdeal.main_arg2) = m ((c.tc : Thread Cert.AttnOutIdeal.nD Cert.AttnOutIdeal.τ).loc Cert.AttnOutIdeal.main_arg2)) →
    ∃ (v0 : (c : Dev Cert.AttnOutIdeal.nD) → Buf (Elt Ideal) ((c.tc : Thread Cert.AttnOutIdeal.nD Cert.AttnOutIdeal.τ).loc Cert.AttnOutIdeal.main_v0)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v0) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2))
      ∧ θ_run (Cert.AttnOutRefIdeal.defs (F := Ideal)) (onTc (τ := Cert.AttnOutRefIdeal.τ) (Cert.AttnOutRefIdeal.main (F := Ideal))) ⟨m', fun _ => 0, g'⟩ (fun r => ∀ c : Dev Cert.AttnOutRefIdeal.nD,
          r.2.mem ((c.tc : Thread Cert.AttnOutRefIdeal.nD Cert.AttnOutRefIdeal.τ).loc Cert.AttnOutRefIdeal.main_v3) = v0 c
          ∧ r.2.mem ((c.tc : Thread Cert.AttnOutRefIdeal.nD Cert.AttnOutRefIdeal.τ).loc Cert.AttnOutRefIdeal.main_arg0) = m' ((c.tc : Thread Cert.AttnOutRefIdeal.nD Cert.AttnOutRefIdeal.τ).loc Cert.AttnOutRefIdeal.main_arg0)
          ∧ r.2.mem ((c.tc : Thread Cert.AttnOutRefIdeal.nD Cert.AttnOutRefIdeal.τ).loc Cert.AttnOutRefIdeal.main_arg1) = m' ((c.tc : Thread Cert.AttnOutRefIdeal.nD Cert.AttnOutRefIdeal.τ).loc Cert.AttnOutRefIdeal.main_arg1)
          ∧ r.2.mem ((c.tc : Thread Cert.AttnOutRefIdeal.nD Cert.AttnOutRefIdeal.τ).loc Cert.AttnOutRefIdeal.main_arg2) = m' ((c.tc : Thread Cert.AttnOutRefIdeal.nD Cert.AttnOutRefIdeal.τ).loc Cert.AttnOutRefIdeal.main_arg2))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)) →
    ∃ (v0 : (c : Dev Cert.QkvIdeal.nD) → Buf (Elt Ideal) ((c.tc : Thread Cert.QkvIdeal.nD Cert.QkvIdeal.τ).loc Cert.QkvIdeal.main_v59)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v59) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v137) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4))

def preserves_FfnNext_FfnNextIdeal : Prop :=
  True

def algebraic_FfnNextIdeal_FfnNextRefIdeal_pre_finite_ffn_next [hFfnNextIdeal : Cert.FfnNextIdeal.Facts] [hFfnNextRefIdeal : Cert.FfnNextRefIdeal.Facts] [hPre_finite_ffn_next : Cert.Pre_finite_ffn_next.Facts] : Prop :=
  ∀ (m : (ℓ : Loc Cert.FfnNextIdeal.nD Cert.FfnNextIdeal.τ Cert.FfnNextIdeal.sig) → Buf (Elt Ideal) ℓ) (g : Dev Cert.FfnNextIdeal.nD → PrngReg)
    (m' : (ℓ : Loc Cert.FfnNextRefIdeal.nD Cert.FfnNextRefIdeal.τ Cert.FfnNextRefIdeal.sig) → Buf (Elt Ideal) ℓ) (g' : Dev Cert.FfnNextRefIdeal.nD → PrngReg), Pre_FfnNextIdeal_finite_ffn_next m →
    (∀ c : Dev Cert.FfnNextIdeal.nD,
      m' ((c.tc : Thread Cert.FfnNextRefIdeal.nD Cert.FfnNextRefIdeal.τ).loc Cert.FfnNextRefIdeal.main_arg0) = m ((c.tc : Thread Cert.FfnNextIdeal.nD Cert.FfnNextIdeal.τ).loc Cert.FfnNextIdeal.main_arg0)
      ∧ m' ((c.tc : Thread Cert.FfnNextRefIdeal.nD Cert.FfnNextRefIdeal.τ).loc Cert.FfnNextRefIdeal.main_arg1) = m ((c.tc : Thread Cert.FfnNextIdeal.nD Cert.FfnNextIdeal.τ).loc Cert.FfnNextIdeal.main_arg1)
      ∧ m' ((c.tc : Thread Cert.FfnNextRefIdeal.nD Cert.FfnNextRefIdeal.τ).loc Cert.FfnNextRefIdeal.main_arg2) = m ((c.tc : Thread Cert.FfnNextIdeal.nD Cert.FfnNextIdeal.τ).loc Cert.FfnNextIdeal.main_arg2)
      ∧ m' ((c.tc : Thread Cert.FfnNextRefIdeal.nD Cert.FfnNextRefIdeal.τ).loc Cert.FfnNextRefIdeal.main_arg3) = m ((c.tc : Thread Cert.FfnNextIdeal.nD Cert.FfnNextIdeal.τ).loc Cert.FfnNextIdeal.main_arg3)
      ∧ m' ((c.tc : Thread Cert.FfnNextRefIdeal.nD Cert.FfnNextRefIdeal.τ).loc Cert.FfnNextRefIdeal.main_arg4) = m ((c.tc : Thread Cert.FfnNextIdeal.nD Cert.FfnNextIdeal.τ).loc Cert.FfnNextIdeal.main_arg4)
      ∧ m' ((c.tc : Thread Cert.FfnNextRefIdeal.nD Cert.FfnNextRefIdeal.τ).loc Cert.FfnNextRefIdeal.main_arg5) = m ((c.tc : Thread Cert.FfnNextIdeal.nD Cert.FfnNextIdeal.τ).loc Cert.FfnNextIdeal.main_arg5)) →
    ∃ (v0 : (c : Dev Cert.FfnNextIdeal.nD) → Buf (Elt Ideal) ((c.tc : Thread Cert.FfnNextIdeal.nD Cert.FfnNextIdeal.τ).loc Cert.FfnNextIdeal.main_v1_0)) (v1 : (c : Dev Cert.FfnNextIdeal.nD) → Buf (Elt Ideal) ((c.tc : Thread Cert.FfnNextIdeal.nD Cert.FfnNextIdeal.τ).loc Cert.FfnNextIdeal.main_v1_1)) (v2 : (c : Dev Cert.FfnNextIdeal.nD) → Buf (Elt Ideal) ((c.tc : Thread Cert.FfnNextIdeal.nD Cert.FfnNextIdeal.τ).loc Cert.FfnNextIdeal.main_v1_2)),
      θ_run (Cert.FfnNextIdeal.defs (F := Ideal)) (onTc (τ := Cert.FfnNextIdeal.τ) (Cert.FfnNextIdeal.main (F := Ideal))) ⟨m, fun _ => 0, g⟩ (fun r => ∀ c : Dev Cert.FfnNextIdeal.nD,
          r.2.mem ((c.tc : Thread Cert.FfnNextIdeal.nD Cert.FfnNextIdeal.τ).loc Cert.FfnNextIdeal.main_v1_0) = v0 c
          ∧ r.2.mem ((c.tc : Thread Cert.FfnNextIdeal.nD Cert.FfnNextIdeal.τ).loc Cert.FfnNextIdeal.main_v1_1) = v1 c
          ∧ r.2.mem ((c.tc : Thread Cert.FfnNextIdeal.nD Cert.FfnNextIdeal.τ).loc Cert.FfnNextIdeal.main_v1_2) = v2 c
          ∧ r.2.mem ((c.tc : Thread Cert.FfnNextIdeal.nD Cert.FfnNextIdeal.τ).loc Cert.FfnNextIdeal.main_arg0) = m ((c.tc : Thread Cert.FfnNextIdeal.nD Cert.FfnNextIdeal.τ).loc Cert.FfnNextIdeal.main_arg0)
          ∧ r.2.mem ((c.tc : Thread Cert.FfnNextIdeal.nD Cert.FfnNextIdeal.τ).loc Cert.FfnNextIdeal.main_arg1) = m ((c.tc : Thread Cert.FfnNextIdeal.nD Cert.FfnNextIdeal.τ).loc Cert.FfnNextIdeal.main_arg1)
          ∧ r.2.mem ((c.tc : Thread Cert.FfnNextIdeal.nD Cert.FfnNextIdeal.τ).loc Cert.FfnNextIdeal.main_arg2) = m ((c.tc : Thread Cert.FfnNextIdeal.nD Cert.FfnNextIdeal.τ).loc Cert.FfnNextIdeal.main_arg2)
          ∧ r.2.mem ((c.tc : Thread Cert.FfnNextIdeal.nD Cert.FfnNextIdeal.τ).loc Cert.FfnNextIdeal.main_arg3) = m ((c.tc : Thread Cert.FfnNextIdeal.nD Cert.FfnNextIdeal.τ).loc Cert.FfnNextIdeal.main_arg3)
          ∧ r.2.mem ((c.tc : Thread Cert.FfnNextIdeal.nD Cert.FfnNextIdeal.τ).loc Cert.FfnNextIdeal.main_arg4) = m ((c.tc : Thread Cert.FfnNextIdeal.nD Cert.FfnNextIdeal.τ).loc Cert.FfnNextIdeal.main_arg4)
          ∧ r.2.mem ((c.tc : Thread Cert.FfnNextIdeal.nD Cert.FfnNextIdeal.τ).loc Cert.FfnNextIdeal.main_arg5) = m ((c.tc : Thread Cert.FfnNextIdeal.nD Cert.FfnNextIdeal.τ).loc Cert.FfnNextIdeal.main_arg5))
      ∧ θ_run (Cert.FfnNextRefIdeal.defs (F := Ideal)) (onTc (τ := Cert.FfnNextRefIdeal.τ) (Cert.FfnNextRefIdeal.main (F := Ideal))) ⟨m', fun _ => 0, g'⟩ (fun r => ∀ c : Dev Cert.FfnNextRefIdeal.nD,
          r.2.mem ((c.tc : Thread Cert.FfnNextRefIdeal.nD Cert.FfnNextRefIdeal.τ).loc Cert.FfnNextRefIdeal.main_v27) = v0 c
          ∧ r.2.mem ((c.tc : Thread Cert.FfnNextRefIdeal.nD Cert.FfnNextRefIdeal.τ).loc Cert.FfnNextRefIdeal.main_v28) = v1 c
          ∧ r.2.mem ((c.tc : Thread Cert.FfnNextRefIdeal.nD Cert.FfnNextRefIdeal.τ).loc Cert.FfnNextRefIdeal.main_v29) = v2 c
          ∧ r.2.mem ((c.tc : Thread Cert.FfnNextRefIdeal.nD Cert.FfnNextRefIdeal.τ).loc Cert.FfnNextRefIdeal.main_arg0) = m' ((c.tc : Thread Cert.FfnNextRefIdeal.nD Cert.FfnNextRefIdeal.τ).loc Cert.FfnNextRefIdeal.main_arg0)
          ∧ r.2.mem ((c.tc : Thread Cert.FfnNextRefIdeal.nD Cert.FfnNextRefIdeal.τ).loc Cert.FfnNextRefIdeal.main_arg1) = m' ((c.tc : Thread Cert.FfnNextRefIdeal.nD Cert.FfnNextRefIdeal.τ).loc Cert.FfnNextRefIdeal.main_arg1)
          ∧ r.2.mem ((c.tc : Thread Cert.FfnNextRefIdeal.nD Cert.FfnNextRefIdeal.τ).loc Cert.FfnNextRefIdeal.main_arg2) = m' ((c.tc : Thread Cert.FfnNextRefIdeal.nD Cert.FfnNextRefIdeal.τ).loc Cert.FfnNextRefIdeal.main_arg2)
          ∧ r.2.mem ((c.tc : Thread Cert.FfnNextRefIdeal.nD Cert.FfnNextRefIdeal.τ).loc Cert.FfnNextRefIdeal.main_arg3) = m' ((c.tc : Thread Cert.FfnNextRefIdeal.nD Cert.FfnNextRefIdeal.τ).loc Cert.FfnNextRefIdeal.main_arg3)
          ∧ r.2.mem ((c.tc : Thread Cert.FfnNextRefIdeal.nD Cert.FfnNextRefIdeal.τ).loc Cert.FfnNextRefIdeal.main_arg4) = m' ((c.tc : Thread Cert.FfnNextRefIdeal.nD Cert.FfnNextRefIdeal.τ).loc Cert.FfnNextRefIdeal.main_arg4)
          ∧ r.2.mem ((c.tc : Thread Cert.FfnNextRefIdeal.nD Cert.FfnNextRefIdeal.τ).loc Cert.FfnNextRefIdeal.main_arg5) = m' ((c.tc : Thread Cert.FfnNextRefIdeal.nD Cert.FfnNextRefIdeal.τ).loc Cert.FfnNextRefIdeal.main_arg5))

def preserves_FfnAttn_FfnAttnIdeal : Prop :=
  True

def algebraic_FfnAttnIdeal_FfnAttnRefIdeal_pre_finite_ffn_attn [hFfnAttnIdeal : Cert.FfnAttnIdeal.Facts] [hFfnAttnRefIdeal : Cert.FfnAttnRefIdeal.Facts] [hPre_finite_ffn_attn : Cert.Pre_finite_ffn_attn.Facts] : Prop :=
  ∀ (m : (ℓ : Loc Cert.FfnAttnIdeal.nD Cert.FfnAttnIdeal.τ Cert.FfnAttnIdeal.sig) → Buf (Elt Ideal) ℓ) (g : Dev Cert.FfnAttnIdeal.nD → PrngReg)
    (m' : (ℓ : Loc Cert.FfnAttnRefIdeal.nD Cert.FfnAttnRefIdeal.τ Cert.FfnAttnRefIdeal.sig) → Buf (Elt Ideal) ℓ) (g' : Dev Cert.FfnAttnRefIdeal.nD → PrngReg), Pre_FfnAttnIdeal_finite_ffn_attn m →
    (∀ c : Dev Cert.FfnAttnIdeal.nD,
      m' ((c.tc : Thread Cert.FfnAttnRefIdeal.nD Cert.FfnAttnRefIdeal.τ).loc Cert.FfnAttnRefIdeal.main_arg0) = m ((c.tc : Thread Cert.FfnAttnIdeal.nD Cert.FfnAttnIdeal.τ).loc Cert.FfnAttnIdeal.main_arg0)
      ∧ m' ((c.tc : Thread Cert.FfnAttnRefIdeal.nD Cert.FfnAttnRefIdeal.τ).loc Cert.FfnAttnRefIdeal.main_arg1) = m ((c.tc : Thread Cert.FfnAttnIdeal.nD Cert.FfnAttnIdeal.τ).loc Cert.FfnAttnIdeal.main_arg1)
      ∧ m' ((c.tc : Thread Cert.FfnAttnRefIdeal.nD Cert.FfnAttnRefIdeal.τ).loc Cert.FfnAttnRefIdeal.main_arg2) = m ((c.tc : Thread Cert.FfnAttnIdeal.nD Cert.FfnAttnIdeal.τ).loc Cert.FfnAttnIdeal.main_arg2)
      ∧ m' ((c.tc : Thread Cert.FfnAttnRefIdeal.nD Cert.FfnAttnRefIdeal.τ).loc Cert.FfnAttnRefIdeal.main_arg3) = m ((c.tc : Thread Cert.FfnAttnIdeal.nD Cert.FfnAttnIdeal.τ).loc Cert.FfnAttnIdeal.main_arg3)
      ∧ m' ((c.tc : Thread Cert.FfnAttnRefIdeal.nD Cert.FfnAttnRefIdeal.τ).loc Cert.FfnAttnRefIdeal.main_arg4) = m ((c.tc : Thread Cert.FfnAttnIdeal.nD Cert.FfnAttnIdeal.τ).loc Cert.FfnAttnIdeal.main_arg4)
      ∧ m' ((c.tc : Thread Cert.FfnAttnRefIdeal.nD Cert.FfnAttnRefIdeal.τ).loc Cert.FfnAttnRefIdeal.main_arg5) = m ((c.tc : Thread Cert.FfnAttnIdeal.nD Cert.FfnAttnIdeal.τ).loc Cert.FfnAttnIdeal.main_arg5)
      ∧ m' ((c.tc : Thread Cert.FfnAttnRefIdeal.nD Cert.FfnAttnRefIdeal.τ).loc Cert.FfnAttnRefIdeal.main_arg6) = m ((c.tc : Thread Cert.FfnAttnIdeal.nD Cert.FfnAttnIdeal.τ).loc Cert.FfnAttnIdeal.main_arg6)
      ∧ m' ((c.tc : Thread Cert.FfnAttnRefIdeal.nD Cert.FfnAttnRefIdeal.τ).loc Cert.FfnAttnRefIdeal.main_arg7) = m ((c.tc : Thread Cert.FfnAttnIdeal.nD Cert.FfnAttnIdeal.τ).loc Cert.FfnAttnIdeal.main_arg7)) →
    ∃ (v0 : (c : Dev Cert.FfnAttnIdeal.nD) → Buf (Elt Ideal) ((c.tc : Thread Cert.FfnAttnIdeal.nD Cert.FfnAttnIdeal.τ).loc Cert.FfnAttnIdeal.main_v1_0)) (v1 : (c : Dev Cert.FfnAttnIdeal.nD) → Buf (Elt Ideal) ((c.tc : Thread Cert.FfnAttnIdeal.nD Cert.FfnAttnIdeal.τ).loc Cert.FfnAttnIdeal.main_v1_1)) (v2 : (c : Dev Cert.FfnAttnIdeal.nD) → Buf (Elt Ideal) ((c.tc : Thread Cert.FfnAttnIdeal.nD Cert.FfnAttnIdeal.τ).loc Cert.FfnAttnIdeal.main_v1_2)) (v3 : (c : Dev Cert.FfnAttnIdeal.nD) → Buf (Elt Ideal) ((c.tc : Thread Cert.FfnAttnIdeal.nD Cert.FfnAttnIdeal.τ).loc Cert.FfnAttnIdeal.main_v1_3)) (v4 : (c : Dev Cert.FfnAttnIdeal.nD) → Buf (Elt Ideal) ((c.tc : Thread Cert.FfnAttnIdeal.nD Cert.FfnAttnIdeal.τ).loc Cert.FfnAttnIdeal.main_v1_4)),
      θ_run (Cert.FfnAttnIdeal.defs (F := Ideal)) (onTc (τ := Cert.FfnAttnIdeal.τ) (Cert.FfnAttnIdeal.main (F := Ideal))) ⟨m, fun _ => 0, g⟩ (fun r => ∀ c : Dev Cert.FfnAttnIdeal.nD,
          r.2.mem ((c.tc : Thread Cert.FfnAttnIdeal.nD Cert.FfnAttnIdeal.τ).loc Cert.FfnAttnIdeal.main_v1_0) = v0 c
          ∧ r.2.mem ((c.tc : Thread Cert.FfnAttnIdeal.nD Cert.FfnAttnIdeal.τ).loc Cert.FfnAttnIdeal.main_v1_1) = v1 c
          ∧ r.2.mem ((c.tc : Thread Cert.FfnAttnIdeal.nD Cert.FfnAttnIdeal.τ).loc Cert.FfnAttnIdeal.main_v1_2) = v2 c
          ∧ r.2.mem ((c.tc : Thread Cert.FfnAttnIdeal.nD Cert.FfnAttnIdeal.τ).loc Cert.FfnAttnIdeal.main_v1_3) = v3 c
          ∧ r.2.mem ((c.tc : Thread Cert.FfnAttnIdeal.nD Cert.FfnAttnIdeal.τ).loc Cert.FfnAttnIdeal.main_v1_4) = v4 c
          ∧ r.2.mem ((c.tc : Thread Cert.FfnAttnIdeal.nD Cert.FfnAttnIdeal.τ).loc Cert.FfnAttnIdeal.main_arg0) = m ((c.tc : Thread Cert.FfnAttnIdeal.nD Cert.FfnAttnIdeal.τ).loc Cert.FfnAttnIdeal.main_arg0)
          ∧ r.2.mem ((c.tc : Thread Cert.FfnAttnIdeal.nD Cert.FfnAttnIdeal.τ).loc Cert.FfnAttnIdeal.main_arg1) = m ((c.tc : Thread Cert.FfnAttnIdeal.nD Cert.FfnAttnIdeal.τ).loc Cert.FfnAttnIdeal.main_arg1)
          ∧ r.2.mem ((c.tc : Thread Cert.FfnAttnIdeal.nD Cert.FfnAttnIdeal.τ).loc Cert.FfnAttnIdeal.main_arg2) = m ((c.tc : Thread Cert.FfnAttnIdeal.nD Cert.FfnAttnIdeal.τ).loc Cert.FfnAttnIdeal.main_arg2)
          ∧ r.2.mem ((c.tc : Thread Cert.FfnAttnIdeal.nD Cert.FfnAttnIdeal.τ).loc Cert.FfnAttnIdeal.main_arg3) = m ((c.tc : Thread Cert.FfnAttnIdeal.nD Cert.FfnAttnIdeal.τ).loc Cert.FfnAttnIdeal.main_arg3)
          ∧ r.2.mem ((c.tc : Thread Cert.FfnAttnIdeal.nD Cert.FfnAttnIdeal.τ).loc Cert.FfnAttnIdeal.main_arg4) = m ((c.tc : Thread Cert.FfnAttnIdeal.nD Cert.FfnAttnIdeal.τ).loc Cert.FfnAttnIdeal.main_arg4)
          ∧ r.2.mem ((c.tc : Thread Cert.FfnAttnIdeal.nD Cert.FfnAttnIdeal.τ).loc Cert.FfnAttnIdeal.main_arg5) = m ((c.tc : Thread Cert.FfnAttnIdeal.nD Cert.FfnAttnIdeal.τ).loc Cert.FfnAttnIdeal.main_arg5)
          ∧ r.2.mem ((c.tc : Thread Cert.FfnAttnIdeal.nD Cert.FfnAttnIdeal.τ).loc Cert.FfnAttnIdeal.main_arg6) = m ((c.tc : Thread Cert.FfnAttnIdeal.nD Cert.FfnAttnIdeal.τ).loc Cert.FfnAttnIdeal.main_arg6)
          ∧ r.2.mem ((c.tc : Thread Cert.FfnAttnIdeal.nD Cert.FfnAttnIdeal.τ).loc Cert.FfnAttnIdeal.main_arg7) = m ((c.tc : Thread Cert.FfnAttnIdeal.nD Cert.FfnAttnIdeal.τ).loc Cert.FfnAttnIdeal.main_arg7))
      ∧ θ_run (Cert.FfnAttnRefIdeal.defs (F := Ideal)) (onTc (τ := Cert.FfnAttnRefIdeal.τ) (Cert.FfnAttnRefIdeal.main (F := Ideal))) ⟨m', fun _ => 0, g'⟩ (fun r => ∀ c : Dev Cert.FfnAttnRefIdeal.nD,
          r.2.mem ((c.tc : Thread Cert.FfnAttnRefIdeal.nD Cert.FfnAttnRefIdeal.τ).loc Cert.FfnAttnRefIdeal.main_v31) = v0 c
          ∧ r.2.mem ((c.tc : Thread Cert.FfnAttnRefIdeal.nD Cert.FfnAttnRefIdeal.τ).loc Cert.FfnAttnRefIdeal.main_v32) = v1 c
          ∧ r.2.mem ((c.tc : Thread Cert.FfnAttnRefIdeal.nD Cert.FfnAttnRefIdeal.τ).loc Cert.FfnAttnRefIdeal.main_v33) = v2 c
          ∧ r.2.mem ((c.tc : Thread Cert.FfnAttnRefIdeal.nD Cert.FfnAttnRefIdeal.τ).loc Cert.FfnAttnRefIdeal.main_v34) = v3 c
          ∧ r.2.mem ((c.tc : Thread Cert.FfnAttnRefIdeal.nD Cert.FfnAttnRefIdeal.τ).loc Cert.FfnAttnRefIdeal.main_v35) = v4 c
          ∧ r.2.mem ((c.tc : Thread Cert.FfnAttnRefIdeal.nD Cert.FfnAttnRefIdeal.τ).loc Cert.FfnAttnRefIdeal.main_arg0) = m' ((c.tc : Thread Cert.FfnAttnRefIdeal.nD Cert.FfnAttnRefIdeal.τ).loc Cert.FfnAttnRefIdeal.main_arg0)
          ∧ r.2.mem ((c.tc : Thread Cert.FfnAttnRefIdeal.nD Cert.FfnAttnRefIdeal.τ).loc Cert.FfnAttnRefIdeal.main_arg1) = m' ((c.tc : Thread Cert.FfnAttnRefIdeal.nD Cert.FfnAttnRefIdeal.τ).loc Cert.FfnAttnRefIdeal.main_arg1)
          ∧ r.2.mem ((c.tc : Thread Cert.FfnAttnRefIdeal.nD Cert.FfnAttnRefIdeal.τ).loc Cert.FfnAttnRefIdeal.main_arg2) = m' ((c.tc : Thread Cert.FfnAttnRefIdeal.nD Cert.FfnAttnRefIdeal.τ).loc Cert.FfnAttnRefIdeal.main_arg2)
          ∧ r.2.mem ((c.tc : Thread Cert.FfnAttnRefIdeal.nD Cert.FfnAttnRefIdeal.τ).loc Cert.FfnAttnRefIdeal.main_arg3) = m' ((c.tc : Thread Cert.FfnAttnRefIdeal.nD Cert.FfnAttnRefIdeal.τ).loc Cert.FfnAttnRefIdeal.main_arg3)
          ∧ r.2.mem ((c.tc : Thread Cert.FfnAttnRefIdeal.nD Cert.FfnAttnRefIdeal.τ).loc Cert.FfnAttnRefIdeal.main_arg4) = m' ((c.tc : Thread Cert.FfnAttnRefIdeal.nD Cert.FfnAttnRefIdeal.τ).loc Cert.FfnAttnRefIdeal.main_arg4)
          ∧ r.2.mem ((c.tc : Thread Cert.FfnAttnRefIdeal.nD Cert.FfnAttnRefIdeal.τ).loc Cert.FfnAttnRefIdeal.main_arg5) = m' ((c.tc : Thread Cert.FfnAttnRefIdeal.nD Cert.FfnAttnRefIdeal.τ).loc Cert.FfnAttnRefIdeal.main_arg5)
          ∧ r.2.mem ((c.tc : Thread Cert.FfnAttnRefIdeal.nD Cert.FfnAttnRefIdeal.τ).loc Cert.FfnAttnRefIdeal.main_arg6) = m' ((c.tc : Thread Cert.FfnAttnRefIdeal.nD Cert.FfnAttnRefIdeal.τ).loc Cert.FfnAttnRefIdeal.main_arg6)
          ∧ r.2.mem ((c.tc : Thread Cert.FfnAttnRefIdeal.nD Cert.FfnAttnRefIdeal.τ).loc Cert.FfnAttnRefIdeal.main_arg7) = m' ((c.tc : Thread Cert.FfnAttnRefIdeal.nD Cert.FfnAttnRefIdeal.τ).loc Cert.FfnAttnRefIdeal.main_arg7))

def preserves_FfnSsd_FfnSsdIdeal : Prop :=
  True

def algebraic_FfnSsdIdeal_FfnSsdRefIdeal_pre_finite_ffn_ssd [hFfnSsdIdeal : Cert.FfnSsdIdeal.Facts] [hFfnSsdRefIdeal : Cert.FfnSsdRefIdeal.Facts] [hPre_finite_ffn_ssd : Cert.Pre_finite_ffn_ssd.Facts] : Prop :=
  ∀ (m : (ℓ : Loc Cert.FfnSsdIdeal.nD Cert.FfnSsdIdeal.τ Cert.FfnSsdIdeal.sig) → Buf (Elt Ideal) ℓ) (g : Dev Cert.FfnSsdIdeal.nD → PrngReg)
    (m' : (ℓ : Loc Cert.FfnSsdRefIdeal.nD Cert.FfnSsdRefIdeal.τ Cert.FfnSsdRefIdeal.sig) → Buf (Elt Ideal) ℓ) (g' : Dev Cert.FfnSsdRefIdeal.nD → PrngReg), Pre_FfnSsdIdeal_finite_ffn_ssd m →
    (∀ c : Dev Cert.FfnSsdIdeal.nD,
      m' ((c.tc : Thread Cert.FfnSsdRefIdeal.nD Cert.FfnSsdRefIdeal.τ).loc Cert.FfnSsdRefIdeal.main_arg0) = m ((c.tc : Thread Cert.FfnSsdIdeal.nD Cert.FfnSsdIdeal.τ).loc Cert.FfnSsdIdeal.main_arg0)
      ∧ m' ((c.tc : Thread Cert.FfnSsdRefIdeal.nD Cert.FfnSsdRefIdeal.τ).loc Cert.FfnSsdRefIdeal.main_arg1) = m ((c.tc : Thread Cert.FfnSsdIdeal.nD Cert.FfnSsdIdeal.τ).loc Cert.FfnSsdIdeal.main_arg1)
      ∧ m' ((c.tc : Thread Cert.FfnSsdRefIdeal.nD Cert.FfnSsdRefIdeal.τ).loc Cert.FfnSsdRefIdeal.main_arg2) = m ((c.tc : Thread Cert.FfnSsdIdeal.nD Cert.FfnSsdIdeal.τ).loc Cert.FfnSsdIdeal.main_arg2)
      ∧ m' ((c.tc : Thread Cert.FfnSsdRefIdeal.nD Cert.FfnSsdRefIdeal.τ).loc Cert.FfnSsdRefIdeal.main_arg3) = m ((c.tc : Thread Cert.FfnSsdIdeal.nD Cert.FfnSsdIdeal.τ).loc Cert.FfnSsdIdeal.main_arg3)
      ∧ m' ((c.tc : Thread Cert.FfnSsdRefIdeal.nD Cert.FfnSsdRefIdeal.τ).loc Cert.FfnSsdRefIdeal.main_arg4) = m ((c.tc : Thread Cert.FfnSsdIdeal.nD Cert.FfnSsdIdeal.τ).loc Cert.FfnSsdIdeal.main_arg4)
      ∧ m' ((c.tc : Thread Cert.FfnSsdRefIdeal.nD Cert.FfnSsdRefIdeal.τ).loc Cert.FfnSsdRefIdeal.main_arg5) = m ((c.tc : Thread Cert.FfnSsdIdeal.nD Cert.FfnSsdIdeal.τ).loc Cert.FfnSsdIdeal.main_arg5)
      ∧ m' ((c.tc : Thread Cert.FfnSsdRefIdeal.nD Cert.FfnSsdRefIdeal.τ).loc Cert.FfnSsdRefIdeal.main_arg6) = m ((c.tc : Thread Cert.FfnSsdIdeal.nD Cert.FfnSsdIdeal.τ).loc Cert.FfnSsdIdeal.main_arg6)
      ∧ m' ((c.tc : Thread Cert.FfnSsdRefIdeal.nD Cert.FfnSsdRefIdeal.τ).loc Cert.FfnSsdRefIdeal.main_arg7) = m ((c.tc : Thread Cert.FfnSsdIdeal.nD Cert.FfnSsdIdeal.τ).loc Cert.FfnSsdIdeal.main_arg7)) →
    ∃ (v0 : (c : Dev Cert.FfnSsdIdeal.nD) → Buf (Elt Ideal) ((c.tc : Thread Cert.FfnSsdIdeal.nD Cert.FfnSsdIdeal.τ).loc Cert.FfnSsdIdeal.main_v1_0)) (v1 : (c : Dev Cert.FfnSsdIdeal.nD) → Buf (Elt Ideal) ((c.tc : Thread Cert.FfnSsdIdeal.nD Cert.FfnSsdIdeal.τ).loc Cert.FfnSsdIdeal.main_v1_1)) (v2 : (c : Dev Cert.FfnSsdIdeal.nD) → Buf (Elt Ideal) ((c.tc : Thread Cert.FfnSsdIdeal.nD Cert.FfnSsdIdeal.τ).loc Cert.FfnSsdIdeal.main_v1_2)) (v3 : (c : Dev Cert.FfnSsdIdeal.nD) → Buf (Elt Ideal) ((c.tc : Thread Cert.FfnSsdIdeal.nD Cert.FfnSsdIdeal.τ).loc Cert.FfnSsdIdeal.main_v1_3)) (v4 : (c : Dev Cert.FfnSsdIdeal.nD) → Buf (Elt Ideal) ((c.tc : Thread Cert.FfnSsdIdeal.nD Cert.FfnSsdIdeal.τ).loc Cert.FfnSsdIdeal.main_v1_4)) (v5 : (c : Dev Cert.FfnSsdIdeal.nD) → Buf (Elt Ideal) ((c.tc : Thread Cert.FfnSsdIdeal.nD Cert.FfnSsdIdeal.τ).loc Cert.FfnSsdIdeal.main_v1_5)),
      θ_run (Cert.FfnSsdIdeal.defs (F := Ideal)) (onTc (τ := Cert.FfnSsdIdeal.τ) (Cert.FfnSsdIdeal.main (F := Ideal))) ⟨m, fun _ => 0, g⟩ (fun r => ∀ c : Dev Cert.FfnSsdIdeal.nD,
          r.2.mem ((c.tc : Thread Cert.FfnSsdIdeal.nD Cert.FfnSsdIdeal.τ).loc Cert.FfnSsdIdeal.main_v1_0) = v0 c
          ∧ r.2.mem ((c.tc : Thread Cert.FfnSsdIdeal.nD Cert.FfnSsdIdeal.τ).loc Cert.FfnSsdIdeal.main_v1_1) = v1 c
          ∧ r.2.mem ((c.tc : Thread Cert.FfnSsdIdeal.nD Cert.FfnSsdIdeal.τ).loc Cert.FfnSsdIdeal.main_v1_2) = v2 c
          ∧ r.2.mem ((c.tc : Thread Cert.FfnSsdIdeal.nD Cert.FfnSsdIdeal.τ).loc Cert.FfnSsdIdeal.main_v1_3) = v3 c
          ∧ r.2.mem ((c.tc : Thread Cert.FfnSsdIdeal.nD Cert.FfnSsdIdeal.τ).loc Cert.FfnSsdIdeal.main_v1_4) = v4 c
          ∧ r.2.mem ((c.tc : Thread Cert.FfnSsdIdeal.nD Cert.FfnSsdIdeal.τ).loc Cert.FfnSsdIdeal.main_v1_5) = v5 c
          ∧ r.2.mem ((c.tc : Thread Cert.FfnSsdIdeal.nD Cert.FfnSsdIdeal.τ).loc Cert.FfnSsdIdeal.main_arg0) = m ((c.tc : Thread Cert.FfnSsdIdeal.nD Cert.FfnSsdIdeal.τ).loc Cert.FfnSsdIdeal.main_arg0)
          ∧ r.2.mem ((c.tc : Thread Cert.FfnSsdIdeal.nD Cert.FfnSsdIdeal.τ).loc Cert.FfnSsdIdeal.main_arg1) = m ((c.tc : Thread Cert.FfnSsdIdeal.nD Cert.FfnSsdIdeal.τ).loc Cert.FfnSsdIdeal.main_arg1)
          ∧ r.2.mem ((c.tc : Thread Cert.FfnSsdIdeal.nD Cert.FfnSsdIdeal.τ).loc Cert.FfnSsdIdeal.main_arg2) = m ((c.tc : Thread Cert.FfnSsdIdeal.nD Cert.FfnSsdIdeal.τ).loc Cert.FfnSsdIdeal.main_arg2)
          ∧ r.2.mem ((c.tc : Thread Cert.FfnSsdIdeal.nD Cert.FfnSsdIdeal.τ).loc Cert.FfnSsdIdeal.main_arg3) = m ((c.tc : Thread Cert.FfnSsdIdeal.nD Cert.FfnSsdIdeal.τ).loc Cert.FfnSsdIdeal.main_arg3)
          ∧ r.2.mem ((c.tc : Thread Cert.FfnSsdIdeal.nD Cert.FfnSsdIdeal.τ).loc Cert.FfnSsdIdeal.main_arg4) = m ((c.tc : Thread Cert.FfnSsdIdeal.nD Cert.FfnSsdIdeal.τ).loc Cert.FfnSsdIdeal.main_arg4)
          ∧ r.2.mem ((c.tc : Thread Cert.FfnSsdIdeal.nD Cert.FfnSsdIdeal.τ).loc Cert.FfnSsdIdeal.main_arg5) = m ((c.tc : Thread Cert.FfnSsdIdeal.nD Cert.FfnSsdIdeal.τ).loc Cert.FfnSsdIdeal.main_arg5)
          ∧ r.2.mem ((c.tc : Thread Cert.FfnSsdIdeal.nD Cert.FfnSsdIdeal.τ).loc Cert.FfnSsdIdeal.main_arg6) = m ((c.tc : Thread Cert.FfnSsdIdeal.nD Cert.FfnSsdIdeal.τ).loc Cert.FfnSsdIdeal.main_arg6)
          ∧ r.2.mem ((c.tc : Thread Cert.FfnSsdIdeal.nD Cert.FfnSsdIdeal.τ).loc Cert.FfnSsdIdeal.main_arg7) = m ((c.tc : Thread Cert.FfnSsdIdeal.nD Cert.FfnSsdIdeal.τ).loc Cert.FfnSsdIdeal.main_arg7))
      ∧ θ_run (Cert.FfnSsdRefIdeal.defs (F := Ideal)) (onTc (τ := Cert.FfnSsdRefIdeal.τ) (Cert.FfnSsdRefIdeal.main (F := Ideal))) ⟨m', fun _ => 0, g'⟩ (fun r => ∀ c : Dev Cert.FfnSsdRefIdeal.nD,
          r.2.mem ((c.tc : Thread Cert.FfnSsdRefIdeal.nD Cert.FfnSsdRefIdeal.τ).loc Cert.FfnSsdRefIdeal.main_v33) = v0 c
          ∧ r.2.mem ((c.tc : Thread Cert.FfnSsdRefIdeal.nD Cert.FfnSsdRefIdeal.τ).loc Cert.FfnSsdRefIdeal.main_v34) = v1 c
          ∧ r.2.mem ((c.tc : Thread Cert.FfnSsdRefIdeal.nD Cert.FfnSsdRefIdeal.τ).loc Cert.FfnSsdRefIdeal.main_v35) = v2 c
          ∧ r.2.mem ((c.tc : Thread Cert.FfnSsdRefIdeal.nD Cert.FfnSsdRefIdeal.τ).loc Cert.FfnSsdRefIdeal.main_v36) = v3 c
          ∧ r.2.mem ((c.tc : Thread Cert.FfnSsdRefIdeal.nD Cert.FfnSsdRefIdeal.τ).loc Cert.FfnSsdRefIdeal.main_v37) = v4 c
          ∧ r.2.mem ((c.tc : Thread Cert.FfnSsdRefIdeal.nD Cert.FfnSsdRefIdeal.τ).loc Cert.FfnSsdRefIdeal.main_v38) = v5 c
          ∧ r.2.mem ((c.tc : Thread Cert.FfnSsdRefIdeal.nD Cert.FfnSsdRefIdeal.τ).loc Cert.FfnSsdRefIdeal.main_arg0) = m' ((c.tc : Thread Cert.FfnSsdRefIdeal.nD Cert.FfnSsdRefIdeal.τ).loc Cert.FfnSsdRefIdeal.main_arg0)
          ∧ r.2.mem ((c.tc : Thread Cert.FfnSsdRefIdeal.nD Cert.FfnSsdRefIdeal.τ).loc Cert.FfnSsdRefIdeal.main_arg1) = m' ((c.tc : Thread Cert.FfnSsdRefIdeal.nD Cert.FfnSsdRefIdeal.τ).loc Cert.FfnSsdRefIdeal.main_arg1)
          ∧ r.2.mem ((c.tc : Thread Cert.FfnSsdRefIdeal.nD Cert.FfnSsdRefIdeal.τ).loc Cert.FfnSsdRefIdeal.main_arg2) = m' ((c.tc : Thread Cert.FfnSsdRefIdeal.nD Cert.FfnSsdRefIdeal.τ).loc Cert.FfnSsdRefIdeal.main_arg2)
          ∧ r.2.mem ((c.tc : Thread Cert.FfnSsdRefIdeal.nD Cert.FfnSsdRefIdeal.τ).loc Cert.FfnSsdRefIdeal.main_arg3) = m' ((c.tc : Thread Cert.FfnSsdRefIdeal.nD Cert.FfnSsdRefIdeal.τ).loc Cert.FfnSsdRefIdeal.main_arg3)
          ∧ r.2.mem ((c.tc : Thread Cert.FfnSsdRefIdeal.nD Cert.FfnSsdRefIdeal.τ).loc Cert.FfnSsdRefIdeal.main_arg4) = m' ((c.tc : Thread Cert.FfnSsdRefIdeal.nD Cert.FfnSsdRefIdeal.τ).loc Cert.FfnSsdRefIdeal.main_arg4)
          ∧ r.2.mem ((c.tc : Thread Cert.FfnSsdRefIdeal.nD Cert.FfnSsdRefIdeal.τ).loc Cert.FfnSsdRefIdeal.main_arg5) = m' ((c.tc : Thread Cert.FfnSsdRefIdeal.nD Cert.FfnSsdRefIdeal.τ).loc Cert.FfnSsdRefIdeal.main_arg5)
          ∧ r.2.mem ((c.tc : Thread Cert.FfnSsdRefIdeal.nD Cert.FfnSsdRefIdeal.τ).loc Cert.FfnSsdRefIdeal.main_arg6) = m' ((c.tc : Thread Cert.FfnSsdRefIdeal.nD Cert.FfnSsdRefIdeal.τ).loc Cert.FfnSsdRefIdeal.main_arg6)
          ∧ r.2.mem ((c.tc : Thread Cert.FfnSsdRefIdeal.nD Cert.FfnSsdRefIdeal.τ).loc Cert.FfnSsdRefIdeal.main_arg7) = m' ((c.tc : Thread Cert.FfnSsdRefIdeal.nD Cert.FfnSsdRefIdeal.τ).loc Cert.FfnSsdRefIdeal.main_arg7))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hSsdIn : Cert.SsdIn.Facts) (hSsdInIdeal : Cert.SsdInIdeal.Facts) (hSsdInRefIdeal : Cert.SsdInRefIdeal.Facts) (hSsdDt : Cert.SsdDt.Facts) (hSsdDtIdeal : Cert.SsdDtIdeal.Facts) (hSsdDtRefIdeal : Cert.SsdDtRefIdeal.Facts) (hSsdOut : Cert.SsdOut.Facts) (hSsdOutIdeal : Cert.SsdOutIdeal.Facts) (hSsdOutRefIdeal : Cert.SsdOutRefIdeal.Facts) (hAttnOut : Cert.AttnOut.Facts) (hAttnOutIdeal : Cert.AttnOutIdeal.Facts) (hAttnOutRefIdeal : Cert.AttnOutRefIdeal.Facts) (hQkv : Cert.Qkv.Facts) (hQkvIdeal : Cert.QkvIdeal.Facts) (hQkvRefIdeal : Cert.QkvRefIdeal.Facts) (hFfnNext : Cert.FfnNext.Facts) (hFfnNextIdeal : Cert.FfnNextIdeal.Facts) (hFfnNextRefIdeal : Cert.FfnNextRefIdeal.Facts) (hFfnAttn : Cert.FfnAttn.Facts) (hFfnAttnIdeal : Cert.FfnAttnIdeal.Facts) (hFfnAttnRefIdeal : Cert.FfnAttnRefIdeal.Facts) (hFfnSsd : Cert.FfnSsd.Facts) (hFfnSsdIdeal : Cert.FfnSsdIdeal.Facts) (hFfnSsdRefIdeal : Cert.FfnSsdRefIdeal.Facts) (hPre_finite_qkv : Cert.Pre_finite_qkv.Facts) (hPre_finite_ffn : Cert.Pre_finite_ffn.Facts) (hPre_finite_ffn_next : Cert.Pre_finite_ffn_next.Facts) (hPre_finite_ffn_attn : Cert.Pre_finite_ffn_attn.Facts) (hPre_finite_ffn_ssd : Cert.Pre_finite_ffn_ssd.Facts),
    quiescent_Kernel (hKernel := hKernel)
    ∧ quiescent_KernelIdeal (hKernelIdeal := hKernelIdeal)
    ∧ quiescent_KernelIdeal_pre_finite_qkv (hKernelIdeal := hKernelIdeal) (hPre_finite_qkv := hPre_finite_qkv)
    ∧ quiescent_ReferenceIdeal (hReferenceIdeal := hReferenceIdeal)
    ∧ quiescent_ReferenceIdeal_pre_finite_qkv (hReferenceIdeal := hReferenceIdeal) (hPre_finite_qkv := hPre_finite_qkv)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_SsdIn (hSsdIn := hSsdIn)
    ∧ quiescent_SsdInIdeal (hSsdInIdeal := hSsdInIdeal)
    ∧ quiescent_SsdInRefIdeal (hSsdInRefIdeal := hSsdInRefIdeal)
    ∧ quiescent_SsdDt (hSsdDt := hSsdDt)
    ∧ quiescent_SsdDtIdeal (hSsdDtIdeal := hSsdDtIdeal)
    ∧ quiescent_SsdDtRefIdeal (hSsdDtRefIdeal := hSsdDtRefIdeal)
    ∧ quiescent_SsdOut (hSsdOut := hSsdOut)
    ∧ quiescent_SsdOutIdeal (hSsdOutIdeal := hSsdOutIdeal)
    ∧ quiescent_SsdOutRefIdeal (hSsdOutRefIdeal := hSsdOutRefIdeal)
    ∧ quiescent_AttnOut (hAttnOut := hAttnOut)
    ∧ quiescent_AttnOutIdeal (hAttnOutIdeal := hAttnOutIdeal)
    ∧ quiescent_AttnOutRefIdeal (hAttnOutRefIdeal := hAttnOutRefIdeal)
    ∧ quiescent_Qkv (hQkv := hQkv)
    ∧ quiescent_QkvIdeal (hQkvIdeal := hQkvIdeal)
    ∧ quiescent_QkvRefIdeal (hQkvRefIdeal := hQkvRefIdeal)
    ∧ quiescent_FfnNext (hFfnNext := hFfnNext)
    ∧ quiescent_FfnNextIdeal (hFfnNextIdeal := hFfnNextIdeal)
    ∧ quiescent_FfnNextIdeal_pre_finite_ffn_next (hFfnNextIdeal := hFfnNextIdeal) (hPre_finite_ffn_next := hPre_finite_ffn_next)
    ∧ quiescent_FfnNextRefIdeal (hFfnNextRefIdeal := hFfnNextRefIdeal)
    ∧ quiescent_FfnNextRefIdeal_pre_finite_ffn_next (hFfnNextRefIdeal := hFfnNextRefIdeal) (hPre_finite_ffn_next := hPre_finite_ffn_next)
    ∧ quiescent_FfnAttn (hFfnAttn := hFfnAttn)
    ∧ quiescent_FfnAttnIdeal (hFfnAttnIdeal := hFfnAttnIdeal)
    ∧ quiescent_FfnAttnIdeal_pre_finite_ffn_attn (hFfnAttnIdeal := hFfnAttnIdeal) (hPre_finite_ffn_attn := hPre_finite_ffn_attn)
    ∧ quiescent_FfnAttnRefIdeal (hFfnAttnRefIdeal := hFfnAttnRefIdeal)
    ∧ quiescent_FfnAttnRefIdeal_pre_finite_ffn_attn (hFfnAttnRefIdeal := hFfnAttnRefIdeal) (hPre_finite_ffn_attn := hPre_finite_ffn_attn)
    ∧ quiescent_FfnSsd (hFfnSsd := hFfnSsd)
    ∧ quiescent_FfnSsdIdeal (hFfnSsdIdeal := hFfnSsdIdeal)
    ∧ quiescent_FfnSsdIdeal_pre_finite_ffn_ssd (hFfnSsdIdeal := hFfnSsdIdeal) (hPre_finite_ffn_ssd := hPre_finite_ffn_ssd)
    ∧ quiescent_FfnSsdRefIdeal (hFfnSsdRefIdeal := hFfnSsdRefIdeal)
    ∧ quiescent_FfnSsdRefIdeal_pre_finite_ffn_ssd (hFfnSsdRefIdeal := hFfnSsdRefIdeal) (hPre_finite_ffn_ssd := hPre_finite_ffn_ssd)
    ∧ preserves_Kernel_KernelIdeal
    ∧ algebraic_KernelIdeal_ReferenceIdeal_pre_finite_qkv (hKernelIdeal := hKernelIdeal) (hReferenceIdeal := hReferenceIdeal) (hPre_finite_qkv := hPre_finite_qkv)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
    ∧ preserves_SsdIn_SsdInIdeal
    ∧ algebraic_SsdInIdeal_SsdInRefIdeal (hSsdInIdeal := hSsdInIdeal) (hSsdInRefIdeal := hSsdInRefIdeal)
    ∧ preserves_SsdDt_SsdDtIdeal
    ∧ algebraic_SsdDtIdeal_SsdDtRefIdeal (hSsdDtIdeal := hSsdDtIdeal) (hSsdDtRefIdeal := hSsdDtRefIdeal)
    ∧ preserves_SsdOut_SsdOutIdeal
    ∧ algebraic_SsdOutIdeal_SsdOutRefIdeal (hSsdOutIdeal := hSsdOutIdeal) (hSsdOutRefIdeal := hSsdOutRefIdeal)
    ∧ preserves_AttnOut_AttnOutIdeal
    ∧ algebraic_AttnOutIdeal_AttnOutRefIdeal (hAttnOutIdeal := hAttnOutIdeal) (hAttnOutRefIdeal := hAttnOutRefIdeal)
    ∧ preserves_Qkv_QkvIdeal
    ∧ algebraic_QkvIdeal_QkvRefIdeal (hQkvIdeal := hQkvIdeal) (hQkvRefIdeal := hQkvRefIdeal)
    ∧ preserves_FfnNext_FfnNextIdeal
    ∧ algebraic_FfnNextIdeal_FfnNextRefIdeal_pre_finite_ffn_next (hFfnNextIdeal := hFfnNextIdeal) (hFfnNextRefIdeal := hFfnNextRefIdeal) (hPre_finite_ffn_next := hPre_finite_ffn_next)
    ∧ preserves_FfnAttn_FfnAttnIdeal
    ∧ algebraic_FfnAttnIdeal_FfnAttnRefIdeal_pre_finite_ffn_attn (hFfnAttnIdeal := hFfnAttnIdeal) (hFfnAttnRefIdeal := hFfnAttnRefIdeal) (hPre_finite_ffn_attn := hPre_finite_ffn_attn)
    ∧ preserves_FfnSsd_FfnSsdIdeal
    ∧ algebraic_FfnSsdIdeal_FfnSsdRefIdeal_pre_finite_ffn_ssd (hFfnSsdIdeal := hFfnSsdIdeal) (hFfnSsdRefIdeal := hFfnSsdRefIdeal) (hPre_finite_ffn_ssd := hPre_finite_ffn_ssd)
-- ==== Pre_finite_ffn.lean ====
abbrev S8448x2048 : Shape := ⟨2, ![8448, 2048]⟩
abbrev S2048 : Shape := ⟨1, ![2048]⟩
abbrev S2048x12288 : Shape := ⟨2, ![2048, 12288]⟩
abbrev S6144x2048 : Shape := ⟨2, ![6144, 2048]⟩
abbrev S_ : Shape := ⟨0, ![]⟩

class Facts : Prop where
  bcast_S_S8448x2048 : S_.BroadcastsInDim S8448x2048 (![] : Fin 0 → Fin S8448x2048.rank)
  bcast_S_S2048 : S_.BroadcastsInDim S2048 (![] : Fin 0 → Fin S2048.rank)
  bcast_S_S2048x12288 : S_.BroadcastsInDim S2048x12288 (![] : Fin 0 → Fin S2048x12288.rank)

variable [Facts]

def fn {F : FTy → Type} [FloatOps F] (main_arg0 : FVec F S8448x2048 .f32) (main_arg1 : FVec F S2048 .f32) (main_arg2 : FVec F S2048x12288 .bf16) (main_arg3 : FVec F S6144x2048 .bf16) : IVec S8448x2048 1 × IVec S2048 1 × IVec S2048x12288 1 :=
  let main_v0 : FVec F S8448x2048 .f32 := Host.absf main_arg0
  let main_cst : FVec F S_ .f32 := constant S_ .f32 0x7F800000#32
  let main_v1 : FVec F S8448x2048 .f32 := broadcastInDim S8448x2048 ![] bcast_S_S8448x2048 main_cst
  let main_v2 : IVec S8448x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S2048x12288 .bf16 := Host.absf main_arg2
  let main_cst_1 : FVec F S_ .bf16 := constant S_ .bf16 0x7F80#16
  let main_v7 : FVec F S2048x12288 .bf16 := broadcastInDim S2048x12288 ![] bcast_S_S2048x12288 main_cst_1
  let main_v8 : IVec S2048x12288 1 := cmpf .olt main_v6 main_v7
  (main_v2, main_v5, main_v8)
-- ==== Pre_finite_ffn_attn.lean ====
abbrev S8448x2048 : Shape := ⟨2, ![8448, 2048]⟩
abbrev S2048 : Shape := ⟨1, ![2048]⟩
abbrev S2048x12288 : Shape := ⟨2, ![2048, 12288]⟩
abbrev S6144x2048 : Shape := ⟨2, ![6144, 2048]⟩
abbrev S2x2048x4096 : Shape := ⟨3, ![2, 2048, 4096]⟩
abbrev S2x2048x2048 : Shape := ⟨3, ![2, 2048, 2048]⟩
abbrev S4x2x2048x12288 : Shape := ⟨4, ![4, 2, 2048, 12288]⟩
abbrev S4x2x6144x2048 : Shape := ⟨4, ![4, 2, 6144, 2048]⟩
abbrev S_ : Shape := ⟨0, ![]⟩

class Facts : Prop where
  bcast_S_S8448x2048 : S_.BroadcastsInDim S8448x2048 (![] : Fin 0 → Fin S8448x2048.rank)
  bcast_S_S2048 : S_.BroadcastsInDim S2048 (![] : Fin 0 → Fin S2048.rank)
  bcast_S_S2048x12288 : S_.BroadcastsInDim S2048x12288 (![] : Fin 0 → Fin S2048x12288.rank)

variable [Facts]

def fn {F : FTy → Type} [FloatOps F] (main_arg0 : FVec F S8448x2048 .f32) (main_arg1 : FVec F S2048 .f32) (main_arg2 : FVec F S2048x12288 .bf16) (main_arg3 : FVec F S6144x2048 .bf16) (main_arg4 : FVec F S2x2048x4096 .f32) (main_arg5 : FVec F S2x2048x2048 .f32) (main_arg6 : FVec F S4x2x2048x12288 .f32) (main_arg7 : FVec F S4x2x6144x2048 .f32) : IVec S8448x2048 1 × IVec S2048 1 × IVec S2048x12288 1 :=
  let main_v0 : FVec F S8448x2048 .f32 := Host.absf main_arg0
  let main_cst : FVec F S_ .f32 := constant S_ .f32 0x7F800000#32
  let main_v1 : FVec F S8448x2048 .f32 := broadcastInDim S8448x2048 ![] bcast_S_S8448x2048 main_cst
  let main_v2 : IVec S8448x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S2048x12288 .bf16 := Host.absf main_arg2
  let main_cst_1 : FVec F S_ .bf16 := constant S_ .bf16 0x7F80#16
  let main_v7 : FVec F S2048x12288 .bf16 := broadcastInDim S2048x12288 ![] bcast_S_S2048x12288 main_cst_1
  let main_v8 : IVec S2048x12288 1 := cmpf .olt main_v6 main_v7
  (main_v2, main_v5, main_v8)
-- ==== Pre_finite_ffn_next.lean ====
abbrev S8448x2048 : Shape := ⟨2, ![8448, 2048]⟩
abbrev S2048 : Shape := ⟨1, ![2048]⟩
abbrev S2048x12288 : Shape := ⟨2, ![2048, 12288]⟩
abbrev S6144x2048 : Shape := ⟨2, ![6144, 2048]⟩
abbrev S4x2x2048x12288 : Shape := ⟨4, ![4, 2, 2048, 12288]⟩
abbrev S4x2x6144x2048 : Shape := ⟨4, ![4, 2, 6144, 2048]⟩
abbrev S_ : Shape := ⟨0, ![]⟩

class Facts : Prop where
  bcast_S_S8448x2048 : S_.BroadcastsInDim S8448x2048 (![] : Fin 0 → Fin S8448x2048.rank)
  bcast_S_S2048 : S_.BroadcastsInDim S2048 (![] : Fin 0 → Fin S2048.rank)
  bcast_S_S2048x12288 : S_.BroadcastsInDim S2048x12288 (![] : Fin 0 → Fin S2048x12288.rank)

variable [Facts]

def fn {F : FTy → Type} [FloatOps F] (main_arg0 : FVec F S8448x2048 .f32) (main_arg1 : FVec F S2048 .f32) (main_arg2 : FVec F S2048x12288 .bf16) (main_arg3 : FVec F S6144x2048 .bf16) (main_arg4 : FVec F S4x2x2048x12288 .f32) (main_arg5 : FVec F S4x2x6144x2048 .f32) : IVec S8448x2048 1 × IVec S2048 1 × IVec S2048x12288 1 :=
  let main_v0 : FVec F S8448x2048 .f32 := Host.absf main_arg0
  let main_cst : FVec F S_ .f32 := constant S_ .f32 0x7F800000#32
  let main_v1 : FVec F S8448x2048 .f32 := broadcastInDim S8448x2048 ![] bcast_S_S8448x2048 main_cst
  let main_v2 : IVec S8448x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S2048x12288 .bf16 := Host.absf main_arg2
  let main_cst_1 : FVec F S_ .bf16 := constant S_ .bf16 0x7F80#16
  let main_v7 : FVec F S2048x12288 .bf16 := broadcastInDim S2048x12288 ![] bcast_S_S2048x12288 main_cst_1
  let main_v8 : IVec S2048x12288 1 := cmpf .olt main_v6 main_v7
  (main_v2, main_v5, main_v8)
-- ==== Pre_finite_ffn_ssd.lean ====
abbrev S8448x2048 : Shape := ⟨2, ![8448, 2048]⟩
abbrev S2048 : Shape := ⟨1, ![2048]⟩
abbrev S2048x12288 : Shape := ⟨2, ![2048, 12288]⟩
abbrev S6144x2048 : Shape := ⟨2, ![6144, 2048]⟩
abbrev S2x2048x10368 : Shape := ⟨3, ![2, 2048, 10368]⟩
abbrev S2x4096x2048 : Shape := ⟨3, ![2, 4096, 2048]⟩
abbrev S4x2x2048x12288 : Shape := ⟨4, ![4, 2, 2048, 12288]⟩
abbrev S4x2x6144x2048 : Shape := ⟨4, ![4, 2, 6144, 2048]⟩
abbrev S_ : Shape := ⟨0, ![]⟩

class Facts : Prop where
  bcast_S_S8448x2048 : S_.BroadcastsInDim S8448x2048 (![] : Fin 0 → Fin S8448x2048.rank)
  bcast_S_S2048 : S_.BroadcastsInDim S2048 (![] : Fin 0 → Fin S2048.rank)
  bcast_S_S2048x12288 : S_.BroadcastsInDim S2048x12288 (![] : Fin 0 → Fin S2048x12288.rank)

variable [Facts]

def fn {F : FTy → Type} [FloatOps F] (main_arg0 : FVec F S8448x2048 .f32) (main_arg1 : FVec F S2048 .f32) (main_arg2 : FVec F S2048x12288 .bf16) (main_arg3 : FVec F S6144x2048 .bf16) (main_arg4 : FVec F S2x2048x10368 .f32) (main_arg5 : FVec F S2x4096x2048 .f32) (main_arg6 : FVec F S4x2x2048x12288 .f32) (main_arg7 : FVec F S4x2x6144x2048 .f32) : IVec S8448x2048 1 × IVec S2048 1 × IVec S2048x12288 1 :=
  let main_v0 : FVec F S8448x2048 .f32 := Host.absf main_arg0
  let main_cst : FVec F S_ .f32 := constant S_ .f32 0x7F800000#32
  let main_v1 : FVec F S8448x2048 .f32 := broadcastInDim S8448x2048 ![] bcast_S_S8448x2048 main_cst
  let main_v2 : IVec S8448x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S2048x12288 .bf16 := Host.absf main_arg2
  let main_cst_1 : FVec F S_ .bf16 := constant S_ .bf16 0x7F80#16
  let main_v7 : FVec F S2048x12288 .bf16 := broadcastInDim S2048x12288 ![] bcast_S_S2048x12288 main_cst_1
  let main_v8 : IVec S2048x12288 1 := cmpf .olt main_v6 main_v7
  (main_v2, main_v5, main_v8)
-- ==== Pre_finite_qkv.lean ====
abbrev S8448x4096 : Shape := ⟨2, ![8448, 4096]⟩
abbrev S_ : Shape := ⟨0, ![]⟩

class Facts : Prop where
  bcast_S_S8448x4096 : S_.BroadcastsInDim S8448x4096 (![] : Fin 0 → Fin S8448x4096.rank)

variable [Facts]

def fn {F : FTy → Type} [FloatOps F] (main_arg0 : FVec F S8448x4096 .bf16) : IVec S8448x4096 1 :=
  let main_v0 : FVec F S8448x4096 .bf16 := Host.absf main_arg0
  let main_cst : FVec F S_ .bf16 := constant S_ .bf16 0x7F80#16
  let main_v1 : FVec F S8448x4096 .bf16 := broadcastInDim S8448x4096 ![] bcast_S_S8448x4096 main_cst
  let main_v2 : IVec S8448x4096 1 := cmpf .olt main_v0 main_v1
  main_v2
-- ==== Kernel.lean ====
abbrev S8448x4096 : Shape := ⟨2, ![8448, 4096]⟩
abbrev S2x4224x4096 : Shape := ⟨3, ![2, 4224, 4096]⟩
abbrev S2x4224x1024 : Shape := ⟨3, ![2, 4224, 1024]⟩
abbrev S2x4224x8x128 : Shape := ⟨4, ![2, 4224, 8, 128]⟩
abbrev S2x8x128x4224 : Shape := ⟨4, ![2, 8, 128, 4224]⟩
abbrev S2x4224x2048 : Shape := ⟨3, ![2, 4224, 2048]⟩
abbrev S1x1408x256 : Shape := ⟨3, ![1, 1408, 256]⟩
abbrev S1x1x128x4224 : Shape := ⟨4, ![1, 1, 128, 4224]⟩
abbrev S1x4224x128 : Shape := ⟨3, ![1, 4224, 128]⟩
abbrev S128x4224 : Shape := ⟨2, ![128, 4224]⟩
abbrev S4224x128 : Shape := ⟨2, ![4224, 128]⟩
abbrev S1x128 : Shape := ⟨2, ![1, 128]⟩
abbrev S1x128x128 : Shape := ⟨3, ![1, 128, 128]⟩
abbrev S128x128 : Shape := ⟨2, ![128, 128]⟩
abbrev S128x4096 : Shape := ⟨2, ![128, 4096]⟩
abbrev S128 : Shape := ⟨1, ![128]⟩
abbrev S128x1 : Shape := ⟨2, ![128, 1]⟩

abbrev nBuf : Space → Nat
  | .hbm => 6
  | .vmem => 8
  | .smem => 0
  | _ => 0

abbrev bufTy : (tb : Table) → Fin (tcTables nBuf tb) → BufTy
  | .hbm, ⟨0, _⟩ => ⟨S8448x4096, .bf16⟩
  | .hbm, ⟨1, _⟩ => ⟨S2x4224x4096, .bf16⟩
  | .hbm, ⟨2, _⟩ => ⟨S2x4224x1024, .bf16⟩
  | .hbm, ⟨3, _⟩ => ⟨S2x4224x8x128, .bf16⟩
  | .hbm, ⟨4, _⟩ => ⟨S2x8x128x4224, .bf16⟩
  | .hbm, ⟨5, _⟩ => ⟨S2x4224x2048, .bf16⟩
  | .local _ .vmem, ⟨0, _⟩ => ⟨S1x1408x256, .bf16⟩
  | .local _ .vmem, ⟨1, _⟩ => ⟨S1x1408x256, .bf16⟩
  | .local _ .vmem, ⟨2, _⟩ => ⟨S1x1x128x4224, .bf16⟩
  | .local _ .vmem, ⟨3, _⟩ => ⟨S1x1x128x4224, .bf16⟩
  | .local _ .vmem, ⟨4, _⟩ => ⟨S1x4224x128, .bf16⟩
  | .local _ .vmem, ⟨5, _⟩ => ⟨S1x4224x128, .bf16⟩
  | .local _ .vmem, ⟨6, _⟩ => ⟨S1x1408x256, .bf16⟩
  | .local _ .vmem, ⟨7, _⟩ => ⟨S1x1408x256, .bf16⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 3], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1408x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x4224 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4224x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1408x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8448x4096 : Shape := ⟨2, ![8448, 4096]⟩
abbrev S2x4224x4096 : Shape := ⟨3, ![2, 4224, 4096]⟩
abbrev S2x4224x2048 : Shape := ⟨3, ![2, 4224, 2048]⟩
abbrev S2x4224x1024 : Shape := ⟨3, ![2, 4224, 1024]⟩
abbrev S2x4224x8x2x128 : Shape := ⟨5, ![2, 4224, 8, 2, 128]⟩
abbrev S2x4224x8x128 : Shape := ⟨4, ![2, 4224, 8, 128]⟩
abbrev S4224 : Shape := ⟨1, ![4224]⟩
abbrev S_ : Shape := ⟨0, ![]⟩
abbrev S2x8x4224x4224x2 : Shape := ⟨5, ![2, 8, 4224, 4224, 2]⟩
abbrev S2x8x2x4224x4224 : Shape := ⟨5, ![2, 8, 2, 4224, 4224]⟩
abbrev S1x1x1x1x4224 : Shape := ⟨5, ![1, 1, 1, 1, 4224]⟩
abbrev S2x8x2x4224 : Shape := ⟨4, ![2, 8, 2, 4224]⟩
abbrev S2x8x2x4224x1 : Shape := ⟨5, ![2, 8, 2, 4224, 1]⟩
abbrev S2x8x128x2x4224 : Shape := ⟨5, ![2, 8, 128, 2, 4224]⟩

abbrev nBuf : Space → Nat
  | .hbm => 46
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S8448x4096, .f32⟩
  | .hbm, ⟨2, _⟩ => ⟨S2x4224x4096, .f32⟩
  | .hbm, ⟨3, _⟩ => ⟨S2x4224x2048, .f32⟩
  | .hbm, ⟨4, _⟩ => ⟨S2x4224x1024, .f32⟩
  | .hbm, ⟨5, _⟩ => ⟨S2x4224x1024, .f32⟩
  | .hbm, ⟨6, _⟩ => ⟨S2x4224x8x2x128, .f32⟩
  | .hbm, ⟨7, _⟩ => ⟨S2x4224x8x128, .f32⟩
  | .hbm, ⟨8, _⟩ => ⟨S2x4224x8x128, .f32⟩
  | .hbm, ⟨9, _⟩ => ⟨S4224, .i32⟩
  | .hbm, ⟨10, _⟩ => ⟨S_, .i32⟩
  | .hbm, ⟨11, _⟩ => ⟨S4224, .i32⟩
  | .hbm, ⟨12, _⟩ => ⟨S4224, .i1⟩
  | .hbm, ⟨13, _⟩ => ⟨S_, .f32⟩
  | .hbm, ⟨14, _⟩ => ⟨S_, .f32⟩
  | .hbm, ⟨15, _⟩ => ⟨S4224, .f32⟩
  | .hbm, ⟨16, _⟩ => ⟨S4224, .f32⟩
  | .hbm, ⟨17, _⟩ => ⟨S4224, .f32⟩
  | .hbm, ⟨18, _⟩ => ⟨S4224, .f32⟩
  | .hbm, ⟨19, _⟩ => ⟨S2x8x4224x4224x2, .f32⟩
  | .hbm, ⟨20, _⟩ => ⟨S2x8x2x4224x4224, .f32⟩
  | .hbm, ⟨21, _⟩ => ⟨S_, .f32⟩
  | .hbm, ⟨22, _⟩ => ⟨S_, .f32⟩
  | .hbm, ⟨23, _⟩ => ⟨S2x8x2x4224x4224, .f32⟩
  | .hbm, ⟨24, _⟩ => ⟨S2x8x2x4224x4224, .f32⟩
  | .hbm, ⟨25, _⟩ => ⟨S1x1x1x1x4224, .f32⟩
  | .hbm, ⟨26, _⟩ => ⟨S2x8x2x4224x4224, .f32⟩
  | .hbm, ⟨27, _⟩ => ⟨S2x8x2x4224x4224, .f32⟩
  | .hbm, ⟨28, _⟩ => ⟨S_, .f32⟩
  | .hbm, ⟨29, _⟩ => ⟨S2x8x2x4224, .f32⟩
  | .hbm, ⟨30, _⟩ => ⟨S_, .f32⟩
  | .hbm, ⟨31, _⟩ => ⟨S2x8x2x4224, .f32⟩
  | .hbm, ⟨32, _⟩ => ⟨S2x8x2x4224, .f32⟩
  | .hbm, ⟨33, _⟩ => ⟨S2x8x2x4224x1, .f32⟩
  | .hbm, ⟨34, _⟩ => ⟨S2x8x2x4224x4224, .f32⟩
  | .hbm, ⟨35, _⟩ => ⟨S2x8x2x4224x4224, .f32⟩
  | .hbm, ⟨36, _⟩ => ⟨S2x8x2x4224x4224, .f32⟩
  | .hbm, ⟨37, _⟩ => ⟨S_, .f32⟩
  | .hbm, ⟨38, _⟩ => ⟨S2x8x2x4224, .f32⟩
  | .hbm, ⟨39, _⟩ => ⟨S2x8x2x4224x1, .f32⟩
  | .hbm, ⟨40, _⟩ => ⟨S2x8x2x4224x4224, .f32⟩
  | .hbm, ⟨41, _⟩ => ⟨S2x8x2x4224x4224, .f32⟩
  | .hbm, ⟨42, _⟩ => ⟨S2x8x128x2x4224, .f32⟩
  | .hbm, ⟨43, _⟩ => ⟨S2x4224x8x2x128, .f32⟩
  | .hbm, ⟨44, _⟩ => ⟨S2x4224x2048, .f32⟩
  | .hbm, ⟨45, _⟩ => ⟨S2x4224x2048, .bf16⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_c : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Ffn.lean ====
abbrev S8448x2048 : Shape := ⟨2, ![8448, 2048]⟩
abbrev S2048 : Shape := ⟨1, ![2048]⟩
abbrev S2048x12288 : Shape := ⟨2, ![2048, 12288]⟩
abbrev S6144x2048 : Shape := ⟨2, ![6144, 2048]⟩
abbrev S1x2048 : Shape := ⟨2, ![1, 2048]⟩
abbrev S768x2048 : Shape := ⟨2, ![768, 2048]⟩
abbrev S2048x768 : Shape := ⟨2, ![2048, 768]⟩
abbrev S768 : Shape := ⟨1, ![768]⟩
abbrev S768x1 : Shape := ⟨2, ![768, 1]⟩
abbrev S768x768 : Shape := ⟨2, ![768, 768]⟩

abbrev nBuf : Space → Nat
  | .hbm => 6
  | .vmem => 12
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x12288, .bf16⟩
  | .hbm, ⟨3, _⟩ => ⟨S6144x2048, .bf16⟩
  | .hbm, ⟨4, _⟩ => ⟨S1x2048, .f32⟩
  | .hbm, ⟨5, _⟩ => ⟨S8448x2048, .f32⟩
  | .local _ .vmem, ⟨0, _⟩ => ⟨S768x2048, .f32⟩
  | .local _ .vmem, ⟨1, _⟩ => ⟨S768x2048, .f32⟩
  | .local _ .vmem, ⟨2, _⟩ => ⟨S1x2048, .f32⟩
  | .local _ .vmem, ⟨3, _⟩ => ⟨S2048x768, .bf16⟩
  | .local _ .vmem, ⟨4, _⟩ => ⟨S2048x768, .bf16⟩
  | .local _ .vmem, ⟨5, _⟩ => ⟨S2048x768, .bf16⟩
  | .local _ .vmem, ⟨6, _⟩ => ⟨S2048x768, .bf16⟩
  | .local _ .vmem, ⟨7, _⟩ => ⟨S768x2048, .bf16⟩
  | .local _ .vmem, ⟨8, _⟩ => ⟨S768x2048, .bf16⟩
  | .local _ .vmem, ⟨9, _⟩ => ⟨S768x2048, .f32⟩
  | .local _ .vmem, ⟨10, _⟩ => ⟨S768x2048, .f32⟩
  | .local _ .vmem, ⟨11, _⟩ => ⟨S768x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S768x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S768x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S8448x2048 : Shape := ⟨2, ![8448, 2048]⟩
abbrev S2048 : Shape := ⟨1, ![2048]⟩
abbrev S2048x12288 : Shape := ⟨2, ![2048, 12288]⟩
abbrev S6144x2048 : Shape := ⟨2, ![6144, 2048]⟩
abbrev S_ : Shape := ⟨0, ![]⟩
abbrev S8448 : Shape := ⟨1, ![8448]⟩
abbrev S8448x1 : Shape := ⟨2, ![8448, 1]⟩
abbrev S1x2048 : Shape := ⟨2, ![1, 2048]⟩
abbrev S8448x12288 : Shape := ⟨2, ![8448, 12288]⟩
abbrev S8448x6144 : Shape := ⟨2, ![8448, 6144]⟩

abbrev nBuf : Space → Nat
  | .hbm => 40
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x12288, .bf16⟩
  | .hbm, ⟨3, _⟩ => ⟨S6144x2048, .bf16⟩
  | .hbm, ⟨4, _⟩ => ⟨S8448x2048, .f32⟩
  | .hbm, ⟨5, _⟩ => ⟨S_, .f32⟩
  | .hbm, ⟨6, _⟩ => ⟨S8448, .f32⟩
  | .hbm, ⟨7, _⟩ => ⟨S8448x1, .f32⟩
  | .hbm, ⟨8, _⟩ => ⟨S_, .f32⟩
  | .hbm, ⟨9, _⟩ => ⟨S8448x1, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S8448x1, .f32⟩
  | .hbm, ⟨15, _⟩ => ⟨S8448x2048, .f32⟩
  | .hbm, ⟨16, _⟩ => ⟨S8448x2048, .f32⟩
  | .hbm, ⟨17, _⟩ => ⟨S1x2048, .f32⟩
  | .hbm, ⟨18, _⟩ => ⟨S8448x2048, .f32⟩
  | .hbm, ⟨19, _⟩ => ⟨S8448x2048, .f32⟩
  | .hbm, ⟨20, _⟩ => ⟨S2048x12288, .f32⟩
  | .hbm, ⟨21, _⟩ => ⟨S8448x12288, .f32⟩
  | .hbm, ⟨22, _⟩ => ⟨S8448x6144, .f32⟩
  | .hbm, ⟨23, _⟩ => ⟨S8448x6144, .f32⟩
  | .hbm, ⟨24, _⟩ => ⟨S8448x6144, .f32⟩
  | .hbm, ⟨25, _⟩ => ⟨S8448x6144, .f32⟩
  | .hbm, ⟨26, _⟩ => ⟨S_, .f32⟩
  | .hbm, ⟨27, _⟩ => ⟨S8448x6144, .f32⟩
  | .hbm, ⟨28, _⟩ => ⟨S8448x6144, .f32⟩
  | .hbm, ⟨29, _⟩ => ⟨S_, .f32⟩
  | .hbm, ⟨30, _⟩ => ⟨S8448x6144, .f32⟩
  | .hbm, ⟨31, _⟩ => ⟨S8448x6144, .f32⟩
  | .hbm, ⟨32, _⟩ => ⟨S8448x6144, .f32⟩
  | .hbm, ⟨33, _⟩ => ⟨S8448x6144, .f32⟩
  | .hbm, ⟨34, _⟩ => ⟨S6144x2048, .f32⟩
  | .hbm, ⟨35, _⟩ => ⟨S8448x2048, .f32⟩
  | .hbm, ⟨36, _⟩ => ⟨S_, .f32⟩
  | .hbm, ⟨37, _⟩ => ⟨S8448x2048, .f32⟩
  | .hbm, ⟨38, _⟩ => ⟨S8448x2048, .f32⟩
  | .hbm, ⟨39, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== SsdIn.lean ====
abbrev S8448x2048 : Shape := ⟨2, ![8448, 2048]⟩
abbrev S2048 : Shape := ⟨1, ![2048]⟩
abbrev S2048x10240 : Shape := ⟨2, ![2048, 10240]⟩
abbrev S1x2048 : Shape := ⟨2, ![1, 2048]⟩
abbrev S8448x10240 : Shape := ⟨2, ![8448, 10240]⟩
abbrev S1408x2048 : Shape := ⟨2, ![1408, 2048]⟩
abbrev S2048x1024 : Shape := ⟨2, ![2048, 1024]⟩
abbrev S1408x1024 : Shape := ⟨2, ![1408, 1024]⟩
abbrev S1408 : Shape := ⟨1, ![1408]⟩
abbrev S1408x1 : Shape := ⟨2, ![1408, 1]⟩

abbrev nBuf : Space → Nat
  | .hbm => 5
  | .vmem => 8
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x10240, .bf16⟩
  | .hbm, ⟨3, _⟩ => ⟨S1x2048, .f32⟩
  | .hbm, ⟨4, _⟩ => ⟨S8448x10240, .bf16⟩
  | .local _ .vmem, ⟨0, _⟩ => ⟨S1408x2048, .f32⟩
  | .local _ .vmem, ⟨1, _⟩ => ⟨S1408x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1408x1024, .bf16⟩
  | .local _ .vmem, ⟨6, _⟩ => ⟨S1408x1024, .bf16⟩
  | .local _ .vmem, ⟨7, _⟩ => ⟨S1408x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![6, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1408x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SsdInRefIdeal.lean ====
abbrev S8448x2048 : Shape := ⟨2, ![8448, 2048]⟩
abbrev S2048 : Shape := ⟨1, ![2048]⟩
abbrev S2048x10240 : Shape := ⟨2, ![2048, 10240]⟩
abbrev S_ : Shape := ⟨0, ![]⟩
abbrev S8448 : Shape := ⟨1, ![8448]⟩
abbrev S8448x1 : Shape := ⟨2, ![8448, 1]⟩
abbrev S1x2048 : Shape := ⟨2, ![1, 2048]⟩
abbrev S8448x10240 : Shape := ⟨2, ![8448, 10240]⟩

abbrev nBuf : Space → Nat
  | .hbm => 22
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x10240, .bf16⟩
  | .hbm, ⟨3, _⟩ => ⟨S8448x2048, .f32⟩
  | .hbm, ⟨4, _⟩ => ⟨S_, .f32⟩
  | .hbm, ⟨5, _⟩ => ⟨S8448, .f32⟩
  | .hbm, ⟨6, _⟩ => ⟨S8448x1, .f32⟩
  | .hbm, ⟨7, _⟩ => ⟨S_, .f32⟩
  | .hbm, ⟨8, _⟩ => ⟨S8448x1, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S8448x1, .f32⟩
  | .hbm, ⟨14, _⟩ => ⟨S8448x2048, .f32⟩
  | .hbm, ⟨15, _⟩ => ⟨S8448x2048, .f32⟩
  | .hbm, ⟨16, _⟩ => ⟨S1x2048, .f32⟩
  | .hbm, ⟨17, _⟩ => ⟨S8448x2048, .f32⟩
  | .hbm, ⟨18, _⟩ => ⟨S8448x2048, .f32⟩
  | .hbm, ⟨19, _⟩ => ⟨S2048x10240, .f32⟩
  | .hbm, ⟨20, _⟩ => ⟨S8448x10240, .f32⟩
  | .hbm, ⟨21, _⟩ => ⟨S8448x10240, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== SsdDt.lean ====
abbrev S8448x2048 : Shape := ⟨2, ![8448, 2048]⟩
abbrev S2048 : Shape := ⟨1, ![2048]⟩
abbrev S2048x128 : Shape := ⟨2, ![2048, 128]⟩
abbrev S1x2048 : Shape := ⟨2, ![1, 2048]⟩
abbrev S8448x128 : Shape := ⟨2, ![8448, 128]⟩
abbrev S1408x2048 : Shape := ⟨2, ![1408, 2048]⟩
abbrev S1408x128 : Shape := ⟨2, ![1408, 128]⟩
abbrev S1408 : Shape := ⟨1, ![1408]⟩
abbrev S1408x1 : Shape := ⟨2, ![1408, 1]⟩

abbrev nBuf : Space → Nat
  | .hbm => 5
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x128, .bf16⟩
  | .hbm, ⟨3, _⟩ => ⟨S1x2048, .f32⟩
  | .hbm, ⟨4, _⟩ => ⟨S8448x128, .f32⟩
  | .local _ .vmem, ⟨0, _⟩ => ⟨S1408x2048, .f32⟩
  | .local _ .vmem, ⟨1, _⟩ => ⟨S1408x2048, .f32⟩
  | .local _ .vmem, ⟨2, _⟩ => ⟨S1x2048, .f32⟩
  | .local _ .vmem, ⟨3, _⟩ => ⟨S2048x128, .bf16⟩
  | .local _ .vmem, ⟨4, _⟩ => ⟨S1408x128, .f32⟩
  | .local _ .vmem, ⟨5, _⟩ => ⟨S1408x128, .f32⟩
  | .local _ .vmem, ⟨6, _⟩ => ⟨S1408x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![6, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1408x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1408x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SsdDtRefIdeal.lean ====
abbrev S8448x2048 : Shape := ⟨2, ![8448, 2048]⟩
abbrev S2048 : Shape := ⟨1, ![2048]⟩
abbrev S2048x128 : Shape := ⟨2, ![2048, 128]⟩
abbrev S_ : Shape := ⟨0, ![]⟩
abbrev S8448 : Shape := ⟨1, ![8448]⟩
abbrev S8448x1 : Shape := ⟨2, ![8448, 1]⟩
abbrev S1x2048 : Shape := ⟨2, ![1, 2048]⟩
abbrev S8448x128 : Shape := ⟨2, ![8448, 128]⟩

abbrev nBuf : Space → Nat
  | .hbm => 21
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x128, .bf16⟩
  | .hbm, ⟨3, _⟩ => ⟨S8448x2048, .f32⟩
  | .hbm, ⟨4, _⟩ => ⟨S_, .f32⟩
  | .hbm, ⟨5, _⟩ => ⟨S8448, .f32⟩
  | .hbm, ⟨6, _⟩ => ⟨S8448x1, .f32⟩
  | .hbm, ⟨7, _⟩ => ⟨S_, .f32⟩
  | .hbm, ⟨8, _⟩ => ⟨S8448x1, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S8448x1, .f32⟩
  | .hbm, ⟨14, _⟩ => ⟨S8448x2048, .f32⟩
  | .hbm, ⟨15, _⟩ => ⟨S8448x2048, .f32⟩
  | .hbm, ⟨16, _⟩ => ⟨S1x2048, .f32⟩
  | .hbm, ⟨17, _⟩ => ⟨S8448x2048, .f32⟩
  | .hbm, ⟨18, _⟩ => ⟨S8448x2048, .f32⟩
  | .hbm, ⟨19, _⟩ => ⟨S2048x128, .f32⟩
  | .hbm, ⟨20, _⟩ => ⟨S8448x128, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== SsdOut.lean ====
abbrev S8448x4096 : Shape := ⟨2, ![8448, 4096]⟩
abbrev S4096x2048 : Shape := ⟨2, ![4096, 2048]⟩
abbrev S8448x2048 : Shape := ⟨2, ![8448, 2048]⟩
abbrev S768x4096 : Shape := ⟨2, ![768, 4096]⟩
abbrev S4096x1024 : Shape := ⟨2, ![4096, 1024]⟩
abbrev S768x1024 : Shape := ⟨2, ![768, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8448x4096, .bf16⟩
  | .hbm, ⟨1, _⟩ => ⟨S4096x2048, .bf16⟩
  | .hbm, ⟨2, _⟩ => ⟨S8448x2048, .f32⟩
  | .hbm, ⟨3, _⟩ => ⟨S8448x2048, .f32⟩
  | .local _ .vmem, ⟨0, _⟩ => ⟨S768x4096, .bf16⟩
  | .local _ .vmem, ⟨1, _⟩ => ⟨S768x4096, .bf16⟩
  | .local _ .vmem, ⟨2, _⟩ => ⟨S4096x1024, .bf16⟩
  | .local _ .vmem, ⟨3, _⟩ => ⟨S4096x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | .local _ .vmem, ⟨7, _⟩ => ⟨S768x1024, .f32⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SsdOutRefIdeal.lean ====
abbrev S8448x4096 : Shape := ⟨2, ![8448, 4096]⟩
abbrev S4096x2048 : Shape := ⟨2, ![4096, 2048]⟩
abbrev S8448x2048 : Shape := ⟨2, ![8448, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S4096x2048, .bf16⟩
  | .hbm, ⟨2, _⟩ => ⟨S8448x2048, .f32⟩
  | .hbm, ⟨3, _⟩ => ⟨S8448x4096, .f32⟩
  | .hbm, ⟨4, _⟩ => ⟨S4096x2048, .f32⟩
  | .hbm, ⟨5, _⟩ => ⟨S8448x2048, .f32⟩
  | .hbm, ⟨6, _⟩ => ⟨S8448x2048, .f32⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AttnOut.lean ====
abbrev S8448x2048 : Shape := ⟨2, ![8448, 2048]⟩
abbrev S2048x2048 : Shape := ⟨2, ![2048, 2048]⟩
abbrev S768x2048 : Shape := ⟨2, ![768, 2048]⟩
abbrev S2048x1024 : Shape := ⟨2, ![2048, 1024]⟩
abbrev S768x1024 : Shape := ⟨2, ![768, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .bf16⟩
  | .hbm, ⟨2, _⟩ => ⟨S8448x2048, .f32⟩
  | .hbm, ⟨3, _⟩ => ⟨S8448x2048, .f32⟩
  | .local _ .vmem, ⟨0, _⟩ => ⟨S768x2048, .bf16⟩
  | .local _ .vmem, ⟨1, _⟩ => ⟨S768x2048, .bf16⟩
  | .local _ .vmem, ⟨2, _⟩ => ⟨S2048x1024, .bf16⟩
  | .local _ .vmem, ⟨3, _⟩ => ⟨S2048x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | .local _ .vmem, ⟨7, _⟩ => ⟨S768x1024, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttnOutRefIdeal.lean ====
abbrev S8448x2048 : Shape := ⟨2, ![8448, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .bf16⟩
  | .hbm, ⟨2, _⟩ => ⟨S8448x2048, .f32⟩
  | .hbm, ⟨3, _⟩ => ⟨S8448x2048, .f32⟩
  | .hbm, ⟨4, _⟩ => ⟨S2048x2048, .f32⟩
  | .hbm, ⟨5, _⟩ => ⟨S8448x2048, .f32⟩
  | .hbm, ⟨6, _⟩ => ⟨S8448x2048, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Qkv.lean ====
abbrev S8448x2048 : Shape := ⟨2, ![8448, 2048]⟩
abbrev S2048 : Shape := ⟨1, ![2048]⟩
abbrev S2048x4096 : Shape := ⟨2, ![2048, 4096]⟩
abbrev S128 : Shape := ⟨1, ![128]⟩
abbrev S_ : Shape := ⟨0, ![]⟩
abbrev S112 : Shape := ⟨1, ![112]⟩
abbrev S16 : Shape := ⟨1, ![16]⟩
abbrev S64 : Shape := ⟨1, ![64]⟩
abbrev S64x64 : Shape := ⟨2, ![64, 64]⟩
abbrev S4096 : Shape := ⟨1, ![4096]⟩
abbrev S4224 : Shape := ⟨1, ![4224]⟩
abbrev S1x64 : Shape := ⟨2, ![1, 64]⟩
abbrev S32 : Shape := ⟨1, ![32]⟩
abbrev S4224x1 : Shape := ⟨2, ![4224, 1]⟩
abbrev S1x32 : Shape := ⟨2, ![1, 32]⟩
abbrev S4224x32 : Shape := ⟨2, ![4224, 32]⟩
abbrev S4224x128 : Shape := ⟨2, ![4224, 128]⟩
abbrev S1x128 : Shape := ⟨2, ![1, 128]⟩
abbrev S16x128 : Shape := ⟨2, ![16, 128]⟩
abbrev S8x128 : Shape := ⟨2, ![8, 128]⟩
abbrev S1024 : Shape := ⟨1, ![1024]⟩
abbrev S1x4096 : Shape := ⟨2, ![1, 4096]⟩
abbrev S1x2048 : Shape := ⟨2, ![1, 2048]⟩
abbrev S8448x4096 : Shape := ⟨2, ![8448, 4096]⟩
abbrev S1408x2048 : Shape := ⟨2, ![1408, 2048]⟩
abbrev S2048x512 : Shape := ⟨2, ![2048, 512]⟩
abbrev S1x512 : Shape := ⟨2, ![1, 512]⟩
abbrev S1408x128 : Shape := ⟨2, ![1408, 128]⟩
abbrev S1408x512 : Shape := ⟨2, ![1408, 512]⟩
abbrev S1408 : Shape := ⟨1, ![1408]⟩
abbrev S1408x1 : Shape := ⟨2, ![1408, 1]⟩
abbrev S1408x256 : Shape := ⟨2, ![1408, 256]⟩
abbrev S256x256 : Shape := ⟨2, ![256, 256]⟩
abbrev S1x256 : Shape := ⟨2, ![1, 256]⟩

abbrev nBuf : Space → Nat
  | .hbm => 74
  | .vmem => 14
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x4096, .bf16⟩
  | .hbm, ⟨3, _⟩ => ⟨S128, .f32⟩
  | .hbm, ⟨4, _⟩ => ⟨S128, .f32⟩
  | .hbm, ⟨5, _⟩ => ⟨S_, .i32⟩
  | .hbm, ⟨6, _⟩ => ⟨S112, .i32⟩
  | .hbm, ⟨7, _⟩ => ⟨S_, .i32⟩
  | .hbm, ⟨8, _⟩ => ⟨S16, .i32⟩
  | .hbm, ⟨9, _⟩ => ⟨S64, .i32⟩
  | .hbm, ⟨10, _⟩ => ⟨S64x64, .i32⟩
  | .hbm, ⟨11, _⟩ => ⟨S4096, .i32⟩
  | .hbm, ⟨12, _⟩ => ⟨S4224, .i32⟩
  | .hbm, ⟨13, _⟩ => ⟨S_, .i32⟩
  | .hbm, ⟨14, _⟩ => ⟨S112, .i32⟩
  | .hbm, ⟨15, _⟩ => ⟨S16, .i32⟩
  | .hbm, ⟨16, _⟩ => ⟨S64, .i32⟩
  | .hbm, ⟨17, _⟩ => ⟨S1x64, .i32⟩
  | .hbm, ⟨18, _⟩ => ⟨S64x64, .i32⟩
  | .hbm, ⟨19, _⟩ => ⟨S4096, .i32⟩
  | .hbm, ⟨20, _⟩ => ⟨S4224, .i32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S4224, .f32⟩
  | .hbm, ⟨36, _⟩ => ⟨S4224x1, .f32⟩
  | .hbm, ⟨37, _⟩ => ⟨S1x32, .f32⟩
  | .hbm, ⟨38, _⟩ => ⟨S4224x32, .f32⟩
  | .hbm, ⟨39, _⟩ => ⟨S4224x32, .f32⟩
  | .hbm, ⟨40, _⟩ => ⟨S4224x32, .f32⟩
  | .hbm, ⟨41, _⟩ => ⟨S4224, .f32⟩
  | .hbm, ⟨42, _⟩ => ⟨S4224x1, .f32⟩
  | .hbm, ⟨43, _⟩ => ⟨S1x32, .f32⟩
  | .hbm, ⟨44, _⟩ => ⟨S4224x32, .f32⟩
  | .hbm, ⟨45, _⟩ => ⟨S4224x32, .f32⟩
  | .hbm, ⟨46, _⟩ => ⟨S4224x32, .f32⟩
  | .hbm, ⟨47, _⟩ => ⟨S4224x32, .f32⟩
  | .hbm, ⟨48, _⟩ => ⟨S4224x32, .f32⟩
  | .hbm, ⟨49, _⟩ => ⟨S4224x32, .f32⟩
  | .hbm, ⟨50, _⟩ => ⟨S4224x32, .f32⟩
  | .hbm, ⟨51, _⟩ => ⟨S4224x128, .f32⟩
  | .hbm, ⟨52, _⟩ => ⟨S4224x32, .f32⟩
  | .hbm, ⟨53, _⟩ => ⟨S4224x32, .f32⟩
  | .hbm, ⟨54, _⟩ => ⟨S4224x32, .f32⟩
  | .hbm, ⟨55, _⟩ => ⟨S4224x32, .f32⟩
  | .hbm, ⟨56, _⟩ => ⟨S4224x32, .f32⟩
  | .hbm, ⟨57, _⟩ => ⟨S4224x32, .f32⟩
  | .hbm, ⟨58, _⟩ => ⟨S4224x128, .f32⟩
  | .hbm, ⟨59, _⟩ => ⟨S_, .f32⟩
  | .hbm, ⟨60, _⟩ => ⟨S128, .f32⟩
  | .hbm, ⟨61, _⟩ => ⟨S128, .f32⟩
  | .hbm, ⟨62, _⟩ => ⟨S1x128, .f32⟩
  | .hbm, ⟨63, _⟩ => ⟨S16x128, .f32⟩
  | .hbm, ⟨64, _⟩ => ⟨S2048, .f32⟩
  | .hbm, ⟨65, _⟩ => ⟨S1x128, .f32⟩
  | .hbm, ⟨66, _⟩ => ⟨S8x128, .f32⟩
  | .hbm, ⟨67, _⟩ => ⟨S1024, .f32⟩
  | .hbm, ⟨68, _⟩ => ⟨S_, .f32⟩
  | .hbm, ⟨69, _⟩ => ⟨S1024, .f32⟩
  | .hbm, ⟨70, _⟩ => ⟨S4096, .f32⟩
  | .hbm, ⟨71, _⟩ => ⟨S1x4096, .f32⟩
  | .hbm, ⟨72, _⟩ => ⟨S1x2048, .f32⟩
  | .hbm, ⟨73, _⟩ => ⟨S8448x4096, .bf16⟩
  | .local _ .vmem, ⟨0, _⟩ => ⟨S1408x2048, .f32⟩
  | .local _ .vmem, ⟨1, _⟩ => ⟨S1408x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1x512, .f32⟩
  | .local _ .vmem, ⟨6, _⟩ => ⟨S1x512, .f32⟩
  | .local _ .vmem, ⟨7, _⟩ => ⟨S1408x128, .f32⟩
  | .local _ .vmem, ⟨8, _⟩ => ⟨S1408x128, .f32⟩
  | .local _ .vmem, ⟨9, _⟩ => ⟨S1408x128, .f32⟩
  | .local _ .vmem, ⟨10, _⟩ => ⟨S1408x128, .f32⟩
  | .local _ .vmem, ⟨11, _⟩ => ⟨S1408x512, .bf16⟩
  | .local _ .vmem, ⟨12, _⟩ => ⟨S1408x512, .bf16⟩
  | .local _ .vmem, ⟨13, _⟩ => ⟨S1408x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_c_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_5 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_6 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![6, 8], ![false, false]⟩

def k0_cond2 (i : grid0.Coords) : BitVec 1 :=
  let arg1 : BitVec 32 := BitVec.ofNat 32 (i 1).val
  let c6_i32 : BitVec 32 := 6#32
  let v3 : BitVec 1 := Scalar.cmpi .slt arg1 c6_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c6_i32_2 : BitVec 32 := 6#32
  let v6 : BitVec 1 := Scalar.cmpi .sge arg1 c6_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1408x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1408x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1408x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== QkvRefIdeal.lean ====
abbrev S8448x2048 : Shape := ⟨2, ![8448, 2048]⟩
abbrev S2048 : Shape := ⟨1, ![2048]⟩
abbrev S2048x4096 : Shape := ⟨2, ![2048, 4096]⟩
abbrev S128 : Shape := ⟨1, ![128]⟩
abbrev S_ : Shape := ⟨0, ![]⟩
abbrev S112 : Shape := ⟨1, ![112]⟩
abbrev S16 : Shape := ⟨1, ![16]⟩
abbrev S64 : Shape := ⟨1, ![64]⟩
abbrev S64x64 : Shape := ⟨2, ![64, 64]⟩
abbrev S4096 : Shape := ⟨1, ![4096]⟩
abbrev S4224 : Shape := ⟨1, ![4224]⟩
abbrev S1x64 : Shape := ⟨2, ![1, 64]⟩
abbrev S32 : Shape := ⟨1, ![32]⟩
abbrev S4224x1 : Shape := ⟨2, ![4224, 1]⟩
abbrev S4224x2 : Shape := ⟨2, ![4224, 2]⟩
abbrev S4224x2x1 : Shape := ⟨3, ![4224, 2, 1]⟩
abbrev S1x1x32 : Shape := ⟨3, ![1, 1, 32]⟩
abbrev S4224x2x32 : Shape := ⟨3, ![4224, 2, 32]⟩
abbrev S8448 : Shape := ⟨1, ![8448]⟩
abbrev S8448x1 : Shape := ⟨2, ![8448, 1]⟩
abbrev S1x2048 : Shape := ⟨2, ![1, 2048]⟩
abbrev S8448x4096 : Shape := ⟨2, ![8448, 4096]⟩
abbrev S2x4224x4096 : Shape := ⟨3, ![2, 4224, 4096]⟩
abbrev S2x4224x2048 : Shape := ⟨3, ![2, 4224, 2048]⟩
abbrev S2x4224x1024 : Shape := ⟨3, ![2, 4224, 1024]⟩
abbrev S2x4224x16x128 : Shape := ⟨4, ![2, 4224, 16, 128]⟩
abbrev S2x4224x16 : Shape := ⟨3, ![2, 4224, 16]⟩
abbrev S2x4224x16x1 : Shape := ⟨4, ![2, 4224, 16, 1]⟩
abbrev S1x1x1x128 : Shape := ⟨4, ![1, 1, 1, 128]⟩
abbrev S2x4224x16x2x2x32 : Shape := ⟨6, ![2, 4224, 16, 2, 2, 32]⟩
abbrev S2x4224x16x2x1x32 : Shape := ⟨6, ![2, 4224, 16, 2, 1, 32]⟩
abbrev S2x4224x16x2x32 : Shape := ⟨5, ![2, 4224, 16, 2, 32]⟩
abbrev S4224x1x2x32 : Shape := ⟨4, ![4224, 1, 2, 32]⟩
abbrev S1x4224x1x2x32 : Shape := ⟨5, ![1, 4224, 1, 2, 32]⟩
abbrev S2x4224x8x128 : Shape := ⟨4, ![2, 4224, 8, 128]⟩
abbrev S2x4224x8 : Shape := ⟨3, ![2, 4224, 8]⟩
abbrev S2x4224x8x1 : Shape := ⟨4, ![2, 4224, 8, 1]⟩
abbrev S2x4224x8x2x2x32 : Shape := ⟨6, ![2, 4224, 8, 2, 2, 32]⟩
abbrev S2x4224x8x2x1x32 : Shape := ⟨6, ![2, 4224, 8, 2, 1, 32]⟩
abbrev S2x4224x8x2x32 : Shape := ⟨5, ![2, 4224, 8, 2, 32]⟩

abbrev nBuf : Space → Nat
  | .hbm => 160
  | .vmem => 0
  | .smem => 0
  | _ => 0

abbrev hbmTy0_0 (i : Nat) : BufTy := match i % 128 with
  | 0 => ⟨S8448x2048, .f32⟩
  | 1 => ⟨S2048, .f32⟩
  | 2 => ⟨S2048x4096, .bf16⟩
  | 3 => ⟨S128, .f32⟩
  | 4 => ⟨S128, .f32⟩
  | 5 => ⟨S_, .i32⟩
  | 6 => ⟨S112, .i32⟩
  | 7 => ⟨S_, .i32⟩
  | 8 => ⟨S16, .i32⟩
  | 9 => ⟨S64, .i32⟩
  | 10 => ⟨S64x64, .i32⟩
  | 11 => ⟨S4096, .i32⟩
  | 12 => ⟨S4224, .i32⟩
  | 13 => ⟨S_, .i32⟩
  | 14 => ⟨S112, .i32⟩
  | 15 => ⟨S16, .i32⟩
  | 16 => ⟨S64, .i32⟩
  | 17 => ⟨S1x64, .i32⟩
  | 18 => ⟨S64x64, .i32⟩
  | 19 => ⟨S4096, .i32⟩
  | 20 => ⟨S4224, .i32⟩
  | 21 => ⟨S32, .f32⟩
  | 22 => ⟨S_, .f32⟩
  | 23 => ⟨S32, .f32⟩
  | 24 => ⟨S32, .f32⟩
  | 25 => ⟨S_, .f32⟩
  | 26 => ⟨S32, .f32⟩
  | 27 => ⟨S32, .f32⟩
  | 28 => ⟨S32, .f32⟩
  | 29 => ⟨S_, .f32⟩
  | 30 => ⟨S32, .f32⟩
  | 31 => ⟨S32, .f32⟩
  | 32 => ⟨S_, .f32⟩
  | 33 => ⟨S32, .f32⟩
  | 34 => ⟨S32, .f32⟩
  | 35 => ⟨S4224x1, .i32⟩
  | 36 => ⟨S4224x1, .i32⟩
  | 37 => ⟨S4224x2, .i32⟩
  | 38 => ⟨S4224x2, .f32⟩
  | 39 => ⟨S4224x2x1, .f32⟩
  | 40 => ⟨S1x1x32, .f32⟩
  | 41 => ⟨S4224x2x32, .f32⟩
  | 42 => ⟨S4224x2x32, .f32⟩
  | 43 => ⟨S4224x2x32, .f32⟩
  | 44 => ⟨S4224x2x32, .f32⟩
  | 45 => ⟨S4224x2x32, .f32⟩
  | 46 => ⟨S8448x2048, .f32⟩
  | 47 => ⟨S_, .f32⟩
  | 48 => ⟨S8448, .f32⟩
  | 49 => ⟨S8448x1, .f32⟩
  | 50 => ⟨S_, .f32⟩
  | 51 => ⟨S8448x1, .f32⟩
  | 52 => ⟨S8448x1, .f32⟩
  | 53 => ⟨S_, .f32⟩
  | 54 => ⟨S8448x1, .f32⟩
  | 55 => ⟨S8448x1, .f32⟩
  | 56 => ⟨S8448x1, .f32⟩
  | 57 => ⟨S8448x2048, .f32⟩
  | 58 => ⟨S8448x2048, .f32⟩
  | 59 => ⟨S1x2048, .f32⟩
  | 60 => ⟨S8448x2048, .f32⟩
  | 61 => ⟨S8448x2048, .f32⟩
  | 62 => ⟨S2048x4096, .f32⟩
  | 63 => ⟨S8448x4096, .f32⟩
  | 64 => ⟨S2x4224x4096, .f32⟩
  | 65 => ⟨S2x4224x2048, .f32⟩
  | 66 => ⟨S2x4224x1024, .f32⟩
  | 67 => ⟨S2x4224x1024, .f32⟩
  | 68 => ⟨S2x4224x16x128, .f32⟩
  | 69 => ⟨S2x4224x16x128, .f32⟩
  | 70 => ⟨S_, .f32⟩
  | 71 => ⟨S2x4224x16, .f32⟩
  | 72 => ⟨S2x4224x16x1, .f32⟩
  | 73 => ⟨S_, .f32⟩
  | 74 => ⟨S2x4224x16x1, .f32⟩
  | 75 => ⟨S2x4224x16x1, .f32⟩
  | 76 => ⟨S_, .f32⟩
  | 77 => ⟨S2x4224x16x1, .f32⟩
  | 78 => ⟨S2x4224x16x1, .f32⟩
  | 79 => ⟨S2x4224x16x1, .f32⟩
  | 80 => ⟨S2x4224x16x128, .f32⟩
  | 81 => ⟨S2x4224x16x128, .f32⟩
  | 82 => ⟨S1x1x1x128, .f32⟩
  | 83 => ⟨S2x4224x16x128, .f32⟩
  | 84 => ⟨S2x4224x16x128, .f32⟩
  | 85 => ⟨S2x4224x16x2x2x32, .f32⟩
  | 86 => ⟨S2x4224x16x2x1x32, .f32⟩
  | 87 => ⟨S2x4224x16x2x32, .f32⟩
  | 88 => ⟨S2x4224x16x2x1x32, .f32⟩
  | 89 => ⟨S2x4224x16x2x32, .f32⟩
  | 90 => ⟨S4224x1x2x32, .f32⟩
  | 91 => ⟨S4224x1x2x32, .f32⟩
  | 92 => ⟨S1x4224x1x2x32, .f32⟩
  | 93 => ⟨S2x4224x16x2x32, .f32⟩
  | 94 => ⟨S2x4224x16x2x32, .f32⟩
  | 95 => ⟨S1x4224x1x2x32, .f32⟩
  | 96 => ⟨S2x4224x16x2x32, .f32⟩
  | 97 => ⟨S2x4224x16x2x32, .f32⟩
  | 98 => ⟨S2x4224x16x2x32, .f32⟩
  | 99 => ⟨S1x4224x1x2x32, .f32⟩
  | 100 => ⟨S2x4224x16x2x32, .f32⟩
  | 101 => ⟨S2x4224x16x2x32, .f32⟩
  | 102 => ⟨S1x4224x1x2x32, .f32⟩
  | 103 => ⟨S2x4224x16x2x32, .f32⟩
  | 104 => ⟨S2x4224x16x2x32, .f32⟩
  | 105 => ⟨S2x4224x16x2x32, .f32⟩
  | 106 => ⟨S2x4224x16x2x1x32, .f32⟩
  | 107 => ⟨S2x4224x16x2x1x32, .f32⟩
  | 108 => ⟨S2x4224x16x2x2x32, .f32⟩
  | 109 => ⟨S2x4224x16x128, .f32⟩
  | 110 => ⟨S2x4224x8x128, .f32⟩
  | 111 => ⟨S2x4224x8x128, .f32⟩
  | 112 => ⟨S_, .f32⟩
  | 113 => ⟨S2x4224x8, .f32⟩
  | 114 => ⟨S2x4224x8x1, .f32⟩
  | 115 => ⟨S_, .f32⟩
  | 116 => ⟨S2x4224x8x1, .f32⟩
  | 117 => ⟨S2x4224x8x1, .f32⟩
  | 118 => ⟨S_, .f32⟩
  | 119 => ⟨S2x4224x8x1, .f32⟩
  | 120 => ⟨S2x4224x8x1, .f32⟩
  | 121 => ⟨S2x4224x8x1, .f32⟩
  | 122 => ⟨S2x4224x8x128, .f32⟩
  | 123 => ⟨S2x4224x8x128, .f32⟩
  | 124 => ⟨S1x1x1x128, .f32⟩
  | 125 => ⟨S2x4224x8x128, .f32⟩
  | 126 => ⟨S2x4224x8x128, .f32⟩
  | 127 => ⟨S2x4224x8x2x2x32, .f32⟩
  | _ => ⟨S8448x2048, .f32⟩

abbrev hbmTy0_1 (i : Nat) : BufTy := match i % 128 with
  | 0 => ⟨S2x4224x8x2x1x32, .f32⟩
  | 1 => ⟨S2x4224x8x2x32, .f32⟩
  | 2 => ⟨S2x4224x8x2x1x32, .f32⟩
  | 3 => ⟨S2x4224x8x2x32, .f32⟩
  | 4 => ⟨S4224x1x2x32, .f32⟩
  | 5 => ⟨S4224x1x2x32, .f32⟩
  | 6 => ⟨S1x4224x1x2x32, .f32⟩
  | 7 => ⟨S2x4224x8x2x32, .f32⟩
  | 8 => ⟨S2x4224x8x2x32, .f32⟩
  | 9 => ⟨S1x4224x1x2x32, .f32⟩
  | 10 => ⟨S2x4224x8x2x32, .f32⟩
  | 11 => ⟨S2x4224x8x2x32, .f32⟩
  | 12 => ⟨S2x4224x8x2x32, .f32⟩
  | 13 => ⟨S1x4224x1x2x32, .f32⟩
  | 14 => ⟨S2x4224x8x2x32, .f32⟩
  | 15 => ⟨S2x4224x8x2x32, .f32⟩
  | 16 => ⟨S1x4224x1x2x32, .f32⟩
  | 17 => ⟨S2x4224x8x2x32, .f32⟩
  | 18 => ⟨S2x4224x8x2x32, .f32⟩
  | 19 => ⟨S2x4224x8x2x32, .f32⟩
  | 20 => ⟨S2x4224x8x2x1x32, .f32⟩
  | 21 => ⟨S2x4224x8x2x1x32, .f32⟩
  | 22 => ⟨S2x4224x8x2x2x32, .f32⟩
  | 23 => ⟨S2x4224x8x128, .f32⟩
  | 24 => ⟨S_, .f32⟩
  | 25 => ⟨S2x4224x16x128, .f32⟩
  | 26 => ⟨S2x4224x16x128, .f32⟩
  | 27 => ⟨S2x4224x2048, .f32⟩
  | 28 => ⟨S2x4224x1024, .f32⟩
  | 29 => ⟨S2x4224x4096, .f32⟩
  | 30 => ⟨S8448x4096, .f32⟩
  | 31 => ⟨S8448x4096, .bf16⟩
  | _ => ⟨S8448x2048, .f32⟩

abbrev hbmTy (i : Nat) : BufTy := match i / 128 with
  | 0 => hbmTy0_0 i
  | 1 => hbmTy0_1 i
  | _ => ⟨S8448x2048, .f32⟩

abbrev bufTy : (tb : Table) → Fin (tcTables nBuf tb) → BufTy
  | .hbm, ⟨i, _⟩ => hbmTy i
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_c_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_8 : Ref sig .tc := ⟨.hbm, 70, rfl⟩
abbrev main_v55 : Ref sig .tc := ⟨.hbm, 71, rfl⟩
abbrev main_v56 : Ref sig .tc := ⟨.hbm, 72, rfl⟩
abbrev main_cst_9 : Ref sig .tc := ⟨.hbm, 73, rfl⟩
abbrev main_v57 : Ref sig .tc := ⟨.hbm, 74, rfl⟩
abbrev main_v58 : Ref sig .tc := ⟨.hbm, 75, rfl⟩
abbrev main_cst_10 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_cst_11 : Ref sig .tc := ⟨.hbm, 112, rfl⟩
abbrev main_v94 : Ref sig .tc := ⟨.hbm, 113, rfl⟩
abbrev main_v95 : Ref sig .tc := ⟨.hbm, 114, rfl⟩
abbrev main_cst_12 : Ref sig .tc := ⟨.hbm, 115, rfl⟩
abbrev main_v96 : Ref sig .tc := ⟨.hbm, 116, rfl⟩
abbrev main_v97 : Ref sig .tc := ⟨.hbm, 117, rfl⟩
abbrev main_cst_13 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_cst_14 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩

abbrev nD : Nat := 1
abbrev τ : Topo := Topo.v7x

variable {F : FTy → Type} [FloatOps F]
-- ==== FfnNext.lean ====
abbrev S8448x2048 : Shape := ⟨2, ![8448, 2048]⟩
abbrev S2048 : Shape := ⟨1, ![2048]⟩
abbrev S2048x12288 : Shape := ⟨2, ![2048, 12288]⟩
abbrev S6144x2048 : Shape := ⟨2, ![6144, 2048]⟩
abbrev S4x2x2048x12288 : Shape := ⟨4, ![4, 2, 2048, 12288]⟩
abbrev S4x2x6144x2048 : Shape := ⟨4, ![4, 2, 6144, 2048]⟩
abbrev S1x2048 : Shape := ⟨2, ![1, 2048]⟩
abbrev S768x2048 : Shape := ⟨2, ![768, 2048]⟩
abbrev S2048x768 : Shape := ⟨2, ![2048, 768]⟩
abbrev S1x1x32x12288 : Shape := ⟨4, ![1, 1, 32, 12288]⟩
abbrev S1x1x96x2048 : Shape := ⟨4, ![1, 1, 96, 2048]⟩
abbrev S32x12288 : Shape := ⟨2, ![32, 12288]⟩
abbrev S96x2048 : Shape := ⟨2, ![96, 2048]⟩
abbrev S768 : Shape := ⟨1, ![768]⟩
abbrev S768x1 : Shape := ⟨2, ![768, 1]⟩
abbrev S768x768 : Shape := ⟨2, ![768, 768]⟩

abbrev nBuf : Space → Nat
  | .hbm => 10
  | .vmem => 20
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x12288, .bf16⟩
  | .hbm, ⟨3, _⟩ => ⟨S6144x2048, .bf16⟩
  | .hbm, ⟨4, _⟩ => ⟨S4x2x2048x12288, .f32⟩
  | .hbm, ⟨5, _⟩ => ⟨S4x2x6144x2048, .f32⟩
  | .hbm, ⟨6, _⟩ => ⟨S1x2048, .f32⟩
  | .hbm, ⟨7, _⟩ => ⟨S8448x2048, .f32⟩
  | .hbm, ⟨8, _⟩ => ⟨S2048x12288, .bf16⟩
  | .hbm, ⟨9, _⟩ => ⟨S6144x2048, .bf16⟩
  | .local _ .vmem, ⟨0, _⟩ => ⟨S768x2048, .f32⟩
  | .local _ .vmem, ⟨1, _⟩ => ⟨S768x2048, .f32⟩
  | .local _ .vmem, ⟨2, _⟩ => ⟨S1x2048, .f32⟩
  | .local _ .vmem, ⟨3, _⟩ => ⟨S2048x768, .bf16⟩
  | .local _ .vmem, ⟨4, _⟩ => ⟨S2048x768, .bf16⟩
  | .local _ .vmem, ⟨5, _⟩ => ⟨S2048x768, .bf16⟩
  | .local _ .vmem, ⟨6, _⟩ => ⟨S2048x768, .bf16⟩
  | .local _ .vmem, ⟨7, _⟩ => ⟨S768x2048, .bf16⟩
  | .local _ .vmem, ⟨8, _⟩ => ⟨S768x2048, .bf16⟩
  | .local _ .vmem, ⟨9, _⟩ => ⟨S1x1x32x12288, .f32⟩
  | .local _ .vmem, ⟨10, _⟩ => ⟨S1x1x32x12288, .f32⟩
  | .local _ .vmem, ⟨11, _⟩ => ⟨S1x1x96x2048, .f32⟩
  | .local _ .vmem, ⟨12, _⟩ => ⟨S1x1x96x2048, .f32⟩
  | .local _ .vmem, ⟨13, _⟩ => ⟨S768x2048, .f32⟩
  | .local _ .vmem, ⟨14, _⟩ => ⟨S768x2048, .f32⟩
  | .local _ .vmem, ⟨15, _⟩ => ⟨S32x12288, .bf16⟩
  | .local _ .vmem, ⟨16, _⟩ => ⟨S32x12288, .bf16⟩
  | .local _ .vmem, ⟨17, _⟩ => ⟨S96x2048, .bf16⟩
  | .local _ .vmem, ⟨18, _⟩ => ⟨S96x2048, .bf16⟩
  | .local _ .vmem, ⟨19, _⟩ => ⟨S768x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c1_i32 : BitVec 32 := 1#32
  let c0_i32 : BitVec 32 := 0#32
  let c0_i32_0 : BitVec 32 := 0#32
  let c0_i32_1 : BitVec 32 := 0#32
  ![c1_i32.toNat, c0_i32.toNat, v2.toNat, c0_i32_0.toNat]

def cc0_transform_6 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c1_i32 : BitVec 32 := 1#32
  let c0_i32 : BitVec 32 := 0#32
  let c0_i32_0 : BitVec 32 := 0#32
  let c0_i32_1 : BitVec 32 := 0#32
  ![c1_i32.toNat, c0_i32.toNat, v2.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S768x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x32x12288 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x96x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S768x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S32x12288 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S96x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnNextRefIdeal.lean ====
abbrev S8448x2048 : Shape := ⟨2, ![8448, 2048]⟩
abbrev S2048 : Shape := ⟨1, ![2048]⟩
abbrev S2048x12288 : Shape := ⟨2, ![2048, 12288]⟩
abbrev S6144x2048 : Shape := ⟨2, ![6144, 2048]⟩
abbrev S4x2x2048x12288 : Shape := ⟨4, ![4, 2, 2048, 12288]⟩
abbrev S4x2x6144x2048 : Shape := ⟨4, ![4, 2, 6144, 2048]⟩
abbrev S1x1x2048x12288 : Shape := ⟨4, ![1, 1, 2048, 12288]⟩
abbrev S1x1x6144x2048 : Shape := ⟨4, ![1, 1, 6144, 2048]⟩
abbrev S_ : Shape := ⟨0, ![]⟩
abbrev S8448 : Shape := ⟨1, ![8448]⟩
abbrev S8448x1 : Shape := ⟨2, ![8448, 1]⟩
abbrev S1x2048 : Shape := ⟨2, ![1, 2048]⟩
abbrev S8448x12288 : Shape := ⟨2, ![8448, 12288]⟩
abbrev S8448x6144 : Shape := ⟨2, ![8448, 6144]⟩

abbrev nBuf : Space → Nat
  | .hbm => 48
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x12288, .bf16⟩
  | .hbm, ⟨3, _⟩ => ⟨S6144x2048, .bf16⟩
  | .hbm, ⟨4, _⟩ => ⟨S4x2x2048x12288, .f32⟩
  | .hbm, ⟨5, _⟩ => ⟨S4x2x6144x2048, .f32⟩
  | .hbm, ⟨6, _⟩ => ⟨S1x1x2048x12288, .f32⟩
  | .hbm, ⟨7, _⟩ => ⟨S2048x12288, .f32⟩
  | .hbm, ⟨8, _⟩ => ⟨S1x1x6144x2048, .f32⟩
  | .hbm, ⟨9, _⟩ => ⟨S6144x2048, .f32⟩
  | .hbm, ⟨10, _⟩ => ⟨S8448x2048, .f32⟩
  | .hbm, ⟨11, _⟩ => ⟨S_, .f32⟩
  | .hbm, ⟨12, _⟩ => ⟨S8448, .f32⟩
  | .hbm, ⟨13, _⟩ => ⟨S8448x1, .f32⟩
  | .hbm, ⟨14, _⟩ => ⟨S_, .f32⟩
  | .hbm, ⟨15, _⟩ => ⟨S8448x1, .f32⟩
  | .hbm, ⟨16, _⟩ => ⟨S8448x1, .f32⟩
  | .hbm, ⟨17, _⟩ => ⟨S_, .f32⟩
  | .hbm, ⟨18, _⟩ => ⟨S8448x1, .f32⟩
  | .hbm, ⟨19, _⟩ => ⟨S8448x1, .f32⟩
  | .hbm, ⟨20, _⟩ => ⟨S8448x1, .f32⟩
  | .hbm, ⟨21, _⟩ => ⟨S8448x2048, .f32⟩
  | .hbm, ⟨22, _⟩ => ⟨S8448x2048, .f32⟩
  | .hbm, ⟨23, _⟩ => ⟨S1x2048, .f32⟩
  | .hbm, ⟨24, _⟩ => ⟨S8448x2048, .f32⟩
  | .hbm, ⟨25, _⟩ => ⟨S8448x2048, .f32⟩
  | .hbm, ⟨26, _⟩ => ⟨S2048x12288, .f32⟩
  | .hbm, ⟨27, _⟩ => ⟨S8448x12288, .f32⟩
  | .hbm, ⟨28, _⟩ => ⟨S8448x6144, .f32⟩
  | .hbm, ⟨29, _⟩ => ⟨S8448x6144, .f32⟩
  | .hbm, ⟨30, _⟩ => ⟨S8448x6144, .f32⟩
  | .hbm, ⟨31, _⟩ => ⟨S8448x6144, .f32⟩
  | .hbm, ⟨32, _⟩ => ⟨S_, .f32⟩
  | .hbm, ⟨33, _⟩ => ⟨S8448x6144, .f32⟩
  | .hbm, ⟨34, _⟩ => ⟨S8448x6144, .f32⟩
  | .hbm, ⟨35, _⟩ => ⟨S_, .f32⟩
  | .hbm, ⟨36, _⟩ => ⟨S8448x6144, .f32⟩
  | .hbm, ⟨37, _⟩ => ⟨S8448x6144, .f32⟩
  | .hbm, ⟨38, _⟩ => ⟨S8448x6144, .f32⟩
  | .hbm, ⟨39, _⟩ => ⟨S8448x6144, .f32⟩
  | .hbm, ⟨40, _⟩ => ⟨S6144x2048, .f32⟩
  | .hbm, ⟨41, _⟩ => ⟨S8448x2048, .f32⟩
  | .hbm, ⟨42, _⟩ => ⟨S_, .f32⟩
  | .hbm, ⟨43, _⟩ => ⟨S8448x2048, .f32⟩
  | .hbm, ⟨44, _⟩ => ⟨S8448x2048, .f32⟩
  | .hbm, ⟨45, _⟩ => ⟨S8448x2048, .f32⟩
  | .hbm, ⟨46, _⟩ => ⟨S2048x12288, .bf16⟩
  | .hbm, ⟨47, _⟩ => ⟨S6144x2048, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩

abbrev nD : Nat := 1
abbrev τ : Topo := Topo.v7x

variable {F : FTy → Type} [FloatOps F]
-- ==== FfnAttn.lean ====
abbrev S8448x2048 : Shape := ⟨2, ![8448, 2048]⟩
abbrev S2048 : Shape := ⟨1, ![2048]⟩
abbrev S2048x12288 : Shape := ⟨2, ![2048, 12288]⟩
abbrev S6144x2048 : Shape := ⟨2, ![6144, 2048]⟩
abbrev S2x2048x4096 : Shape := ⟨3, ![2, 2048, 4096]⟩
abbrev S2x2048x2048 : Shape := ⟨3, ![2, 2048, 2048]⟩
abbrev S4x2x2048x12288 : Shape := ⟨4, ![4, 2, 2048, 12288]⟩
abbrev S4x2x6144x2048 : Shape := ⟨4, ![4, 2, 6144, 2048]⟩
abbrev S1x2048 : Shape := ⟨2, ![1, 2048]⟩
abbrev S2048x4096 : Shape := ⟨2, ![2048, 4096]⟩
abbrev S2048x2048 : Shape := ⟨2, ![2048, 2048]⟩
abbrev S768x2048 : Shape := ⟨2, ![768, 2048]⟩
abbrev S2048x512 : Shape := ⟨2, ![2048, 512]⟩
abbrev S512x2048 : Shape := ⟨2, ![512, 2048]⟩
abbrev S1x16x4096 : Shape := ⟨3, ![1, 16, 4096]⟩
abbrev S1x16x2048 : Shape := ⟨3, ![1, 16, 2048]⟩
abbrev S1x1x16x12288 : Shape := ⟨4, ![1, 1, 16, 12288]⟩
abbrev S1x1x48x2048 : Shape := ⟨4, ![1, 1, 48, 2048]⟩
abbrev S16x4096 : Shape := ⟨2, ![16, 4096]⟩
abbrev S16x2048 : Shape := ⟨2, ![16, 2048]⟩
abbrev S16x12288 : Shape := ⟨2, ![16, 12288]⟩
abbrev S48x2048 : Shape := ⟨2, ![48, 2048]⟩
abbrev S768 : Shape := ⟨1, ![768]⟩
abbrev S768x1 : Shape := ⟨2, ![768, 1]⟩
abbrev S768x512 : Shape := ⟨2, ![768, 512]⟩

abbrev nBuf : Space → Nat
  | .hbm => 14
  | .vmem => 28
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x12288, .bf16⟩
  | .hbm, ⟨3, _⟩ => ⟨S6144x2048, .bf16⟩
  | .hbm, ⟨4, _⟩ => ⟨S2x2048x4096, .f32⟩
  | .hbm, ⟨5, _⟩ => ⟨S2x2048x2048, .f32⟩
  | .hbm, ⟨6, _⟩ => ⟨S4x2x2048x12288, .f32⟩
  | .hbm, ⟨7, _⟩ => ⟨S4x2x6144x2048, .f32⟩
  | .hbm, ⟨8, _⟩ => ⟨S1x2048, .f32⟩
  | .hbm, ⟨9, _⟩ => ⟨S8448x2048, .f32⟩
  | .hbm, ⟨10, _⟩ => ⟨S2048x4096, .bf16⟩
  | .hbm, ⟨11, _⟩ => ⟨S2048x2048, .bf16⟩
  | .hbm, ⟨12, _⟩ => ⟨S2048x12288, .bf16⟩
  | .hbm, ⟨13, _⟩ => ⟨S6144x2048, .bf16⟩
  | .local _ .vmem, ⟨0, _⟩ => ⟨S768x2048, .f32⟩
  | .local _ .vmem, ⟨1, _⟩ => ⟨S768x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x16x4096, .f32⟩
  | .local _ .vmem, ⟨10, _⟩ => ⟨S1x16x4096, .f32⟩
  | .local _ .vmem, ⟨11, _⟩ => ⟨S1x16x2048, .f32⟩
  | .local _ .vmem, ⟨12, _⟩ => ⟨S1x16x2048, .f32⟩
  | .local _ .vmem, ⟨13, _⟩ => ⟨S1x1x16x12288, .f32⟩
  | .local _ .vmem, ⟨14, _⟩ => ⟨S1x1x16x12288, .f32⟩
  | .local _ .vmem, ⟨15, _⟩ => ⟨S1x1x48x2048, .f32⟩
  | .local _ .vmem, ⟨16, _⟩ => ⟨S1x1x48x2048, .f32⟩
  | .local _ .vmem, ⟨17, _⟩ => ⟨S768x2048, .f32⟩
  | .local _ .vmem, ⟨18, _⟩ => ⟨S768x2048, .f32⟩
  | .local _ .vmem, ⟨19, _⟩ => ⟨S16x4096, .bf16⟩
  | .local _ .vmem, ⟨20, _⟩ => ⟨S16x4096, .bf16⟩
  | .local _ .vmem, ⟨21, _⟩ => ⟨S16x2048, .bf16⟩
  | .local _ .vmem, ⟨22, _⟩ => ⟨S16x2048, .bf16⟩
  | .local _ .vmem, ⟨23, _⟩ => ⟨S16x12288, .bf16⟩
  | .local _ .vmem, ⟨24, _⟩ => ⟨S16x12288, .bf16⟩
  | .local _ .vmem, ⟨25, _⟩ => ⟨S48x2048, .bf16⟩
  | .local _ .vmem, ⟨26, _⟩ => ⟨S48x2048, .bf16⟩
  | .local _ .vmem, ⟨27, _⟩ => ⟨S768x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨2, ![11, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi arg1 c12_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_7 (i : grid0.Coords) : Fin 4 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c127_i32 : BitVec 32 := 127#32
  let v2 : BitVec 32 := Scalar.minsi v1 c127_i32
  let c1_i32 : BitVec 32 := 1#32
  let c1_i32_0 : BitVec 32 := 1#32
  let c0_i32 : BitVec 32 := 0#32
  let c0_i32_1 : BitVec 32 := 0#32
  ![c1_i32.toNat, c1_i32_0.toNat, v2.toNat, c0_i32.toNat]

def cc0_transform_8 (i : grid0.Coords) : Fin 4 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c127_i32 : BitVec 32 := 127#32
  let v2 : BitVec 32 := Scalar.minsi v1 c127_i32
  let c1_i32 : BitVec 32 := 1#32
  let c1_i32_0 : BitVec 32 := 1#32
  let c0_i32 : BitVec 32 := 0#32
  let c0_i32_1 : BitVec 32 := 0#32
  ![c1_i32.toNat, c1_i32_0.toNat, v2.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_13 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x16x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x16x12288 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x48x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S768x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S16x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S16x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S16x12288 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S48x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== FfnAttnRefIdeal.lean ====
abbrev S8448x2048 : Shape := ⟨2, ![8448, 2048]⟩
abbrev S2048 : Shape := ⟨1, ![2048]⟩
abbrev S2048x12288 : Shape := ⟨2, ![2048, 12288]⟩
abbrev S6144x2048 : Shape := ⟨2, ![6144, 2048]⟩
abbrev S2x2048x4096 : Shape := ⟨3, ![2, 2048, 4096]⟩
abbrev S2x2048x2048 : Shape := ⟨3, ![2, 2048, 2048]⟩
abbrev S4x2x2048x12288 : Shape := ⟨4, ![4, 2, 2048, 12288]⟩
abbrev S4x2x6144x2048 : Shape := ⟨4, ![4, 2, 6144, 2048]⟩
abbrev S1x2048x4096 : Shape := ⟨3, ![1, 2048, 4096]⟩
abbrev S2048x4096 : Shape := ⟨2, ![2048, 4096]⟩
abbrev S1x2048x2048 : Shape := ⟨3, ![1, 2048, 2048]⟩
abbrev S2048x2048 : Shape := ⟨2, ![2048, 2048]⟩
abbrev S1x1x2048x12288 : Shape := ⟨4, ![1, 1, 2048, 12288]⟩
abbrev S1x1x6144x2048 : Shape := ⟨4, ![1, 1, 6144, 2048]⟩
abbrev S_ : Shape := ⟨0, ![]⟩
abbrev S8448 : Shape := ⟨1, ![8448]⟩
abbrev S8448x1 : Shape := ⟨2, ![8448, 1]⟩
abbrev S1x2048 : Shape := ⟨2, ![1, 2048]⟩
abbrev S8448x12288 : Shape := ⟨2, ![8448, 12288]⟩
abbrev S8448x6144 : Shape := ⟨2, ![8448, 6144]⟩

abbrev nBuf : Space → Nat
  | .hbm => 56
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x12288, .bf16⟩
  | .hbm, ⟨3, _⟩ => ⟨S6144x2048, .bf16⟩
  | .hbm, ⟨4, _⟩ => ⟨S2x2048x4096, .f32⟩
  | .hbm, ⟨5, _⟩ => ⟨S2x2048x2048, .f32⟩
  | .hbm, ⟨6, _⟩ => ⟨S4x2x2048x12288, .f32⟩
  | .hbm, ⟨7, _⟩ => ⟨S4x2x6144x2048, .f32⟩
  | .hbm, ⟨8, _⟩ => ⟨S1x2048x4096, .f32⟩
  | .hbm, ⟨9, _⟩ => ⟨S2048x4096, .f32⟩
  | .hbm, ⟨10, _⟩ => ⟨S1x2048x2048, .f32⟩
  | .hbm, ⟨11, _⟩ => ⟨S2048x2048, .f32⟩
  | .hbm, ⟨12, _⟩ => ⟨S1x1x2048x12288, .f32⟩
  | .hbm, ⟨13, _⟩ => ⟨S2048x12288, .f32⟩
  | .hbm, ⟨14, _⟩ => ⟨S1x1x6144x2048, .f32⟩
  | .hbm, ⟨15, _⟩ => ⟨S6144x2048, .f32⟩
  | .hbm, ⟨16, _⟩ => ⟨S8448x2048, .f32⟩
  | .hbm, ⟨17, _⟩ => ⟨S_, .f32⟩
  | .hbm, ⟨18, _⟩ => ⟨S8448, .f32⟩
  | .hbm, ⟨19, _⟩ => ⟨S8448x1, .f32⟩
  | .hbm, ⟨20, _⟩ => ⟨S_, .f32⟩
  | .hbm, ⟨21, _⟩ => ⟨S8448x1, .f32⟩
  | .hbm, ⟨22, _⟩ => ⟨S8448x1, .f32⟩
  | .hbm, ⟨23, _⟩ => ⟨S_, .f32⟩
  | .hbm, ⟨24, _⟩ => ⟨S8448x1, .f32⟩
  | .hbm, ⟨25, _⟩ => ⟨S8448x1, .f32⟩
  | .hbm, ⟨26, _⟩ => ⟨S8448x1, .f32⟩
  | .hbm, ⟨27, _⟩ => ⟨S8448x2048, .f32⟩
  | .hbm, ⟨28, _⟩ => ⟨S8448x2048, .f32⟩
  | .hbm, ⟨29, _⟩ => ⟨S1x2048, .f32⟩
  | .hbm, ⟨30, _⟩ => ⟨S8448x2048, .f32⟩
  | .hbm, ⟨31, _⟩ => ⟨S8448x2048, .f32⟩
  | .hbm, ⟨32, _⟩ => ⟨S2048x12288, .f32⟩
  | .hbm, ⟨33, _⟩ => ⟨S8448x12288, .f32⟩
  | .hbm, ⟨34, _⟩ => ⟨S8448x6144, .f32⟩
  | .hbm, ⟨35, _⟩ => ⟨S8448x6144, .f32⟩
  | .hbm, ⟨36, _⟩ => ⟨S8448x6144, .f32⟩
  | .hbm, ⟨37, _⟩ => ⟨S8448x6144, .f32⟩
  | .hbm, ⟨38, _⟩ => ⟨S_, .f32⟩
  | .hbm, ⟨39, _⟩ => ⟨S8448x6144, .f32⟩
  | .hbm, ⟨40, _⟩ => ⟨S8448x6144, .f32⟩
  | .hbm, ⟨41, _⟩ => ⟨S_, .f32⟩
  | .hbm, ⟨42, _⟩ => ⟨S8448x6144, .f32⟩
  | .hbm, ⟨43, _⟩ => ⟨S8448x6144, .f32⟩
  | .hbm, ⟨44, _⟩ => ⟨S8448x6144, .f32⟩
  | .hbm, ⟨45, _⟩ => ⟨S8448x6144, .f32⟩
  | .hbm, ⟨46, _⟩ => ⟨S6144x2048, .f32⟩
  | .hbm, ⟨47, _⟩ => ⟨S8448x2048, .f32⟩
  | .hbm, ⟨48, _⟩ => ⟨S_, .f32⟩
  | .hbm, ⟨49, _⟩ => ⟨S8448x2048, .f32⟩
  | .hbm, ⟨50, _⟩ => ⟨S8448x2048, .f32⟩
  | .hbm, ⟨51, _⟩ => ⟨S8448x2048, .f32⟩
  | .hbm, ⟨52, _⟩ => ⟨S2048x4096, .bf16⟩
  | .hbm, ⟨53, _⟩ => ⟨S2048x2048, .bf16⟩
  | .hbm, ⟨54, _⟩ => ⟨S2048x12288, .bf16⟩
  | .hbm, ⟨55, _⟩ => ⟨S6144x2048, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_2 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== FfnSsd.lean ====
abbrev S8448x2048 : Shape := ⟨2, ![8448, 2048]⟩
abbrev S2048 : Shape := ⟨1, ![2048]⟩
abbrev S2048x12288 : Shape := ⟨2, ![2048, 12288]⟩
abbrev S6144x2048 : Shape := ⟨2, ![6144, 2048]⟩
abbrev S2x2048x10368 : Shape := ⟨3, ![2, 2048, 10368]⟩
abbrev S2x4096x2048 : Shape := ⟨3, ![2, 4096, 2048]⟩
abbrev S4x2x2048x12288 : Shape := ⟨4, ![4, 2, 2048, 12288]⟩
abbrev S4x2x6144x2048 : Shape := ⟨4, ![4, 2, 6144, 2048]⟩
abbrev S1x2048 : Shape := ⟨2, ![1, 2048]⟩
abbrev S2048x10240 : Shape := ⟨2, ![2048, 10240]⟩
abbrev S2048x128 : Shape := ⟨2, ![2048, 128]⟩
abbrev S4096x2048 : Shape := ⟨2, ![4096, 2048]⟩
abbrev S768x2048 : Shape := ⟨2, ![768, 2048]⟩
abbrev S2048x512 : Shape := ⟨2, ![2048, 512]⟩
abbrev S512x2048 : Shape := ⟨2, ![512, 2048]⟩
abbrev S1x16x10240 : Shape := ⟨3, ![1, 16, 10240]⟩
abbrev S1x16x128 : Shape := ⟨3, ![1, 16, 128]⟩
abbrev S1x32x2048 : Shape := ⟨3, ![1, 32, 2048]⟩
abbrev S1x1x16x12288 : Shape := ⟨4, ![1, 1, 16, 12288]⟩
abbrev S1x1x48x2048 : Shape := ⟨4, ![1, 1, 48, 2048]⟩
abbrev S16x10240 : Shape := ⟨2, ![16, 10240]⟩
abbrev S16x128 : Shape := ⟨2, ![16, 128]⟩
abbrev S32x2048 : Shape := ⟨2, ![32, 2048]⟩
abbrev S16x12288 : Shape := ⟨2, ![16, 12288]⟩
abbrev S48x2048 : Shape := ⟨2, ![48, 2048]⟩
abbrev S768 : Shape := ⟨1, ![768]⟩
abbrev S768x1 : Shape := ⟨2, ![768, 1]⟩
abbrev S768x512 : Shape := ⟨2, ![768, 512]⟩

abbrev nBuf : Space → Nat
  | .hbm => 15
  | .vmem => 32
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x12288, .bf16⟩
  | .hbm, ⟨3, _⟩ => ⟨S6144x2048, .bf16⟩
  | .hbm, ⟨4, _⟩ => ⟨S2x2048x10368, .f32⟩
  | .hbm, ⟨5, _⟩ => ⟨S2x4096x2048, .f32⟩
  | .hbm, ⟨6, _⟩ => ⟨S4x2x2048x12288, .f32⟩
  | .hbm, ⟨7, _⟩ => ⟨S4x2x6144x2048, .f32⟩
  | .hbm, ⟨8, _⟩ => ⟨S1x2048, .f32⟩
  | .hbm, ⟨9, _⟩ => ⟨S8448x2048, .f32⟩
  | .hbm, ⟨10, _⟩ => ⟨S2048x10240, .bf16⟩
  | .hbm, ⟨11, _⟩ => ⟨S2048x128, .bf16⟩
  | .hbm, ⟨12, _⟩ => ⟨S4096x2048, .bf16⟩
  | .hbm, ⟨13, _⟩ => ⟨S2048x12288, .bf16⟩
  | .hbm, ⟨14, _⟩ => ⟨S6144x2048, .bf16⟩
  | .local _ .vmem, ⟨0, _⟩ => ⟨S768x2048, .f32⟩
  | .local _ .vmem, ⟨1, _⟩ => ⟨S768x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x16x10240, .f32⟩
  | .local _ .vmem, ⟨10, _⟩ => ⟨S1x16x10240, .f32⟩
  | .local _ .vmem, ⟨11, _⟩ => ⟨S1x16x128, .f32⟩
  | .local _ .vmem, ⟨12, _⟩ => ⟨S1x16x128, .f32⟩
  | .local _ .vmem, ⟨13, _⟩ => ⟨S1x32x2048, .f32⟩
  | .local _ .vmem, ⟨14, _⟩ => ⟨S1x32x2048, .f32⟩
  | .local _ .vmem, ⟨15, _⟩ => ⟨S1x1x16x12288, .f32⟩
  | .local _ .vmem, ⟨16, _⟩ => ⟨S1x1x16x12288, .f32⟩
  | .local _ .vmem, ⟨17, _⟩ => ⟨S1x1x48x2048, .f32⟩
  | .local _ .vmem, ⟨18, _⟩ => ⟨S1x1x48x2048, .f32⟩
  | .local _ .vmem, ⟨19, _⟩ => ⟨S768x2048, .f32⟩
  | .local _ .vmem, ⟨20, _⟩ => ⟨S768x2048, .f32⟩
  | .local _ .vmem, ⟨21, _⟩ => ⟨S16x10240, .bf16⟩
  | .local _ .vmem, ⟨22, _⟩ => ⟨S16x10240, .bf16⟩
  | .local _ .vmem, ⟨23, _⟩ => ⟨S16x128, .bf16⟩
  | .local _ .vmem, ⟨24, _⟩ => ⟨S16x128, .bf16⟩
  | .local _ .vmem, ⟨25, _⟩ => ⟨S32x2048, .bf16⟩
  | .local _ .vmem, ⟨26, _⟩ => ⟨S32x2048, .bf16⟩
  | .local _ .vmem, ⟨27, _⟩ => ⟨S16x12288, .bf16⟩
  | .local _ .vmem, ⟨28, _⟩ => ⟨S16x12288, .bf16⟩
  | .local _ .vmem, ⟨29, _⟩ => ⟨S48x2048, .bf16⟩
  | .local _ .vmem, ⟨30, _⟩ => ⟨S48x2048, .bf16⟩
  | .local _ .vmem, ⟨31, _⟩ => ⟨S768x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30

abbrev nD : Nat := 1
abbrev τ : Topo := Topo.v7x

variable {F : FTy → Type} [FloatOps F]

abbrev grid0 : Pipeline.Grid := ⟨2, ![11, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi arg1 c12_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c127_i32 : BitVec 32 := 127#32
  let v2 : BitVec 32 := Scalar.minsi v1 c127_i32
  let c0_i32 : BitVec 32 := 0#32
  let c80_i32 : BitVec 32 := 80#32
  let c0_i32_0 : BitVec 32 := 0#32
  ![c0_i32.toNat, v2.toNat, c80_i32.toNat]

def cc0_transform_7 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_8 (i : grid0.Coords) : Fin 4 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c127_i32 : BitVec 32 := 127#32
  let v2 : BitVec 32 := Scalar.minsi v1 c127_i32
  let c0_i32 : BitVec 32 := 0#32
  let c1_i32 : BitVec 32 := 1#32
  let c0_i32_0 : BitVec 32 := 0#32
  let c0_i32_1 : BitVec 32 := 0#32
  ![c0_i32.toNat, c1_i32.toNat, v2.toNat, c0_i32_0.toNat]

def cc0_transform_9 (i : grid0.Coords) : Fin 4 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c127_i32 : BitVec 32 := 127#32
  let v2 : BitVec 32 := Scalar.minsi v1 c127_i32
  let c0_i32 : BitVec 32 := 0#32
  let c1_i32 : BitVec 32 := 1#32
  let c0_i32_0 : BitVec 32 := 0#32
  let c0_i32_1 : BitVec 32 := 0#32
  ![c0_i32.toNat, c1_i32.toNat, v2.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_13 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_14 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_15 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x16x10240 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x16x12288 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x48x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S768x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S16x10240 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S16x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S32x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S16x12288 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S48x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== FfnSsdRefIdeal.lean ====
abbrev S8448x2048 : Shape := ⟨2, ![8448, 2048]⟩
abbrev S2048 : Shape := ⟨1, ![2048]⟩
abbrev S2048x12288 : Shape := ⟨2, ![2048, 12288]⟩
abbrev S6144x2048 : Shape := ⟨2, ![6144, 2048]⟩
abbrev S2x2048x10368 : Shape := ⟨3, ![2, 2048, 10368]⟩
abbrev S2x4096x2048 : Shape := ⟨3, ![2, 4096, 2048]⟩
abbrev S4x2x2048x12288 : Shape := ⟨4, ![4, 2, 2048, 12288]⟩
abbrev S4x2x6144x2048 : Shape := ⟨4, ![4, 2, 6144, 2048]⟩
abbrev S1x2048x10240 : Shape := ⟨3, ![1, 2048, 10240]⟩
abbrev S2048x10240 : Shape := ⟨2, ![2048, 10240]⟩
abbrev S1x2048x128 : Shape := ⟨3, ![1, 2048, 128]⟩
abbrev S2048x128 : Shape := ⟨2, ![2048, 128]⟩
abbrev S1x4096x2048 : Shape := ⟨3, ![1, 4096, 2048]⟩
abbrev S4096x2048 : Shape := ⟨2, ![4096, 2048]⟩
abbrev S1x1x2048x12288 : Shape := ⟨4, ![1, 1, 2048, 12288]⟩
abbrev S1x1x6144x2048 : Shape := ⟨4, ![1, 1, 6144, 2048]⟩
abbrev S_ : Shape := ⟨0, ![]⟩
abbrev S8448 : Shape := ⟨1, ![8448]⟩
abbrev S8448x1 : Shape := ⟨2, ![8448, 1]⟩
abbrev S1x2048 : Shape := ⟨2, ![1, 2048]⟩
abbrev S8448x12288 : Shape := ⟨2, ![8448, 12288]⟩
abbrev S8448x6144 : Shape := ⟨2, ![8448, 6144]⟩

abbrev nBuf : Space → Nat
  | .hbm => 59
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S2048x12288, .bf16⟩
  | .hbm, ⟨3, _⟩ => ⟨S6144x2048, .bf16⟩
  | .hbm, ⟨4, _⟩ => ⟨S2x2048x10368, .f32⟩
  | .hbm, ⟨5, _⟩ => ⟨S2x4096x2048, .f32⟩
  | .hbm, ⟨6, _⟩ => ⟨S4x2x2048x12288, .f32⟩
  | .hbm, ⟨7, _⟩ => ⟨S4x2x6144x2048, .f32⟩
  | .hbm, ⟨8, _⟩ => ⟨S1x2048x10240, .f32⟩
  | .hbm, ⟨9, _⟩ => ⟨S2048x10240, .f32⟩
  | .hbm, ⟨10, _⟩ => ⟨S1x2048x128, .f32⟩
  | .hbm, ⟨11, _⟩ => ⟨S2048x128, .f32⟩
  | .hbm, ⟨12, _⟩ => ⟨S1x4096x2048, .f32⟩
  | .hbm, ⟨13, _⟩ => ⟨S4096x2048, .f32⟩
  | .hbm, ⟨14, _⟩ => ⟨S1x1x2048x12288, .f32⟩
  | .hbm, ⟨15, _⟩ => ⟨S2048x12288, .f32⟩
  | .hbm, ⟨16, _⟩ => ⟨S1x1x6144x2048, .f32⟩
  | .hbm, ⟨17, _⟩ => ⟨S6144x2048, .f32⟩
  | .hbm, ⟨18, _⟩ => ⟨S8448x2048, .f32⟩
  | .hbm, ⟨19, _⟩ => ⟨S_, .f32⟩
  | .hbm, ⟨20, _⟩ => ⟨S8448, .f32⟩
  | .hbm, ⟨21, _⟩ => ⟨S8448x1, .f32⟩
  | .hbm, ⟨22, _⟩ => ⟨S_, .f32⟩
  | .hbm, ⟨23, _⟩ => ⟨S8448x1, .f32⟩
  | .hbm, ⟨24, _⟩ => ⟨S8448x1, .f32⟩
  | .hbm, ⟨25, _⟩ => ⟨S_, .f32⟩
  | .hbm, ⟨26, _⟩ => ⟨S8448x1, .f32⟩
  | .hbm, ⟨27, _⟩ => ⟨S8448x1, .f32⟩
  | .hbm, ⟨28, _⟩ => ⟨S8448x1, .f32⟩
  | .hbm, ⟨29, _⟩ => ⟨S8448x2048, .f32⟩
  | .hbm, ⟨30, _⟩ => ⟨S8448x2048, .f32⟩
  | .hbm, ⟨31, _⟩ => ⟨S1x2048, .f32⟩
  | .hbm, ⟨32, _⟩ => ⟨S8448x2048, .f32⟩
  | .hbm, ⟨33, _⟩ => ⟨S8448x2048, .f32⟩
  | .hbm, ⟨34, _⟩ => ⟨S2048x12288, .f32⟩
  | .hbm, ⟨35, _⟩ => ⟨S8448x12288, .f32⟩
  | .hbm, ⟨36, _⟩ => ⟨S8448x6144, .f32⟩
  | .hbm, ⟨37, _⟩ => ⟨S8448x6144, .f32⟩
  | .hbm, ⟨38, _⟩ => ⟨S8448x6144, .f32⟩
  | .hbm, ⟨39, _⟩ => ⟨S8448x6144, .f32⟩
  | .hbm, ⟨40, _⟩ => ⟨S_, .f32⟩
  | .hbm, ⟨41, _⟩ => ⟨S8448x6144, .f32⟩
  | .hbm, ⟨42, _⟩ => ⟨S8448x6144, .f32⟩
  | .hbm, ⟨43, _⟩ => ⟨S_, .f32⟩
  | .hbm, ⟨44, _⟩ => ⟨S8448x6144, .f32⟩
  | .hbm, ⟨45, _⟩ => ⟨S8448x6144, .f32⟩
  | .hbm, ⟨46, _⟩ => ⟨S8448x6144, .f32⟩
  | .hbm, ⟨47, _⟩ => ⟨S8448x6144, .f32⟩
  | .hbm, ⟨48, _⟩ => ⟨S6144x2048, .f32⟩
  | .hbm, ⟨49, _⟩ => ⟨S8448x2048, .f32⟩
  | .hbm, ⟨50, _⟩ => ⟨S_, .f32⟩
  | .hbm, ⟨51, _⟩ => ⟨S8448x2048, .f32⟩
  | .hbm, ⟨52, _⟩ => ⟨S8448x2048, .f32⟩
  | .hbm, ⟨53, _⟩ => ⟨S8448x2048, .f32⟩
  | .hbm, ⟨54, _⟩ => ⟨S2048x10240, .bf16⟩
  | .hbm, ⟨55, _⟩ => ⟨S2048x128, .bf16⟩
  | .hbm, ⟨56, _⟩ => ⟨S4096x2048, .bf16⟩
  | .hbm, ⟨57, _⟩ => ⟨S2048x12288, .bf16⟩
  | .hbm, ⟨58, _⟩ => ⟨S6144x2048, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_2 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]
-- ==== Proof.Attn.Unit.lean ====
module

public import proofs.«01_k».proof.Proof.Gen.KernelIdeal.Value
public import Idealize.ShloMosaic.Lib.Pointwise
public import Idealize.ShloMosaic.Lib.Tactic
public import Idealize.ShloMosaic.Lib.WordCmp
public import Idealize.ShloMosaic.Lib.Pipeline.ValueKit

@[expose] public section

set_option maxRecDepth 16384

noncomputable section

namespace Cert.Attn

open Idealize.ShloMosaic Cert.KernelIdeal Cert.KernelIdeal.Gen

/-- What one tile of 128 queries of one head writes, from the head's keys, its values and the queries: the first
    tile's payload, which the other 21 tiles repeat. -/
def unit (k : Vec Ideal S1x1x128x4224 .bf16) (v : Vec Ideal S1x4224x128 .bf16) (q : Vec Ideal S1x128x128 .bf16) :
    Vec Ideal S1x128x128 .bf16 := k0_pay7 (k0_pay6 k v q)

/-- The tile's scores, those of the padding keys replaced by `⊥`. -/
def scores (k : Vec Ideal S1x1x128x4224 .bf16) (q : Vec Ideal S1x128x128 .bf16) : FVec Ideal S128x4224 .f32 :=
  have s : FVec Ideal S128x4224 .f32 := k0_pay5 k q
  concatenate S128x4224 1 [⟨S128x128, select (broadcastTo S128x128 (shapeCast S1x128 k0_pay4 shapeCasts_S1x128_S1x128)
      broadcasts_S1x128_S128x128) (extractStridedSlice S128x128 ![0, 0] s slices_S128x4224_o0_0_S128x128)
      (broadcast S128x128 (Scalar.ofBits .f32 0xFF800000#32))⟩,
    ⟨S128x4096, extractStridedSlice S128x4096 ![0, 128] s slices_S128x4224_o0_128_S128x4096⟩]
    concatenates_S128x128_S128x4096_S128x4224_d1

/-- The tile's softmax-weighted values, from its scores. -/
def weigh (s : FVec Ideal S128x4224 .f32) (v : Vec Ideal S1x4224x128 .bf16) : FVec Ideal S1x128x128 .bf16 :=
  have p : FVec Ideal S128x4224 .f32 := exp2 (subf s (broadcastTo S128x4224 (shapeCast S128x1
    (multiReduction .maximumf [1] S128 s 0xFF800000#32 reduces_S128x4224_S128 (.inl rfl) rfl) shapeCasts_S128_S128x1)
    broadcasts_S128x1_S128x4224))
  have o : FVec Ideal S128x128 .f32 := divf
    (matmul dot_S128x4224_S4224x128_S128x128_1_0_0_1_n_n none (truncf .bf16 p bitsLt_bf16_f32 : FVec Ideal S128x4224 .bf16) (k0_pay3 v)
      (constant S128x128 .f32 0x00000000#32))
    (broadcastTo S128x128 (shapeCast S128x1 (multiReduction .add [1] S128 p 0x00000000#32 reduces_S128x4224_S128
      (.inl rfl) rfl) shapeCasts_S128_S128x1) broadcasts_S128x1_S128x128)
  shapeCast S1x128x128 (truncf .bf16 o bitsLt_bf16_f32 : FVec Ideal S128x128 .bf16) shapeCasts_S128x128_S1x128x128

theorem unit_eq (k : Vec Ideal S1x1x128x4224 .bf16) (v : Vec Ideal S1x4224x128 .bf16) (q : Vec Ideal S1x128x128 .bf16) :
    unit k v q = weigh (scores k q) v := rfl

theorem negInf : Ideal.ofBits FTy.f32 0xFF800000#32 = ⊥ := by
  simp [Ideal.ofBits, Ideal.ieee]

theorem scores_apply (k : Vec Ideal S1x1x128x4224 .bf16) (q : Vec Ideal S1x128x128 .bf16) (r : Fin 128) (j : Fin 4224) :
    scores k q (ix2 r j) = if 112 ≤ j.val then ∑ x : Fin 128, q (ix3 0 r x) * k (ix4 0 0 x j) else ⊥ := by
  pointwise [scores, k0_pay5, k0_pay4, k0_pay2]
  rw [negInf, WordCmp.cmpi_sge_ofNat (by omega) (by omega), WordCmp.select_ofBool]
  by_cases h : j.val < 128
  · simp [h]
  · have h' : 112 ≤ j.val := by omega
    have e : (⟨128 + (j.val - 128), by omega⟩ : Fin 4224) = j := Fin.ext (by simp; omega)
    simp [h, h', e]

theorem weigh_apply (s : FVec Ideal S128x4224 .f32) (v : Vec Ideal S1x4224x128 .bf16) (r d : Fin 128) :
    weigh s v (ix3 0 r d) = Ideal.div
      (∑ x : Fin 4224, Ideal.exp2 (s (ix2 r x) - Finset.fold max ⊥ (fun x => s (ix2 r x)) Finset.univ) * v (ix3 0 x d))
      (∑ x : Fin 4224, Ideal.exp2 (s (ix2 r x) - Finset.fold max ⊥ (fun x => s (ix2 r x)) Finset.univ)) := by
  rw [← negInf]
  pointwise [weigh, k0_pay3]
  all_goals rfl

/-- Where tile number `k` of the list of stores lies (the last store first). -/
def off (k : Fin 22) : Fin 3 → ℕ := ![0, (10 - k.val % 11) * 128, (1 - k.val / 11) * 128]

theorem inb (k : Fin 22) (a : Fin 3) : off k a + S1x128x128.size a ≤ S1x1408x256.size a := by
  revert k a; decide

set_option maxHeartbeats 4000000 in
/-- The block one grid point writes is the 22 tiles, each the unit of its own queries. -/
theorem out_eq (x0 : Vec Ideal S1x1408x256 .bf16) (x1 : Vec Ideal S1x1x128x4224 .bf16) (x2 : Vec Ideal S1x4224x128 .bf16) :
    out0_3 x0 x1 x2 = View.canon (List.ofFn fun k : Fin 22 => (⟨Rect.unit (s := S1x1408x256) (off k) S1x128x128.size (inb k),
      unit (View.ld x1 r0_0) (View.ld x2 r0_1) (View.ld x0 (Rect.unit (s := S1x1408x256) (off k) S1x128x128.size (inb k)))⟩ :
        View.Piece (Elt Ideal) S1x1408x256 .bf16)) := by
  rfl

end Cert.Attn

end
-- ==== Proof.Attn.Array.lean ====
module

public import proofs.«01_k».proof.Proof.Attn.Unit
public import Idealize.ShloMosaic.Lib.Tactic.CleanTypes

@[expose] public section

set_option maxRecDepth 16384

noncomputable section

namespace Cert.Attn

open Idealize.ShloMosaic Idealize.ShloMosaic.TcCoe Cert.KernelIdeal Cert.KernelIdeal.Gen

/-- The score of a query `q` against the key `k j`: `⊥` for the first 112 keys, which are padding. -/
def score (q : Fin 128 → EReal) (k : Fin 4224 → Fin 128 → EReal) (j : Fin 4224) : EReal :=
  if 112 ≤ j.val then ∑ d : Fin 128, q d * k j d else ⊥

/-- The weight, to the base two, of a score among all of its row's. -/
def weight (s : Fin 4224 → EReal) (j : Fin 4224) : EReal := Ideal.exp2 (s j - Finset.fold max ⊥ s Finset.univ)

/-- The weighted mean of the values `v` under the scores `s`. -/
def mean (s v : Fin 4224 → EReal) : EReal := Ideal.div (∑ j, weight s j * v j) (∑ j, weight s j)

theorem unit_apply (k : Vec Ideal S1x1x128x4224 .bf16) (v : Vec Ideal S1x4224x128 .bf16) (q : Vec Ideal S1x128x128 .bf16) (r d : Fin 128) :
    unit k v q (ix3 0 r d) = mean (score (fun x => q (ix3 0 r x)) fun j x => k (ix4 0 0 x j)) fun j => v (ix3 0 j d) := by
  rw [unit_eq, weigh_apply]
  simp only [scores_apply]
  rfl

/-- What one grid point writes: at each place the mean of its head's values under its query's scores. -/
theorem out_apply (q : Vec Ideal S1x1408x256 .bf16) (k : Vec Ideal S1x1x128x4224 .bf16) (v : Vec Ideal S1x4224x128 .bf16)
    (r : Fin 1408) (l : Fin 256) :
    out0_3 q k v (ix3 0 r l) = mean (score (fun x => q (ix3 0 r ⟨128 * (l.val / 128) + x.val, by omega⟩)) fun j x => k (ix4 0 0 x j))
      fun j => v (ix3 0 j ⟨l.val % 128, by omega⟩) := by
  rw [out_eq]
  refine View.canon_ofFn_unit_eq_of_forall (S := S1x1408x256) off S1x128x128.size inb _ _ _ ?_ ?_
  · refine ⟨⟨(1 - l.val / 128) * 11 + (10 - r.val / 128), by omega⟩, fun a => ?_⟩
    fin_cases a <;> simp [off] <;> omega
  · intro n x hx
    idx_vars x
    obtain rfl : x0 = 0 := Subsingleton.elim _ _
    rw [unit_apply]
    have h1 := hx 1
    have h2 := hx 2
    simp [off] at h1 h2
    have e2 : (⟨l.val % 128, by omega⟩ : Fin 128) = x2 := Fin.ext (by simp; omega)
    have e1 (x : Fin 128) : (Rect.unit (s := S1x1408x256) (off n) S1x128x128.size (inb n)).idx (ix3 0 x1 x)
        = ix3 0 r ⟨128 * (l.val / 128) + x.val, by omega⟩ := by
      funext a
      apply Fin.ext
      rw [Rect.idx_unit_val]
      fin_cases a <;> simp [off] <;> omega
    rw [e2]
    refine congrArg₂ mean (congrArg₂ score (funext fun x => congrArg q (e1 x)) (funext fun j => funext fun x => congrArg k ?_))
      (funext fun j => congrArg v ?_)
    · exact funext fun a => Fin.ext (by unfold r0_0; rw [Rect.idx_unit_val]; fin_cases a <;> simp)
    · exact funext fun a => Fin.ext (by unfold r0_1; rw [Rect.idx_unit_val]; fin_cases a <;> simp)

variable (m : (ℓ : Loc nD τ sig) → Buf (Elt Ideal) ℓ) (c : Dev nD)

theorem idx : ∀ t : Fin cfg0.N, win0_0.index t = ![t.val / 24, t.val % 3, t.val / 3 % 8] ∧ win0_1.index t = ![t.val / 24, t.val / 3 % 8, 0, 0]
    ∧ win0_2.index t = ![t.val / 24, 0, 24 + t.val / 3 % 8] ∧ win0_3.index t = ![t.val / 24, t.val % 3, t.val / 3 % 8] := by
  decide +kernel

theorem lt (t : Fin cfg0.N) : t.val < 48 := t.isLt

/-- The reshaped argument, as the windows find it. -/
theorem v0_apply (b : Fin 2) (i : Fin 4224) (l : Fin 4096) : V m c main_v0 (ix3 b i l)
    = m ((c : Thread nD τ).loc main_arg0) (ix2 ⟨b.val * 4224 + i.val, by omega⟩ l) := by
  entry_read
  pointwise
  all_goals rfl

/-- Each head's keys, transposed, out of the reshaped argument. -/
def keys (X : Vec Ideal S2x4224x4096 .bf16) : Vec Ideal S2x8x128x4224 .bf16 :=
  transpose S2x8x128x4224 [0, 2, 3, 1] (shapeCast S2x4224x8x128
    (extractStridedSlice S2x4224x1024 ![0, 0, 2048] X slices_S2x4224x4096_S2x4224x1024_0_0_2048 : Vec Ideal S2x4224x1024 .bf16)
    shapeCasts_S2x4224x1024_S2x4224x8x128 : Vec Ideal S2x4224x8x128 .bf16) transposes_S2x4224x8x128_S2x8x128x4224_0_2_3_1

theorem keys_apply (X : Vec Ideal S2x4224x4096 .bf16) (b : Fin 2) (h : Fin 8) (d : Fin 128) (j : Fin 4224) :
    keys X (ix4 b h d j) = X (ix3 b j ⟨2048 + (h.val * 128 + d.val), by omega⟩) := by
  pointwise [keys]

/-- The transposed keys, as the windows find them. -/
theorem v3_apply (b : Fin 2) (h : Fin 8) (d : Fin 128) (j : Fin 4224) : V m c main_v3 (ix4 b h d j)
    = m ((c : Thread nD τ).loc main_arg0) (ix2 ⟨b.val * 4224 + j.val, by omega⟩ ⟨2048 + (h.val * 128 + d.val), by omega⟩) := by
  refine Eq.trans ?_ ((keys_apply (V m c main_v0) b h d j).trans (v0_apply m c b j ⟨2048 + (h.val * 128 + d.val), by omega⟩))
  entry_read
  rfl

theorem q_blk (t : Fin cfg0.N) (r : Fin 1408) (x : Fin 256) : iblk m c 0 t (ix3 0 r x)
    = m ((c : Thread nD τ).loc main_arg0) (ix2 ⟨t.val / 24 * 4224 + (t.val % 3 * 1408 + r.val), by have := lt t; omega⟩
      ⟨t.val / 3 % 8 * 256 + x.val, by omega⟩) := by
  refine Eq.trans ?_ (v0_apply m c ⟨t.val / 24, by have := lt t; omega⟩ ⟨t.val % 3 * 1408 + r.val, by omega⟩ ⟨t.val / 3 % 8 * 256 + x.val, by omega⟩)
  blk_ext [iblk, idx t]

theorem k_blk (t : Fin cfg0.N) (d : Fin 128) (j : Fin 4224) : iblk m c 1 t (ix4 0 0 d j)
    = m ((c : Thread nD τ).loc main_arg0) (ix2 ⟨t.val / 24 * 4224 + j.val, by have := lt t; omega⟩
      ⟨2048 + (t.val / 3 % 8 * 128 + d.val), by omega⟩) := by
  refine Eq.trans ?_ (v3_apply m c ⟨t.val / 24, by have := lt t; omega⟩ ⟨t.val / 3 % 8, by omega⟩ d j)
  blk_ext [iblk, idx t]

theorem v_blk (t : Fin cfg0.N) (j : Fin 4224) (d : Fin 128) : iblk m c 2 t (ix3 0 j d)
    = m ((c : Thread nD τ).loc main_arg0) (ix2 ⟨t.val / 24 * 4224 + j.val, by have := lt t; omega⟩
      ⟨3072 + (t.val / 3 % 8 * 128 + d.val), by omega⟩) := by
  refine Eq.trans ?_ (v0_apply m c ⟨t.val / 24, by have := lt t; omega⟩ j ⟨3072 + (t.val / 3 % 8 * 128 + d.val), by omega⟩)
  blk_ext [iblk, idx t]

/-- The attention's result at batch `b`, position `i` and lane `l` of the heads laid side by side, from the
    array of queries, keys and values. -/
def att (X : S8448x4096.Idx → EReal) (b : Fin 2) (i : Fin 4224) (l : Fin 2048) : EReal :=
  mean (score (fun d => X (ix2 ⟨b.val * 4224 + i.val, by omega⟩ ⟨128 * (l.val / 128) + d.val, by omega⟩))
      fun j d => X (ix2 ⟨b.val * 4224 + j.val, by omega⟩ ⟨2048 + (l.val / 256 * 128 + d.val), by omega⟩))
    fun j => X (ix2 ⟨b.val * 4224 + j.val, by omega⟩ ⟨3072 + (l.val / 256 * 128 + l.val % 128), by omega⟩)

theorem arr_eq : (dats m 0 c).arrAt 3 cfg0.N = fun y => att (m ((c : Thread nD τ).loc main_arg0)) (y 0) (y 1) (y 2) := by
  refine (dats m 0 c).arrAt_eq_of_covers 3 _ (by decide +kernel) fun t hf (y : S1x1408x256.Idx) => ?_
  have ht := lt t
  blk_simp
  rw [after0_3]
  idx_vars y
  obtain rfl : y0 = 0 := Subsingleton.elim _ _
  rw [out_apply]
  simp only [q_blk, k_blk, v_blk]
  have e : (win0_3.blk t).view.emb (ix3 0 y1 y2) = ix3 ⟨t.val / 24, by omega⟩ ⟨t.val % 3 * 1408 + y1.val, by omega⟩ ⟨t.val / 3 % 8 * 256 + y2.val, by omega⟩ := by
    blk_ext [idx t]
  refine Eq.trans ?_ (congrArg (fun z : S2x4224x2048.Idx => att (m ((c : Thread nD τ).loc main_arg0)) (z 0) (z 1) (z 2)) e).symm
  refine congrArg₂ mean (congrArg₂ score (funext fun d => congrArg _ ?_) (funext fun j => funext fun d => congrArg _ ?_))
    (funext fun j => congrArg _ ?_) <;> blk_ext

end Cert.Attn

end
-- ==== Proof.Attn.Softmax.lean ====
module

public import proofs.«01_k».proof.Proof.Attn.Array

@[expose] public section

set_option maxRecDepth 16384

noncomputable section

namespace Cert.Attn

open Idealize.ShloMosaic

/-- A real score, or `⊥` at a padding key. -/
def masked (r : Fin 4224 → ℝ) (j : Fin 4224) : EReal := if 112 ≤ j.val then (r j : EReal) else ⊥

/-- The largest masked score is a real. -/
theorem exists_max (r : Fin 4224 → ℝ) : ∃ M : ℝ, Finset.fold max ⊥ (masked r) Finset.univ = (M : EReal) := by
  obtain ⟨j, -, hj⟩ := Finset.exists_mem_eq_sup Finset.univ (Finset.univ_nonempty (α := Fin 4224)) (masked r)
  change Finset.univ.sup (masked r) = _ at hj
  have hle : masked r ⟨112, by omega⟩ ≤ Finset.univ.sup (masked r) := Finset.le_sup (Finset.mem_univ _)
  refine ⟨r j, hj.trans ?_⟩
  rw [hj] at hle
  unfold masked at hle ⊢
  split
  · rfl
  · rename_i h
    rw [if_neg h, if_pos (by simp)] at hle
    exact absurd (le_bot_iff.mp hle) (EReal.coe_ne_bot _)

/-- Scaling by a positive real keeps the largest score. -/
theorem max_scale (f : Fin 4224 → EReal) {a : ℝ} (ha : 0 < a) :
    Finset.fold max ⊥ (fun j => f j * (a : EReal)) Finset.univ = Finset.fold max ⊥ f Finset.univ * (a : EReal) :=
  (Finset.comp_sup_eq_sup_comp_of_is_total (fun x : EReal => x * (a : EReal))
    (fun _ _ h => mul_le_mul_of_nonneg_right h (by exact_mod_cast ha.le)) (EReal.bot_mul_coe_of_pos ha)).symm

/-- A masked score times `log 2` is the score times `log 2`, plus the key's bias. -/
theorem masked_scale (r : Fin 4224 → ℝ) (j : Fin 4224) :
    (r j : EReal) * ((Real.log 2 : ℝ) : EReal) + (if 112 ≤ j.val then (0 : EReal) else ⊥) = masked r j * ((Real.log 2 : ℝ) : EReal) := by
  unfold masked
  split
  · simp
  · rw [EReal.bot_mul_coe_of_pos (Real.log_pos (by norm_num)), EReal.add_bot]

/-- A power of two of a masked score less `M`, as a real. -/
def power (r : Fin 4224 → ℝ) (M : ℝ) (j : Fin 4224) : ℝ := if 112 ≤ j.val then (2 : ℝ) ^ (r j - M) else 0

theorem exp2_masked (r : Fin 4224 → ℝ) (M : ℝ) (j : Fin 4224) : Ideal.exp2 (masked r j - (M : EReal)) = (power r M j : EReal) := by
  unfold masked power
  split
  · rw [← EReal.coe_sub, Ideal.exp2_coe]; rfl
  · rw [EReal.bot_sub, Ideal.exp2_bot]; rfl

theorem exp_masked (r : Fin 4224 → ℝ) (M : ℝ) (j : Fin 4224) :
    Ideal.exp (masked r j * ((Real.log 2 : ℝ) : EReal) - (M : EReal) * ((Real.log 2 : ℝ) : EReal)) = (power r M j : EReal) := by
  unfold masked power
  split
  · rw [← EReal.coe_mul, ← EReal.coe_mul, ← EReal.coe_sub, Ideal.exp_coe, Real.rpow_def_of_pos (by norm_num)]
    congr 2
    ring
  · rw [EReal.bot_mul_coe_of_pos (Real.log_pos (by norm_num)), EReal.bot_sub, Ideal.exp_bot]; rfl

theorem sum_power_pos (r : Fin 4224 → ℝ) (M : ℝ) : 0 < ∑ j, power r M j := by
  refine Finset.sum_pos' (fun j _ => ?_) ⟨⟨112, by omega⟩, Finset.mem_univ _, ?_⟩
  · unfold power; split <;> positivity
  · rw [power, if_pos (by simp)]; positivity

theorem coe_sum {n : ℕ} (f : Fin n → ℝ) : (∑ j, (f j : EReal)) = ((∑ j, f j : ℝ) : EReal) :=
  (map_sum (⟨⟨Real.toEReal, EReal.coe_zero⟩, EReal.coe_add⟩ : ℝ →+ EReal) f Finset.univ).symm

/-- THE EQUATION OF THE SOFTMAX: dividing the weighted sum, its weights powers of two, is weighting by the divided
    exponentials of the scores times `log 2`. -/
theorem mean_eq (r v : Fin 4224 → ℝ) (t : Fin 4224 → EReal) (ht : ∀ j, t j = masked r j * ((Real.log 2 : ℝ) : EReal)) :
    mean (masked r) (fun j => (v j : EReal)) = ∑ j, (v j : EReal) * Ideal.div
      (Ideal.exp (t j - max ⊥ (Finset.fold max ⊥ t Finset.univ)))
      (∑ j, Ideal.exp (t j - max ⊥ (Finset.fold max ⊥ t Finset.univ))) := by
  obtain rfl : t = fun j => masked r j * ((Real.log 2 : ℝ) : EReal) := funext ht
  obtain ⟨M, hM⟩ := exists_max r
  have hD := sum_power_pos r M
  have hw (j : Fin 4224) : weight (masked r) j = (power r M j : EReal) := by
    rw [weight, hM, exp2_masked]
  have hp (j : Fin 4224) : Ideal.exp (masked r j * ((Real.log 2 : ℝ) : EReal)
      - max ⊥ (Finset.fold max ⊥ (fun j => masked r j * ((Real.log 2 : ℝ) : EReal)) Finset.univ)) = (power r M j : EReal) := by
    rw [max_scale _ (Real.log_pos (by norm_num)), hM, max_eq_right bot_le, exp_masked]
  have el : mean (masked r) (fun j => (v j : EReal)) = (((∑ j, power r M j * v j) * (1 / ∑ j, power r M j) : ℝ) : EReal) := by
    rw [EReal.coe_mul, ← coe_sum, mean, ← Ideal.div_coe hD.ne', ← coe_sum]
    simp only [hw, EReal.coe_mul]
  rw [el, Finset.sum_mul, ← coe_sum]
  refine Finset.sum_congr rfl fun j _ => ?_
  rw [hp, Finset.sum_congr rfl fun j _ => hp j, coe_sum, Ideal.div_coe hD.ne', ← EReal.coe_mul, ← EReal.coe_mul]
  generalize 1 / ∑ j, power r M j = D
  exact congrArg Real.toEReal (by ring)

end Cert.Attn

end
-- ==== Proof.Attn.Ref.lean ====
module

public import proofs.«01_k».proof.Proof.Gen.ReferenceIdeal.Run
public import Idealize.ShloMosaic.Lib.Pointwise
public import Idealize.ShloMosaic.Lib.WordCmp

@[expose] public section

set_option maxRecDepth 16384

noncomputable section

namespace Cert.Attn.Ref

open Idealize.ShloMosaic Idealize.ShloMosaic.TcCoe Cert.ReferenceIdeal Cert.ReferenceIdeal.Gen

/-- The bias of each key: `⊥` for a padding key, `0` for any other. -/
def bias : FVec Ideal S4224 .f32 :=
  select (cmpi .sge (iotaInDim S4224 32 0) (broadcastInDim S4224 ![] bcast_S_S4224 (constantI S_ 32 112#32)))
    (broadcastInDim S4224 ![] bcast_S_S4224 (constant S_ .f32 0x00000000#32))
    (broadcastInDim S4224 ![] bcast_S_S4224 (constant S_ .f32 0xFF800000#32))

/-- The argument by batch and position. -/
def rows (X : FVec Ideal S8448x4096 .bf16) : FVec Ideal S2x4224x4096 .f32 :=
  shapeCast S2x4224x4096 (extf .f32 X bitsLt_bf16_f32 : FVec Ideal S8448x4096 .f32) shapeCasts_S8448x4096_S2x4224x4096

/-- The scores of every query against every key, scaled and biased. -/
def scores (x : FVec Ideal S2x4224x4096 .f32) (w : FVec Ideal S4224 .f32) : FVec Ideal S2x8x2x4224x4224 .f32 :=
  addf (mulf (transpose S2x8x2x4224x4224 [0, 1, 4, 3, 2]
      (Host.dotGeneral dot_S2x4224x8x128_S2x4224x8x2x128_S2x8x4224x4224x2_3_4_1_13_02_02 none
        (shapeCast S2x4224x8x128 (extractStridedSlice S2x4224x1024 ![0, 0, 2048] x slices_S2x4224x4096_S2x4224x1024_0_0_2048) shapeCasts_S2x4224x1024_S2x4224x8x128)
        (shapeCast S2x4224x8x2x128 (extractStridedSlice S2x4224x2048 ![0, 0, 0] x slices_S2x4224x4096_S2x4224x2048_0_0_0) shapeCasts_S2x4224x2048_S2x4224x8x2x128))
      transposes_S2x8x4224x4224x2_S2x8x2x4224x4224_0_1_4_3_2)
    (broadcastInDim S2x8x2x4224x4224 ![] bcast_S_S2x8x2x4224x4224 (Host.log (constant S_ .f32 0x40000000#32))))
  (broadcastInDim S2x8x2x4224x4224 ![0, 1, 2, 3, 4] bcast_S1x1x1x1x4224_S2x8x2x4224x4224_0_1_2_3_4
    (broadcastInDim S1x1x1x1x4224 ![4] bcast_S4224_S1x1x1x1x4224_4 w))

/-- The largest score of each query. -/
def rowMax (s : FVec Ideal S2x8x2x4224x4224 .f32) : FVec Ideal S2x8x2x4224 .f32 :=
  Host.reduce FloatOps.maximumf s (constant S_ .f32 0xFF800000#32) reducesTo_S2x8x2x4224x4224_S2x8x2x4224_d4 h_S_

/-- The exponentials of the scores less a bound of each row. -/
def exps (s : FVec Ideal S2x8x2x4224x4224 .f32) (b : FVec Ideal S2x8x2x4224 .f32) : FVec Ideal S2x8x2x4224x4224 .f32 :=
  Host.exp (subf s (broadcastInDim S2x8x2x4224x4224 ![0, 1, 2, 3, 4] bcast_S2x8x2x4224x1_S2x8x2x4224x4224_0_1_2_3_4
    (broadcastInDim S2x8x2x4224x1 ![0, 1, 2, 3] bcast_S2x8x2x4224_S2x8x2x4224x1_0_1_2_3
      (maximumf (broadcastInDim S2x8x2x4224 ![] bcast_S_S2x8x2x4224 (constant S_ .f32 0xFF800000#32)) b))))

/-- Each query's exponentials over their sum, applied to the values. -/
def weigh (p : FVec Ideal S2x8x2x4224x4224 .f32) (x : FVec Ideal S2x4224x4096 .f32) : FVec Ideal S2x4224x2048 .bf16 :=
  truncf .bf16 (shapeCast S2x4224x2048 (transpose S2x4224x8x2x128 [0, 4, 1, 3, 2]
    (Host.dotGeneral dot_S2x4224x8x128_S2x8x2x4224x4224_S2x8x128x2x4224_1_4_3_23_02_01 none
      (shapeCast S2x4224x8x128 (extractStridedSlice S2x4224x1024 ![0, 0, 3072] x slices_S2x4224x4096_S2x4224x1024_0_0_3072) shapeCasts_S2x4224x1024_S2x4224x8x128)
      (Host.divf p (broadcastInDim S2x8x2x4224x4224 ![0, 1, 2, 3, 4] bcast_S2x8x2x4224x1_S2x8x2x4224x4224_0_1_2_3_4
        (broadcastInDim S2x8x2x4224x1 ![0, 1, 2, 3] bcast_S2x8x2x4224_S2x8x2x4224x1_0_1_2_3
          (Host.reduceAdd p (constant S_ .f32 0x00000000#32) reducesTo_S2x8x2x4224x4224_S2x8x2x4224_d4 h_S_)))))
    transposes_S2x8x128x2x4224_S2x4224x8x2x128_0_4_1_3_2) shapeCasts_S2x4224x8x2x128_S2x4224x2048) bitsLt_bf16_f32

theorem negInf : Ideal.ofBits FTy.f32 0xFF800000#32 = ⊥ := by
  simp [Ideal.ofBits, Ideal.ieee]

theorem log_two : Ideal.log (Ideal.ofBits FTy.f32 0x40000000#32) = ((Real.log 2 : ℝ) : EReal) := by
  have h : Ideal.ofBits FTy.f32 0x40000000#32 = ((2 : ℝ) : EReal) := by
    simp [Ideal.ofBits, Ideal.ieee, -EReal.coe_mul]; norm_num
  rw [h, Ideal.log_coe, if_neg (by norm_num)]

theorem bias_apply (j : Fin 4224) : bias (ix1 j) = if 112 ≤ j.val then (0 : EReal) else ⊥ := by
  pointwise [bias]
  rw [negInf, WordCmp.cmpi_sge_ofNat (by omega) (by omega), WordCmp.select_ofBool]
  simp

theorem rows_apply (X : FVec Ideal S8448x4096 .bf16) (b : Fin 2) (i : Fin 4224) (l : Fin 4096) :
    rows X (ix3 b i l) = X (ix2 ⟨b.val * 4224 + i.val, by omega⟩ l) := by
  pointwise [rows]

theorem scores_apply (x : FVec Ideal S2x4224x4096 .f32) (w : FVec Ideal S4224 .f32) (b : Fin 2) (h : Fin 8) (g : Fin 2) (i j : Fin 4224) :
    scores x w (ix5 b h g i j) = (∑ d : Fin 128, x (ix3 b j ⟨2048 + (h.val * 128 + d.val), by omega⟩)
      * x (ix3 b i ⟨h.val * 256 + g.val * 128 + d.val, by omega⟩)) * ((Real.log 2 : ℝ) : EReal) + w (ix1 j) := by
  rw [← log_two]
  pointwise [scores]

/-- A host maximum over the last of five axes, at an index. -/
theorem hostMax_last {n0 n1 n2 n3 n4 : ℕ} (s : (⟨5, ![n0, n1, n2, n3, n4]⟩ : Shape).Idx → EReal)
    (hr : (⟨5, ![n0, n1, n2, n3, n4]⟩ : Shape).ReducesTo [4] ⟨4, ![n0, n1, n2, n3]⟩) {u : Shape} (init : u.Idx → EReal) (hu : 0 < u.numel)
    (a : Fin n0) (b : Fin n1) (c : Fin n2) (d : Fin n3) :
    Host.reduce max s init hr hu (ix4 a b c d) = (Finset.univ : Finset (Fin n4)).fold max (init (Shape.Idx.first hu)) fun k => s (ix5 a b c d k) := by
  rw [Host.reduce_eq_fold, hr.fold_fiber_r5_a4]
  rfl

theorem rowMax_apply (s : FVec Ideal S2x8x2x4224x4224 .f32) (b : Fin 2) (h : Fin 8) (g : Fin 2) (i : Fin 4224) :
    rowMax s (ix4 b h g i) = Finset.fold max ⊥ (fun j : Fin 4224 => s (ix5 b h g i j)) Finset.univ := by
  refine (hostMax_last s reducesTo_S2x8x2x4224x4224_S2x8x2x4224_d4 _ h_S_ b h g i).trans ?_
  rw [← negInf]
  rfl

theorem exps_apply (s : FVec Ideal S2x8x2x4224x4224 .f32) (w : FVec Ideal S2x8x2x4224 .f32) (b : Fin 2) (h : Fin 8) (g : Fin 2) (i j : Fin 4224) :
    exps s w (ix5 b h g i j) = Ideal.exp (s (ix5 b h g i j) - max ⊥ (w (ix4 b h g i))) := by
  rw [← negInf]
  pointwise [exps]

theorem weigh_apply (p : FVec Ideal S2x8x2x4224x4224 .f32) (x : FVec Ideal S2x4224x4096 .f32) (b : Fin 2) (i : Fin 4224) (l : Fin 2048) :
    weigh p x (ix3 b i l) = ∑ j : Fin 4224, x (ix3 b j ⟨3072 + (l.val / 256 * 128 + l.val % 128), by omega⟩)
      * Ideal.div (p (ix5 b ⟨l.val / 256, by omega⟩ ⟨l.val / 128 % 2, by omega⟩ i j))
        (∑ j : Fin 4224, p (ix5 b ⟨l.val / 256, by omega⟩ ⟨l.val / 128 % 2, by omega⟩ i j)) := by
  pointwise [weigh]

/-- The reference's result is these stages, one after the other. -/
theorem res_eq (m : (ℓ : Loc nD τ sig) → Buf (Elt Ideal) ℓ) (c : Dev nD) :
    Cert.ReferenceIdeal.Value.res_out0 m c = weigh (exps (scores (rows (m ((c.tc : Thread nD τ).loc main_arg0))) bias)
      (rowMax (scores (rows (m ((c.tc : Thread nD τ).loc main_arg0))) bias))) (rows (m ((c.tc : Thread nD τ).loc main_arg0))) := rfl

end Cert.Attn.Ref

end
-- ==== Proof.Attn.Equation.lean ====
module

public import proofs.«01_k».proof.Proof.Attn.Softmax
public import proofs.«01_k».proof.Proof.Attn.Ref

@[expose] public section

set_option maxRecDepth 16384

noncomputable section

namespace Cert.Attn

open Idealize.ShloMosaic Cert.ReferenceIdeal

/-- The real score of the query at batch `b`, position `i`, lane group `l / 128` against the key at `j`. -/
def realScore (x : S8448x4096.Idx → ℝ) (b : Fin 2) (i : Fin 4224) (l : Fin 2048) (j : Fin 4224) : ℝ :=
  ∑ d : Fin 128, x (ix2 ⟨b.val * 4224 + i.val, by omega⟩ ⟨128 * (l.val / 128) + d.val, by omega⟩)
    * x (ix2 ⟨b.val * 4224 + j.val, by omega⟩ ⟨2048 + (l.val / 256 * 128 + d.val), by omega⟩)

theorem att_eq (x : S8448x4096.Idx → ℝ) (b : Fin 2) (i : Fin 4224) (l : Fin 2048) :
    att (fun y => (x y : EReal)) b i l = mean (masked (realScore x b i l))
      fun j => (x (ix2 ⟨b.val * 4224 + j.val, by omega⟩ ⟨3072 + (l.val / 256 * 128 + l.val % 128), by omega⟩) : EReal) := by
  refine congrArg (mean · _) (funext fun j => ?_)
  unfold score masked realScore
  split
  · rw [← coe_sum]
    simp only [EReal.coe_mul]
  · rfl

theorem ref_score (x : S8448x4096.Idx → ℝ) (b : Fin 2) (i : Fin 4224) (l : Fin 2048) (j : Fin 4224) :
    Ref.scores (Ref.rows fun y => (x y : EReal)) Ref.bias (ix5 b ⟨l.val / 256, by omega⟩ ⟨l.val / 128 % 2, by omega⟩ i j)
      = masked (realScore x b i l) j * ((Real.log 2 : ℝ) : EReal) := by
  rw [Ref.scores_apply, Ref.bias_apply, ← masked_scale]
  congr 2
  rw [realScore, ← coe_sum]
  refine Finset.sum_congr rfl fun d _ => ?_
  rw [Ref.rows_apply, Ref.rows_apply, mul_comm, EReal.coe_mul]
  congr 5
  simp only [Fin.mk.injEq]
  omega

/-- THE EQUATION: the array the kernel leaves is the reference's result, on finite arguments. -/
theorem value_eq (X : FVec Ideal S8448x4096 .bf16) (hX : ∀ i, ∃ r : ℝ, X i = (r : EReal)) :
    (fun y : S2x4224x2048.Idx => att X (y 0) (y 1) (y 2)) = Ref.weigh (Ref.exps (Ref.scores (Ref.rows X) Ref.bias)
      (Ref.rowMax (Ref.scores (Ref.rows X) Ref.bias))) (Ref.rows X) := by
  choose x hx using hX
  obtain rfl : X = fun y => (x y : EReal) := funext hx
  funext y
  obtain ⟨b, i, l, rfl⟩ : ∃ (b : Fin 2) (i : Fin 4224) (l : Fin 2048), y = ix3 b i l := ⟨y 0, y 1, y 2, by blk_ext⟩
  refine (att_eq x b i l).trans ?_
  rw [Ref.weigh_apply]
  simp only [Ref.exps_apply, Ref.rowMax_apply, Ref.rows_apply]
  exact mean_eq (realScore x b i l) _ _ (ref_score x b i l)

end Cert.Attn

end
-- ==== Proof.Norm.Rms.lean ====
module

public import Idealize.ShloMosaic.Lib.Pointwise

@[expose] public section

set_option maxRecDepth 16384

noncomputable section

namespace Cert.Norm

open Idealize.ShloMosaic

/-- One row's root mean square normalisation. -/
def rms (x w : Fin 2048 → EReal) (d : Fin 2048) : EReal :=
  x d * Ideal.rsqrt (Ideal.div (∑ e, x e * x e) (Ideal.ofBits FTy.f32 0x45000000#32) + Ideal.ofBits FTy.f32 0x358637BD#32) * w d

end Cert.Norm

end
-- ==== Proof.Ffn.Point.lean ====
module

public import proofs.«01_k».proof.Proof.Gen.FfnIdeal.Value
public import proofs.«01_k».proof.Proof.Norm.Rms
public import Idealize.ShloMosaic.Lib.Pointwise
public import Idealize.ShloMosaic.Lib.Tactic
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.Ffn

open Cert.Norm (rms)

open Idealize.ShloMosaic Idealize.ShloMosaic.TcCoe Cert.FfnIdeal Cert.FfnIdeal.Gen

/-- A half, as the kernel's constant. -/
abbrev half : EReal := Ideal.ofBits FTy.f32 0x3F000000#32

/-- Half the gated unit, as the kernel computes it from the gate `g` and the up projection `u`. -/
def act (g u : EReal) : EReal := half * (half * g + half * g * Ideal.tanh (half * g)) * u

theorem pay1_apply (x : Vec Ideal S768x2048 .f32) (w : Vec Ideal S1x2048 .f32) (r : Fin 768) (d : Fin 2048) :
    k0_pay1 x w (ix2 r d) = rms (fun e => x (ix2 r e)) (fun e => w (ix2 0 e)) d := by
  pointwise [k0_pay1]
  rfl

theorem pay2_apply (n : Vec Ideal S768x2048 .bf16) (g u : Vec Ideal S2048x768 .bf16) (x : Vec Ideal S768x2048 .f32) (o : Vec Ideal S768x2048 .bf16)
    (r : Fin 768) (l : Fin 2048) : k0_pay2 n g u x o (ix2 r l) = x (ix2 r l) + ∑ k : Fin 768,
      act (∑ d : Fin 2048, n (ix2 r d) * g (ix2 d k)) (∑ d : Fin 2048, n (ix2 r d) * u (ix2 d k)) * o (ix2 k l) := by
  pointwise [k0_pay2]
  rfl

variable (m : (ℓ : Loc nD τ sig) → Buf (Elt Ideal) ℓ) (c : Dev nD)

theorem idx : ∀ t : Fin cfg0.N, win0_0.index t = ![t.val / 8, 0] ∧ win0_1.index t = ![0, 0]
    ∧ win0_2.index t = ![0, t.val % 8] ∧ win0_3.index t = ![0, 8 + t.val % 8] ∧ win0_4.index t = ![t.val % 8, 0]
    ∧ win0_5.index t = ![t.val / 8, 0] := by
  decide +kernel

theorem lt (t : Fin cfg0.N) : t.val < 88 := t.isLt

/-- The array's row that a row of a point's block is. -/
def row (t : Fin cfg0.N) (r : Fin 768) : Fin 8448 := ⟨t.val / 8 * 768 + r.val, by have := lt t; omega⟩

theorem row_congr {s t : Fin cfg0.N} (h : s.val / 8 = t.val / 8) (r : Fin 768) : row s r = row t r :=
  Fin.ext (by simp only [row, h])

theorem h_blk (t : Fin cfg0.N) (r : Fin 768) (d : Fin 2048) : iblk m c 0 t (ix2 r d)
    = m ((c : Thread nD τ).loc main_arg0) (ix2 (row t r) d) := by
  unfold row
  blk_ext [iblk, V, idx t]

theorem norm_blk (t : Fin cfg0.N) (d : Fin 2048) : iblk m c 1 t (ix2 0 d) = m ((c : Thread nD τ).loc main_arg1) (ix1 d) := by
  have e : V m c main_v0 (ix2 0 d) = m ((c : Thread nD τ).loc main_arg1) (ix1 d) := by
    entry_read
    pointwise
    all_goals rfl
  refine Eq.trans ?_ e
  blk_ext [iblk, idx t]

theorem gate_blk (t : Fin cfg0.N) (d : Fin 2048) (k : Fin 768) : iblk m c 2 t (ix2 d k)
    = m ((c : Thread nD τ).loc main_arg2) (ix2 d ⟨t.val % 8 * 768 + k.val, by omega⟩) := by
  blk_ext [iblk, V, idx t]

theorem up_blk (t : Fin cfg0.N) (d : Fin 2048) (k : Fin 768) : iblk m c 3 t (ix2 d k)
    = m ((c : Thread nD τ).loc main_arg2) (ix2 d ⟨6144 + (t.val % 8 * 768 + k.val), by omega⟩) := by
  blk_ext [iblk, V, idx t]

theorem out_blk (t : Fin cfg0.N) (k : Fin 768) (l : Fin 2048) : iblk m c 4 t (ix2 k l)
    = m ((c : Thread nD τ).loc main_arg3) (ix2 ⟨t.val % 8 * 768 + k.val, by omega⟩ l) := by
  blk_ext [iblk, V, idx t]

/-- The normalised rows stay in the scratch through a run of eight points. -/
theorem scratch (t : Fin cfg0.N) : (outsAt0 m c t.val t.isLt).2 = k0_pay1 (iblk m c 0 t) (iblk m c 1 t) := by
  funext y
  refine (Pipeline.eq_of_write_hold_apply (fun n h => (outsAt0 m c n h).2) 8 (fun t => k0_pay1 (iblk m c 0 t) (iblk m c 1 t)) ?_ ?_ t y).trans ?_
  · intro t h y
    rw [outsAt0_A m c t h]
    frame_out
  · intro t h y
    rw [outsAt0_B m c t h]
    rfl
  · idx_vars y
    rw [pay1_apply, pay1_apply]
    simp only [h_blk, norm_blk]
    rw [row_congr (s := ⟨8 * (t.val / 8), Pipeline.run_start_lt t⟩) (t := t) (Nat.mul_div_cancel_left _ (by norm_num : 0 < 8))]

/-- The residual rows of a point's block. -/
def start (t : Fin cfg0.N) (y : S768x2048.Idx) : EReal := m ((c : Thread nD τ).loc main_arg0) (ix2 (row t (y 0)) (y 1))

/-- What a point adds to its block: the part of the hidden lanes of its own column block. -/
def part (t : Fin cfg0.N) (y : S768x2048.Idx) : EReal := ∑ k : Fin 768,
  act (∑ d : Fin 2048, k0_pay1 (iblk m c 0 t) (iblk m c 1 t) (ix2 (y 0) d) * iblk m c 2 t (ix2 d k))
    (∑ d : Fin 2048, k0_pay1 (iblk m c 0 t) (iblk m c 1 t) (ix2 (y 0) d) * iblk m c 3 t (ix2 d k)) * iblk m c 4 t (ix2 k (y 1))

/-- The first point of a run starts from the residual rows; -/
theorem out_A (t : Fin cfg0.N) (h : t.val % 8 = 0) (y : S768x2048.Idx) : (outsAt0 m c t.val t.isLt).1 y = start m c t y + part m c t y := by
  rw [outsAt0_A m c t h]
  frame_out
  idx_vars y
  exact (pay2_apply _ _ _ _ _ _ _).trans (congrArg (· + _) (h_blk m c t y0 y1))

/-- the others add to what the point before left. -/
theorem out_B (t : Fin cfg0.N) (h : ¬ t.val % 8 = 0) (y : S768x2048.Idx) : (outsAt0 m c t.val t.isLt).1 y
    = (outsAt0 m c (t.val - 1) (Nat.lt_of_le_of_lt (Nat.sub_le _ _) t.isLt)).1 y + part m c t y := by
  have hs : (outsAt0 m c (t.val - 1) (Nat.lt_of_le_of_lt (Nat.sub_le _ _) t.isLt)).2 = k0_pay1 (iblk m c 0 t) (iblk m c 1 t) := by
    rw [← scratch m c t, outsAt0_B m c t h]
    rfl
  rw [outsAt0_B m c t h]
  frame_out
  simp only [read_unread_whole]
  rw [hs]
  idx_vars y
  exact pay2_apply _ _ _ _ _ _ _

/-- What a run of eight points leaves in its block. -/
theorem out_run (t : Fin cfg0.N) (h : t.val % 8 = 7) (y : S768x2048.Idx) : (outsAt0 m c t.val t.isLt).1 y
    = start m c t y + ∑ s : Fin 8, part m c ⟨8 * (t.val / 8) + s.val, Pipeline.run_point_lt_of_flush t h s⟩ y := by
  have e := Pipeline.eq_sum_fin_of_reset_step_apply_of_flush (fun n h => (outsAt0 m c n h).1) 8 (fun _ => (0 : EReal))
    (fun t y => (if t.val % 8 = 0 then start m c t y else (0 : EReal)) + part m c t y)
    (fun t h y => by rw [out_A m c t h, if_pos h]; exact (zero_add _).symm)
    (fun t h y => by rw [out_B m c t h, if_neg h, zero_add]) t h y
  refine e.trans ?_
  rw [zero_add, Finset.sum_add_distrib]
  congr 1
  rw [Finset.sum_eq_single 0]
  · rw [if_pos (by simp)]
    refine congrArg (fun r : Fin 8448 => m ((c : Thread nD τ).loc main_arg0) (ix2 r (y 1))) (row_congr ?_ (y 0))
    simp only [Fin.val_zero]
    omega
  · intro s _ hs
    rw [if_neg]
    have : s.val ≠ 0 := fun h => hs (Fin.ext h)
    simp only
    omega
  · simp

end Cert.Ffn

end
-- ==== Proof.Ffn.Array.lean ====
module

public import proofs.«01_k».proof.Proof.Ffn.Point

@[expose] public section

set_option maxRecDepth 16384

noncomputable section

namespace Cert.Ffn

open Cert.Norm (rms)

open Idealize.ShloMosaic Idealize.ShloMosaic.TcCoe Cert.FfnIdeal Cert.FfnIdeal.Gen

variable (h : S8448x2048.Idx → EReal) (w : S2048.Idx → EReal) (W : S2048x12288.Idx → EReal) (O : S6144x2048.Idx → EReal)

/-- Row `i` of the normalised rows, through column `j` of the first weights. -/
def lane (i : Fin 8448) (j : Fin 12288) : EReal :=
  ∑ d : Fin 2048, rms (fun e => h (ix2 i e)) (fun e => w (ix1 e)) d * W (ix2 d j)

/-- Half the gated unit of lane `j` of row `i`. -/
def unit (i : Fin 8448) (j : Fin 6144) : EReal :=
  act (lane h w W i ⟨j.val, by omega⟩) (lane h w W i ⟨6144 + j.val, by omega⟩)

/-- The layer's rows: the residual and the gated units through the second weights. -/
def ffn (i : Fin 8448) (l : Fin 2048) : EReal := h (ix2 i l) + ∑ j : Fin 6144, unit h w W i j * O (ix2 j l)

variable (m : (ℓ : Loc nD τ sig) → Buf (Elt Ideal) ℓ) (c : Dev nD)

theorem part_eq (t : Fin cfg0.N) (y : S768x2048.Idx) : part m c t y = ∑ k : Fin 768,
    unit (m ((c : Thread nD τ).loc main_arg0)) (m ((c : Thread nD τ).loc main_arg1)) (m ((c : Thread nD τ).loc main_arg2))
      (row t (y 0)) ⟨t.val % 8 * 768 + k.val, by omega⟩
    * (m ((c : Thread nD τ).loc main_arg3) : S6144x2048.Idx → EReal) (ix2 ⟨t.val % 8 * 768 + k.val, by omega⟩ (y 1)) := by
  unfold part unit lane
  refine Finset.sum_congr rfl fun k _ => congrArg₂ (· * ·) (congrArg₂ act ?_ ?_) (out_blk m c t k (y 1)) <;>
    refine Finset.sum_congr rfl fun d _ => congrArg₂ (· * ·) ((pay1_apply _ _ _ _).trans ?_) ?_
  · exact congrArg₂ (fun x v => rms x v d) (funext fun e => h_blk m c t (y 0) e) (funext fun e => norm_blk m c t e)
  · exact gate_blk m c t d k
  · exact congrArg₂ (fun x v => rms x v d) (funext fun e => h_blk m c t (y 0) e) (funext fun e => norm_blk m c t e)
  · exact up_blk m c t d k

theorem arr_eq : (dats m 0 c).arrAt 5 cfg0.N = fun y => ffn (m ((c : Thread nD τ).loc main_arg0))
    (m ((c : Thread nD τ).loc main_arg1)) (m ((c : Thread nD τ).loc main_arg2)) (m ((c : Thread nD τ).loc main_arg3)) (y 0) (y 1) := by
  refine (dats m 0 c).arrAt_eq_of_covers 5 _ (by decide +kernel) fun t hf (y : S768x2048.Idx) => ?_
  have ht := lt t
  blk_simp
  rw [after0_5, out_run m c t ((flush0_5 t).mp hf)]
  have e : (win0_5.blk t).view.emb y = ix2 (row t (y 0)) (y 1) := by
    blk_ext [idx t, row]
  refine Eq.trans ?_ (congrArg (fun z : S8448x2048.Idx => ffn (m ((c : Thread nD τ).loc main_arg0))
    (m ((c : Thread nD τ).loc main_arg1)) (m ((c : Thread nD τ).loc main_arg2)) (m ((c : Thread nD τ).loc main_arg3)) (z 0) (z 1)) e).symm
  refine congrArg (start m c t y + ·) ?_
  simp only [part_eq]
  refine Fin.sum_mul_add_congr fun s k hl => ?_
  have hr := (row_congr (s := ⟨8 * (t.val / 8) + s.val, Pipeline.run_point_lt_of_flush t ((flush0_5 t).mp hf) s⟩) (t := t) (by simp only; omega) (y 0))
  have hs : (8 * (t.val / 8) + s.val) % 8 = s.val := by omega
  rw [hr]
  simp only [hs]
  rfl

end Cert.Ffn

end
-- ==== Proof.Ffn.Gate.lean ====
module

public import proofs.«01_k».proof.Proof.Ffn.Array

@[expose] public section

noncomputable section

namespace Cert.Ffn

open Idealize.ShloMosaic

theorem ofBits_one : Ideal.ofBits FTy.f32 0x3F800000#32 = ((1 : ℝ) : EReal) := by
  simp [Ideal.ofBits, Ideal.ieee, -EReal.coe_mul]; norm_num

theorem half_eq : half = ((1 / 2 : ℝ) : EReal) := by
  simp [half, Ideal.ofBits, Ideal.ieee, -EReal.coe_mul]; norm_num

/-- Half of `g` by its logistic is what the tangent's form of it gives. -/
theorem gate_eq (g : ℝ) : 1 / 2 * g + 1 / 2 * g * Real.tanh (1 / 2 * g) = g * (1 / (1 + Real.exp (-g))) := by
  have h : Real.exp (-g) = Real.exp (-(1 / 2 * g)) * Real.exp (-(1 / 2 * g)) := by
    rw [← Real.exp_add]
    ring_nf
  have e : Real.exp (1 / 2 * g) = 1 / Real.exp (-(1 / 2 * g)) := by
    rw [Real.exp_neg, one_div (Real.exp _)⁻¹, inv_inv]
  rw [Real.tanh_eq_sinh_div_cosh, Real.sinh_eq, Real.cosh_eq, h, e]
  have := Real.exp_pos (-(1 / 2 * g))
  field_simp
  ring

/-- The kernel's half unit is half the reference's unit, at a real gate. -/
theorem act_eq (g : ℝ) (u : EReal) : act g u = ((1 / 2 : ℝ) : EReal)
    * ((g : EReal) * Ideal.div (Ideal.ofBits FTy.f32 0x3F800000#32) (Ideal.ofBits FTy.f32 0x3F800000#32 + Ideal.exp (-(g : EReal))) * u) := by
  have hp : (1 + Real.exp (-g)) ≠ 0 := by positivity
  rw [act, half_eq, ofBits_one, ← EReal.coe_neg, Ideal.exp_coe, ← EReal.coe_add, Ideal.div_coe hp, ← EReal.coe_mul, Ideal.tanh_coe,
    ← EReal.coe_mul, ← EReal.coe_mul, ← EReal.coe_mul, ← EReal.coe_add, ← EReal.coe_mul, ← mul_assoc, ← EReal.coe_mul, gate_eq, one_mul]

/-- A half of a sum is the sum of the halves, infinite terms too. -/
theorem half_sum {n : ℕ} (f : Fin n → EReal) : ((1 / 2 : ℝ) : EReal) * ∑ j, f j = ∑ j, ((1 / 2 : ℝ) : EReal) * f j := by
  have h (s : Finset (Fin n)) : ((1 / 2 : ℝ) : EReal) * ∑ j ∈ s, f j = ∑ j ∈ s, ((1 / 2 : ℝ) : EReal) * f j := by
    induction s using Finset.cons_induction with
    | empty => simp
    | cons a s ha ih =>
      rw [Finset.sum_cons, Finset.sum_cons, EReal.left_distrib_of_nonneg_of_ne_top (by norm_num) (EReal.coe_ne_top _), ih]
  exact h _

end Cert.Ffn

end
-- ==== Proof.Norm.Ref.lean ====
module

public import proofs.«01_k».proof.Proof.Norm.Rms
public import proofs.«01_k».proof.Proof.Gen.FfnRefIdeal.Run

@[expose] public section

set_option maxRecDepth 16384

noncomputable section

namespace Cert.Norm

open Idealize.ShloMosaic Idealize.ShloMosaic.TcCoe Cert.FfnRefIdeal Cert.FfnRefIdeal.Gen

/-- The normalised rows, by the host's operations. -/
def normed (h : FVec Ideal S8448x2048 .f32) (w : FVec Ideal S2048 .f32) : FVec Ideal S8448x2048 .f32 :=
  mulf (mulf h (broadcastInDim S8448x2048 ![0, 1] bcast_S8448x1_S8448x2048_0_1 (Host.rsqrt (addf
    (Host.divf (broadcastInDim S8448x1 ![0] bcast_S8448_S8448x1_0
        (Host.reduceAdd (mulf h h) (constant S_ .f32 0x00000000#32) reducesTo_S8448x2048_S8448_d1 h_S_))
      (broadcastInDim S8448x1 ![] bcast_S_S8448x1 (constant S_ .f32 0x45000000#32)))
    (broadcastInDim S8448x1 ![] bcast_S_S8448x1 (constant S_ .f32 0x358637BD#32))))))
    (broadcastInDim S8448x2048 ![0, 1] bcast_S1x2048_S8448x2048_0_1 (broadcastInDim S1x2048 ![1] bcast_S2048_S1x2048_1 w))

theorem normed_apply (h : FVec Ideal S8448x2048 .f32) (w : FVec Ideal S2048 .f32) (i : Fin 8448) (d : Fin 2048) :
    normed h w (ix2 i d) = rms (fun e => h (ix2 i e)) (fun e => w (ix1 e)) d := by
  pointwise [normed]
  rfl

end Cert.Norm

end
-- ==== Proof.Ffn.Ref.lean ====
module

public import proofs.«01_k».proof.Proof.Norm.Ref
public import Idealize.ShloMosaic.Lib.Pointwise

@[expose] public section

set_option maxRecDepth 16384

noncomputable section

namespace Cert.Ffn.Ref

open Cert.Norm (normed normed_apply)

open Idealize.ShloMosaic Idealize.ShloMosaic.TcCoe Cert.FfnRefIdeal Cert.FfnRefIdeal.Gen

/-- Gate and up projection side by side. -/
def project (n : FVec Ideal S8448x2048 .f32) (W : FVec Ideal S2048x12288 .bf16) : FVec Ideal S8448x12288 .f32 :=
  Host.dotGeneral dot_S8448x2048_S2048x12288_S8448x12288_1_0_0_1_n_n none n (extf .f32 W bitsLt_bf16_f32)

/-- The gated units. -/
def gated (p : FVec Ideal S8448x12288 .f32) : FVec Ideal S8448x6144 .f32 :=
  mulf (mulf (extractStridedSlice S8448x6144 ![0, 0] p slices_S8448x12288_S8448x6144_0_0)
    (Host.divf (broadcastInDim S8448x6144 ![] bcast_S_S8448x6144 (constant S_ .f32 0x3F800000#32))
      (addf (broadcastInDim S8448x6144 ![] bcast_S_S8448x6144 (constant S_ .f32 0x3F800000#32))
        (Host.exp (Host.negf (extractStridedSlice S8448x6144 ![0, 0] p slices_S8448x12288_S8448x6144_0_0))))))
    (extractStridedSlice S8448x6144 ![0, 6144] p slices_S8448x12288_S8448x6144_0_6144)

/-- The residual and half the units through the second weights. -/
def result (h : FVec Ideal S8448x2048 .f32) (a : FVec Ideal S8448x6144 .f32) (O : FVec Ideal S6144x2048 .bf16) : FVec Ideal S8448x2048 .f32 :=
  addf h (mulf (broadcastInDim S8448x2048 ![] bcast_S_S8448x2048 (constant S_ .f32 0x3F000000#32))
    (Host.dotGeneral dot_S8448x6144_S6144x2048_S8448x2048_1_0_0_1_n_n none a (extf .f32 O bitsLt_bf16_f32)))

theorem project_apply (n : FVec Ideal S8448x2048 .f32) (W : FVec Ideal S2048x12288 .bf16) (i : Fin 8448) (j : Fin 12288) :
    project n W (ix2 i j) = ∑ d : Fin 2048, n (ix2 i d) * W (ix2 d j) := by
  pointwise [project]
  all_goals rfl

theorem gated_apply (p : FVec Ideal S8448x12288 .f32) (i : Fin 8448) (j : Fin 6144) :
    gated p (ix2 i j) = p (ix2 i ⟨j.val, by omega⟩) * Ideal.div (Ideal.ofBits FTy.f32 0x3F800000#32)
      (Ideal.ofBits FTy.f32 0x3F800000#32 + Ideal.exp (-p (ix2 i ⟨j.val, by omega⟩))) * p (ix2 i ⟨6144 + j.val, by omega⟩) := by
  pointwise [gated]
  all_goals rfl

theorem result_apply (h : FVec Ideal S8448x2048 .f32) (a : FVec Ideal S8448x6144 .f32) (O : FVec Ideal S6144x2048 .bf16)
    (i : Fin 8448) (l : Fin 2048) : result h a O (ix2 i l)
      = h (ix2 i l) + Ideal.ofBits FTy.f32 0x3F000000#32 * ∑ j : Fin 6144, a (ix2 i j) * O (ix2 j l) := by
  pointwise [result]
  all_goals rfl

/-- The reference's run, its result by stages. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v23) = result (m ((c : Thread nD τ).loc main_arg0))
        (gated (project (normed (m ((c : Thread nD τ).loc main_arg0)) (m ((c : Thread nD τ).loc main_arg1))) (m ((c : Thread nD τ).loc main_arg2))))
        (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans rfl, (h c).2⟩) (Cert.FfnRefIdeal.Value.run (F := Ideal) m ρ)

end Cert.Ffn.Ref

end
-- ==== Proof.Norm.Real.lean ====
module

public import proofs.«01_k».proof.Proof.Norm.Rms
public import proofs.«01_k».proof.Proof.Attn.Softmax

@[expose] public section

set_option maxRecDepth 16384

noncomputable section

namespace Cert.Norm

open Idealize.ShloMosaic

theorem width_eq : Ideal.ofBits FTy.f32 0x45000000#32 = ((2048 : ℝ) : EReal) := by
  simp [Ideal.ofBits, Ideal.ieee, -EReal.coe_mul]; norm_num

theorem eps_pos : ∃ e : ℝ, 0 < e ∧ Ideal.ofBits FTy.f32 0x358637BD#32 = (e : EReal) := by
  refine ⟨(8388608 + 407485) * 2 ^ (-43 : ℤ), by positivity, ?_⟩
  simp [Ideal.ofBits, Ideal.ieee, -EReal.coe_mul]; norm_num

/-- A normalised row of real entries is real. -/
theorem rms_real (x w : Fin 2048 → EReal) (hx : ∀ e, ∃ r : ℝ, x e = r) (hw : ∀ e, ∃ r : ℝ, w e = r) (d : Fin 2048) :
    ∃ r : ℝ, rms x w d = r := by
  choose X hX using hx
  choose W hW using hw
  obtain ⟨e, he, hE⟩ := eps_pos
  have hs : 0 ≤ ∑ e, X e * X e := Finset.sum_nonneg fun e _ => mul_self_nonneg _
  have hp : 0 < (∑ e, X e * X e) * (1 / 2048) + e := by positivity
  refine ⟨X d * (√((∑ e, X e * X e) * (1 / 2048) + e))⁻¹ * W d, ?_⟩
  simp only [rms, hX, hW, hE, width_eq, ← EReal.coe_mul, Cert.Attn.coe_sum]
  rw [Ideal.div_coe (by norm_num), ← EReal.coe_mul, ← EReal.coe_add, Ideal.rsqrt_coe, if_neg (by linarith), if_neg (by linarith),
    ← EReal.coe_mul, ← EReal.coe_mul]

end Cert.Norm

end
-- ==== Proof.Ffn.Equation.lean ====
module

public import proofs.«01_k».proof.Proof.Ffn.Gate
public import proofs.«01_k».proof.Proof.Ffn.Ref
public import proofs.«01_k».proof.Proof.Norm.Real

@[expose] public section

noncomputable section

namespace Cert.Ffn

open Cert.Norm (rms rms_real)

open Idealize.ShloMosaic Cert.FfnRefIdeal

variable (h : FVec Ideal S8448x2048 .f32) (w : FVec Ideal S2048 .f32) (W : FVec Ideal S2048x12288 .bf16) (O : FVec Ideal S6144x2048 .bf16)

theorem project_eq (i : Fin 8448) (j : Fin 12288) : Ref.project (Cert.Norm.normed h w) W (ix2 i j) = lane h w W i j := by
  rw [Ref.project_apply]
  simp only [Cert.Norm.normed_apply]
  rfl

theorem lane_real (hh : ∀ i, ∃ r : ℝ, h i = r) (hw : ∀ i, ∃ r : ℝ, w i = r) (hW : ∀ i, ∃ r : ℝ, W i = r)
    (i : Fin 8448) (j : Fin 12288) : ∃ r : ℝ, lane h w W i j = r := by
  choose n hn using fun d => rms_real (fun e => h (ix2 i e)) (fun e => w (ix1 e)) (fun e => hh _) (fun e => hw _) d
  choose V hV using hW
  exact ⟨∑ d, n d * V (ix2 d j), by simp only [lane, hn, hV, ← EReal.coe_mul, Cert.Attn.coe_sum]⟩

/-- The kernel's rows are the reference's. -/
theorem value_eq (hh : ∀ i, ∃ r : ℝ, h i = r) (hw : ∀ i, ∃ r : ℝ, w i = r) (hW : ∀ i, ∃ r : ℝ, W i = r) :
    (fun y : S8448x2048.Idx => ffn h w W O (y 0) (y 1)) = Ref.result h (Ref.gated (Ref.project (Cert.Norm.normed h w) W)) O := by
  funext y
  idx_vars y
  refine Eq.trans ?_ (Ref.result_apply _ _ _ _ _).symm
  refine congrArg (h (ix2 y0 y1) + ·) ?_
  rw [show Ideal.ofBits FTy.f32 0x3F000000#32 = ((1 / 2 : ℝ) : EReal) from half_eq, half_sum]
  refine Finset.sum_congr rfl fun j _ => ?_
  rw [Ref.gated_apply, project_eq, project_eq, ← mul_assoc]
  refine congrArg (· * O (ix2 j y1)) ?_
  obtain ⟨g, hg⟩ := lane_real h w W hh hw hW y0 ⟨j.val, by omega⟩
  change act _ _ = _
  rw [hg]
  exact act_eq g _

end Cert.Ffn

end
-- ==== Proof.Project.SsdIn.lean ====
module

public import proofs.«01_k».proof.Proof.Gen.SsdInIdeal.Value
public import proofs.«01_k».proof.Proof.Gen.SsdInRefIdeal.Run
public import proofs.«01_k».proof.Proof.Norm.Ref
public import Idealize.ShloMosaic.Lib.Tactic
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.SsdIn

open Idealize.ShloMosaic Idealize.ShloMosaic.TcCoe Cert.SsdInIdeal Cert.SsdInIdeal.Gen
open Cert.Norm (rms normed normed_apply)

theorem pay1_apply (x : Vec Ideal S1408x2048 .f32) (w : Vec Ideal S1x2048 .f32) (r : Fin 1408) (d : Fin 2048) :
    k0_pay1 x w (ix2 r d) = rms (fun e => x (ix2 r e)) (fun e => w (ix2 0 e)) d := by
  pointwise [k0_pay1]
  rfl

theorem pay2_apply (n : Vec Ideal S1408x2048 .bf16) (w : Vec Ideal S2048x1024 .bf16) (r : Fin 1408) (l : Fin 1024) :
    k0_pay2 n w (ix2 r l) = ∑ d : Fin 2048, n (ix2 r d) * w (ix2 d l) := by
  pointwise [k0_pay2]

/-- The normalised rows through the weights. -/
def out (h : S8448x2048.Idx → EReal) (w : S2048.Idx → EReal) (W : S2048x10240.Idx → EReal) (i : Fin 8448) (j : Fin 10240) : EReal :=
  ∑ d : Fin 2048, rms (fun e => h (ix2 i e)) (fun e => w (ix1 e)) d * W (ix2 d j)

variable (m : (ℓ : Loc nD τ sig) → Buf (Elt Ideal) ℓ) (c : Dev nD)

theorem idx : ∀ t : Fin cfg0.N, win0_0.index t = ![t.val / 10, 0] ∧ win0_1.index t = ![0, 0]
    ∧ win0_2.index t = ![0, t.val % 10] ∧ win0_3.index t = ![t.val / 10, t.val % 10] := by
  decide +kernel

theorem lt (t : Fin cfg0.N) : t.val < 60 := t.isLt

/-- The array's row that a row of a point's block is, -/
def row (t : Fin cfg0.N) (r : Fin 1408) : Fin 8448 := ⟨t.val / 10 * 1408 + r.val, by have := lt t; omega⟩

/-- and the column that a column is. -/
def col (t : Fin cfg0.N) (l : Fin 1024) : Fin 10240 := ⟨t.val % 10 * 1024 + l.val, by omega⟩

theorem h_blk (t : Fin cfg0.N) (r : Fin 1408) (d : Fin 2048) : iblk m c 0 t (ix2 r d)
    = m ((c : Thread nD τ).loc main_arg0) (ix2 (row t r) d) := by
  blk_ext [iblk, V, idx t, row]

theorem norm_blk (t : Fin cfg0.N) (d : Fin 2048) : iblk m c 1 t (ix2 0 d) = m ((c : Thread nD τ).loc main_arg1) (ix1 d) := by
  have e : V m c main_v0 (ix2 0 d) = m ((c : Thread nD τ).loc main_arg1) (ix1 d) := by
    entry_read
    pointwise
    all_goals rfl
  refine Eq.trans ?_ e
  blk_ext [iblk, idx t]

theorem w_blk (t : Fin cfg0.N) (d : Fin 2048) (l : Fin 1024) : iblk m c 2 t (ix2 d l)
    = m ((c : Thread nD τ).loc main_arg2) (ix2 d (col t l)) := by
  blk_ext [iblk, V, idx t, col]

theorem normed_blk (t : Fin cfg0.N) (r : Fin 1408) (d : Fin 2048) : k0_pay1 (iblk m c 0 t) (iblk m c 1 t) (ix2 r d)
    = rms (fun e => m ((c : Thread nD τ).loc main_arg0) (ix2 (row t r) e)) (fun e => m ((c : Thread nD τ).loc main_arg1) (ix1 e)) d :=
  (pay1_apply _ _ _ _).trans (congrArg₂ (fun x v => rms x v d) (funext fun e => h_blk m c t r e) (funext fun e => norm_blk m c t e))

theorem row_congr {s t : Fin cfg0.N} (h : s.val / 10 = t.val / 10) (r : Fin 1408) : row s r = row t r :=
  Fin.ext (by simp only [row, h])

/-- The normalised rows stay in the scratch through a run of 10 points. -/
theorem scratch (t : Fin cfg0.N) : (outsAt0 m c t.val t.isLt).2 = k0_pay1 (iblk m c 0 t) (iblk m c 1 t) := by
  funext y
  refine (Pipeline.eq_of_write_hold_apply (fun n h => (outsAt0 m c n h).2) 10 (fun t => k0_pay1 (iblk m c 0 t) (iblk m c 1 t)) ?_ ?_ t y).trans ?_
  · intro t h y
    rw [outsAt0_A m c t h]
    frame_out
  · intro t h y
    rw [outsAt0_B m c t h]
    rfl
  · idx_vars y
    rw [normed_blk, normed_blk, row_congr]
    exact Nat.mul_div_cancel_left _ (by norm_num)

/-- What a point writes, whether it normalised the rows or an earlier point of its run did. -/
theorem out_pay (t : Fin cfg0.N) (y : S1408x1024.Idx) :
    (outsAt0 m c t.val t.isLt).1 y = k0_pay2 (k0_pay1 (iblk m c 0 t) (iblk m c 1 t)) (iblk m c 2 t) y := by
  by_cases h : t.val % 10 = 0
  · rw [outsAt0_A m c t h]
    frame_out
  · have hs : (outsAt0 m c (t.val - 1) (Nat.lt_of_le_of_lt (Nat.sub_le _ _) t.isLt)).2 = k0_pay1 (iblk m c 0 t) (iblk m c 1 t) := by
      rw [← scratch m c t, outsAt0_B m c t h]
      rfl
    rw [outsAt0_B m c t h]
    frame_out
    simp only [read_unread_whole]
    rw [hs]

theorem out_apply (t : Fin cfg0.N) (r : Fin 1408) (l : Fin 1024) : (outsAt0 m c t.val t.isLt).1 (ix2 r l)
    = out (m ((c : Thread nD τ).loc main_arg0)) (m ((c : Thread nD τ).loc main_arg1)) (m ((c : Thread nD τ).loc main_arg2)) (row t r) (col t l) :=
  ((out_pay m c t _).trans (pay2_apply _ _ _ _)).trans
    (Finset.sum_congr rfl fun d _ => congrArg₂ (· * ·) (normed_blk m c t r d) (w_blk m c t d l))

/-- The array after the run. -/
theorem arr_eq : (dats m 0 c).arrAt 3 cfg0.N = fun y => out (m ((c : Thread nD τ).loc main_arg0))
    (m ((c : Thread nD τ).loc main_arg1)) (m ((c : Thread nD τ).loc main_arg2)) (y 0) (y 1) := by
  refine (dats m 0 c).arrAt_eq_of_covers 3 _ (by decide +kernel) fun t hf (y : S1408x1024.Idx) => ?_
  blk_simp
  rw [after0_3]
  idx_vars y
  rw [out_apply]
  have e : (win0_3.blk t).view.emb (ix2 y0 y1) = ix2 (row t y0) (col t y1) := by
    blk_ext [idx t, row, col]
  exact (congrArg (fun z : S8448x10240.Idx => out (m ((c : Thread nD τ).loc main_arg0))
    (m ((c : Thread nD τ).loc main_arg1)) (m ((c : Thread nD τ).loc main_arg2)) (z 0) (z 1)) e).symm

/-- The reference's array. -/
def ref (h : FVec Ideal S8448x2048 .f32) (w : FVec Ideal S2048 .f32) (W : FVec Ideal S2048x10240 .bf16) : FVec Ideal S8448x10240 .bf16 :=
  truncf .bf16 (Host.dotGeneral Cert.SsdInRefIdeal.dot_S8448x2048_S2048x10240_S8448x10240_1_0_0_1_n_n none (normed h w)
    (extf .f32 W Cert.SsdInRefIdeal.Gen.bitsLt_bf16_f32) : FVec Ideal S8448x10240 .f32) Cert.SsdInRefIdeal.Gen.bitsLt_bf16_f32

theorem value_eq (h : FVec Ideal S8448x2048 .f32) (w : FVec Ideal S2048 .f32) (W : FVec Ideal S2048x10240 .bf16) :
    (fun y : S8448x10240.Idx => out h w W (y 0) (y 1)) = ref h w W := by
  funext y
  idx_vars y
  have e : ref h w W (ix2 y0 y1) = ∑ d : Fin 2048, normed h w (ix2 y0 d) * W (ix2 d y1) := by
    pointwise [ref]
    all_goals rfl
  rw [e]
  simp only [normed_apply]
  rfl

end Cert.SsdIn

end
-- ==== Proof.Project.SsdDt.lean ====
module

public import proofs.«01_k».proof.Proof.Gen.SsdDtIdeal.Value
public import proofs.«01_k».proof.Proof.Gen.SsdDtRefIdeal.Run
public import proofs.«01_k».proof.Proof.Norm.Ref
public import Idealize.ShloMosaic.Lib.Tactic
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.SsdDt

open Idealize.ShloMosaic Idealize.ShloMosaic.TcCoe Cert.SsdDtIdeal Cert.SsdDtIdeal.Gen
open Cert.Norm (rms normed normed_apply)

theorem pay1_apply (x : Vec Ideal S1408x2048 .f32) (w : Vec Ideal S1x2048 .f32) (r : Fin 1408) (d : Fin 2048) :
    k0_pay1 x w (ix2 r d) = rms (fun e => x (ix2 r e)) (fun e => w (ix2 0 e)) d := by
  pointwise [k0_pay1]
  rfl

theorem pay2_apply (n : Vec Ideal S1408x2048 .bf16) (w : Vec Ideal S2048x128 .bf16) (r : Fin 1408) (l : Fin 128) :
    k0_pay2 n w (ix2 r l) = ∑ d : Fin 2048, n (ix2 r d) * w (ix2 d l) := by
  pointwise [k0_pay2]

/-- The normalised rows through the weights. -/
def out (h : S8448x2048.Idx → EReal) (w : S2048.Idx → EReal) (W : S2048x128.Idx → EReal) (i : Fin 8448) (j : Fin 128) : EReal :=
  ∑ d : Fin 2048, rms (fun e => h (ix2 i e)) (fun e => w (ix1 e)) d * W (ix2 d j)

variable (m : (ℓ : Loc nD τ sig) → Buf (Elt Ideal) ℓ) (c : Dev nD)

theorem idx : ∀ t : Fin cfg0.N, win0_0.index t = ![t.val, 0] ∧ win0_1.index t = ![0, 0]
    ∧ win0_2.index t = ![0, 0] ∧ win0_3.index t = ![t.val, 0] := by
  decide +kernel

theorem lt (t : Fin cfg0.N) : t.val < 6 := t.isLt

/-- The array's row that a row of a point's block is, -/
def row (t : Fin cfg0.N) (r : Fin 1408) : Fin 8448 := ⟨t.val * 1408 + r.val, by have := lt t; omega⟩

/-- and the column that a column is. -/
def col (t : Fin cfg0.N) (l : Fin 128) : Fin 128 := ⟨l.val, by omega⟩

theorem h_blk (t : Fin cfg0.N) (r : Fin 1408) (d : Fin 2048) : iblk m c 0 t (ix2 r d)
    = m ((c : Thread nD τ).loc main_arg0) (ix2 (row t r) d) := by
  blk_ext [iblk, V, idx t, row]

theorem norm_blk (t : Fin cfg0.N) (d : Fin 2048) : iblk m c 1 t (ix2 0 d) = m ((c : Thread nD τ).loc main_arg1) (ix1 d) := by
  have e : V m c main_v0 (ix2 0 d) = m ((c : Thread nD τ).loc main_arg1) (ix1 d) := by
    entry_read
    pointwise
    all_goals rfl
  refine Eq.trans ?_ e
  blk_ext [iblk, idx t]

theorem w_blk (t : Fin cfg0.N) (d : Fin 2048) (l : Fin 128) : iblk m c 2 t (ix2 d l)
    = m ((c : Thread nD τ).loc main_arg2) (ix2 d (col t l)) := by
  blk_ext [iblk, V, idx t, col]

theorem normed_blk (t : Fin cfg0.N) (r : Fin 1408) (d : Fin 2048) : k0_pay1 (iblk m c 0 t) (iblk m c 1 t) (ix2 r d)
    = rms (fun e => m ((c : Thread nD τ).loc main_arg0) (ix2 (row t r) e)) (fun e => m ((c : Thread nD τ).loc main_arg1) (ix1 e)) d :=
  (pay1_apply _ _ _ _).trans (congrArg₂ (fun x v => rms x v d) (funext fun e => h_blk m c t r e) (funext fun e => norm_blk m c t e))

/-- What a point writes. -/
theorem out_pay (t : Fin cfg0.N) (y : S1408x128.Idx) :
    outsAt0 m c t y = k0_pay2 (k0_pay1 (iblk m c 0 t) (iblk m c 1 t)) (iblk m c 2 t) y := by
  unfold outsAt0
  frame_out

theorem out_apply (t : Fin cfg0.N) (r : Fin 1408) (l : Fin 128) : outsAt0 m c t (ix2 r l)
    = out (m ((c : Thread nD τ).loc main_arg0)) (m ((c : Thread nD τ).loc main_arg1)) (m ((c : Thread nD τ).loc main_arg2)) (row t r) (col t l) :=
  ((out_pay m c t _).trans (pay2_apply _ _ _ _)).trans
    (Finset.sum_congr rfl fun d _ => congrArg₂ (· * ·) (normed_blk m c t r d) (w_blk m c t d l))

/-- The array after the run. -/
theorem arr_eq : (dats m 0 c).arrAt 3 cfg0.N = fun y => out (m ((c : Thread nD τ).loc main_arg0))
    (m ((c : Thread nD τ).loc main_arg1)) (m ((c : Thread nD τ).loc main_arg2)) (y 0) (y 1) := by
  refine (dats m 0 c).arrAt_eq_of_covers 3 _ (by decide +kernel) fun t hf (y : S1408x128.Idx) => ?_
  blk_simp
  rw [after0_3]
  idx_vars y
  rw [out_apply]
  have e : (win0_3.blk t).view.emb (ix2 y0 y1) = ix2 (row t y0) (col t y1) := by
    blk_ext [idx t, row, col]
  exact (congrArg (fun z : S8448x128.Idx => out (m ((c : Thread nD τ).loc main_arg0))
    (m ((c : Thread nD τ).loc main_arg1)) (m ((c : Thread nD τ).loc main_arg2)) (z 0) (z 1)) e).symm

/-- The reference's array. -/
def ref (h : FVec Ideal S8448x2048 .f32) (w : FVec Ideal S2048 .f32) (W : FVec Ideal S2048x128 .bf16) : FVec Ideal S8448x128 .f32 :=
  Host.dotGeneral Cert.SsdDtRefIdeal.dot_S8448x2048_S2048x128_S8448x128_1_0_0_1_n_n none (normed h w)
    (extf .f32 W Cert.SsdDtRefIdeal.Gen.bitsLt_bf16_f32)

theorem value_eq (h : FVec Ideal S8448x2048 .f32) (w : FVec Ideal S2048 .f32) (W : FVec Ideal S2048x128 .bf16) :
    (fun y : S8448x128.Idx => out h w W (y 0) (y 1)) = ref h w W := by
  funext y
  idx_vars y
  have e : ref h w W (ix2 y0 y1) = ∑ d : Fin 2048, normed h w (ix2 y0 d) * W (ix2 d y1) := by
    pointwise [ref]
    all_goals rfl
  rw [e]
  simp only [normed_apply]
  rfl

end Cert.SsdDt

end
-- ==== Proof.Project.SsdOut.lean ====
module

public import proofs.«01_k».proof.Proof.Gen.SsdOutIdeal.Value
public import proofs.«01_k».proof.Proof.Gen.SsdOutRefIdeal.Run
public import Idealize.ShloMosaic.Lib.Pointwise
public import Idealize.ShloMosaic.Lib.Tactic
public import Idealize.ShloMosaic.Lib.Pipeline.ValueKit

@[expose] public section

set_option maxRecDepth 16384

noncomputable section

namespace Cert.SsdOut

open Idealize.ShloMosaic Idealize.ShloMosaic.TcCoe Cert.SsdOutIdeal Cert.SsdOutIdeal.Gen

theorem pay_apply (x : Vec Ideal S768x1024 .f32) (a : Vec Ideal S768x4096 .bf16) (w : Vec Ideal S4096x1024 .bf16) (r : Fin 768) (l : Fin 1024) :
    k0_pay1 x a w (ix2 r l) = x (ix2 r l) + ∑ k : Fin 4096, a (ix2 r k) * w (ix2 k l) := by
  pointwise [k0_pay1]

/-- The residual and the rows through the weights. -/
def out (a : S8448x4096.Idx → EReal) (w : S4096x2048.Idx → EReal) (h : S8448x2048.Idx → EReal) (i : Fin 8448) (l : Fin 2048) : EReal :=
  h (ix2 i l) + ∑ k : Fin 4096, a (ix2 i k) * w (ix2 k l)

variable (m : (ℓ : Loc nD τ sig) → Buf (Elt Ideal) ℓ) (c : Dev nD)

theorem idx : ∀ t : Fin cfg0.N, win0_0.index t = ![t.val / 2, 0] ∧ win0_1.index t = ![0, t.val % 2]
    ∧ win0_2.index t = ![t.val / 2, t.val % 2] ∧ win0_3.index t = ![t.val / 2, t.val % 2] := by
  decide +kernel

theorem lt (t : Fin cfg0.N) : t.val < 22 := t.isLt

def row (t : Fin cfg0.N) (r : Fin 768) : Fin 8448 := ⟨t.val / 2 * 768 + r.val, by have := lt t; omega⟩

def col (t : Fin cfg0.N) (l : Fin 1024) : Fin 2048 := ⟨t.val % 2 * 1024 + l.val, by omega⟩

theorem a_blk (t : Fin cfg0.N) (r : Fin 768) (k : Fin 4096) : iblk m c 0 t (ix2 r k)
    = m ((c : Thread nD τ).loc main_arg0) (ix2 (row t r) k) := by
  blk_ext [iblk, V, idx t, row]

theorem w_blk (t : Fin cfg0.N) (k : Fin 4096) (l : Fin 1024) : iblk m c 1 t (ix2 k l)
    = m ((c : Thread nD τ).loc main_arg1) (ix2 k (col t l)) := by
  blk_ext [iblk, V, idx t, col]

theorem h_blk (t : Fin cfg0.N) (r : Fin 768) (l : Fin 1024) : iblk m c 2 t (ix2 r l)
    = m ((c : Thread nD τ).loc main_arg2) (ix2 (row t r) (col t l)) := by
  blk_ext [iblk, V, idx t, row, col]

/-- What a point writes. -/
theorem out_apply (t : Fin cfg0.N) (r : Fin 768) (l : Fin 1024) : out0_3 (iblk m c 0 t) (iblk m c 1 t) (iblk m c 2 t) (ix2 r l)
    = out (m ((c : Thread nD τ).loc main_arg0)) (m ((c : Thread nD τ).loc main_arg1)) (m ((c : Thread nD τ).loc main_arg2)) (row t r) (col t l) := by
  frame_out
  refine (pay_apply _ _ _ _ _).trans (congrArg₂ (· + ·) (h_blk m c t r l) ?_)
  exact Finset.sum_congr rfl fun k _ => congrArg₂ (· * ·) (a_blk m c t r k) (w_blk m c t k l)

/-- The array after the run. -/
theorem arr_eq : (dats m 0 c).arrAt 3 cfg0.N = fun y => out (m ((c : Thread nD τ).loc main_arg0))
    (m ((c : Thread nD τ).loc main_arg1)) (m ((c : Thread nD τ).loc main_arg2)) (y 0) (y 1) := by
  refine (dats m 0 c).arrAt_eq_of_covers 3 _ (by decide +kernel) fun t hf (y : S768x1024.Idx) => ?_
  blk_simp
  rw [after0_3]
  idx_vars y
  rw [out_apply]
  have e : (win0_3.blk t).view.emb (ix2 y0 y1) = ix2 (row t y0) (col t y1) := by
    blk_ext [idx t, row, col]
  exact (congrArg (fun z : S8448x2048.Idx => out (m ((c : Thread nD τ).loc main_arg0))
    (m ((c : Thread nD τ).loc main_arg1)) (m ((c : Thread nD τ).loc main_arg2)) (z 0) (z 1)) e).symm

/-- The reference's array. -/
def ref (a : FVec Ideal S8448x4096 .bf16) (w : FVec Ideal S4096x2048 .bf16) (h : FVec Ideal S8448x2048 .f32) : FVec Ideal S8448x2048 .f32 :=
  addf h (Host.dotGeneral Cert.SsdOutRefIdeal.dot_S8448x4096_S4096x2048_S8448x2048_1_0_0_1_n_n none
    (extf .f32 a Cert.SsdOutRefIdeal.Gen.bitsLt_bf16_f32) (extf .f32 w Cert.SsdOutRefIdeal.Gen.bitsLt_bf16_f32))

theorem value_eq (a : FVec Ideal S8448x4096 .bf16) (w : FVec Ideal S4096x2048 .bf16) (h : FVec Ideal S8448x2048 .f32) :
    (fun y : S8448x2048.Idx => out a w h (y 0) (y 1)) = ref a w h := by
  funext y
  idx_vars y
  refine Eq.symm ?_
  pointwise [ref]
  rfl

end Cert.SsdOut

end
-- ==== Proof.Project.AttnOut.lean ====
module

public import proofs.«01_k».proof.Proof.Gen.AttnOutIdeal.Value
public import proofs.«01_k».proof.Proof.Gen.AttnOutRefIdeal.Run
public import Idealize.ShloMosaic.Lib.Pointwise
public import Idealize.ShloMosaic.Lib.Tactic
public import Idealize.ShloMosaic.Lib.Pipeline.ValueKit

@[expose] public section

set_option maxRecDepth 16384

noncomputable section

namespace Cert.AttnOut

open Idealize.ShloMosaic Idealize.ShloMosaic.TcCoe Cert.AttnOutIdeal Cert.AttnOutIdeal.Gen

theorem pay_apply (x : Vec Ideal S768x1024 .f32) (a : Vec Ideal S768x2048 .bf16) (w : Vec Ideal S2048x1024 .bf16) (r : Fin 768) (l : Fin 1024) :
    k0_pay1 x a w (ix2 r l) = x (ix2 r l) + ∑ k : Fin 2048, a (ix2 r k) * w (ix2 k l) := by
  pointwise [k0_pay1]

/-- The residual and the rows through the weights. -/
def out (a : S8448x2048.Idx → EReal) (w : S2048x2048.Idx → EReal) (h : S8448x2048.Idx → EReal) (i : Fin 8448) (l : Fin 2048) : EReal :=
  h (ix2 i l) + ∑ k : Fin 2048, a (ix2 i k) * w (ix2 k l)

variable (m : (ℓ : Loc nD τ sig) → Buf (Elt Ideal) ℓ) (c : Dev nD)

theorem idx : ∀ t : Fin cfg0.N, win0_0.index t = ![t.val / 2, 0] ∧ win0_1.index t = ![0, t.val % 2]
    ∧ win0_2.index t = ![t.val / 2, t.val % 2] ∧ win0_3.index t = ![t.val / 2, t.val % 2] := by
  decide +kernel

theorem lt (t : Fin cfg0.N) : t.val < 22 := t.isLt

def row (t : Fin cfg0.N) (r : Fin 768) : Fin 8448 := ⟨t.val / 2 * 768 + r.val, by have := lt t; omega⟩

def col (t : Fin cfg0.N) (l : Fin 1024) : Fin 2048 := ⟨t.val % 2 * 1024 + l.val, by omega⟩

theorem a_blk (t : Fin cfg0.N) (r : Fin 768) (k : Fin 2048) : iblk m c 0 t (ix2 r k)
    = m ((c : Thread nD τ).loc main_arg0) (ix2 (row t r) k) := by
  blk_ext [iblk, V, idx t, row]

theorem w_blk (t : Fin cfg0.N) (k : Fin 2048) (l : Fin 1024) : iblk m c 1 t (ix2 k l)
    = m ((c : Thread nD τ).loc main_arg1) (ix2 k (col t l)) := by
  blk_ext [iblk, V, idx t, col]

theorem h_blk (t : Fin cfg0.N) (r : Fin 768) (l : Fin 1024) : iblk m c 2 t (ix2 r l)
    = m ((c : Thread nD τ).loc main_arg2) (ix2 (row t r) (col t l)) := by
  blk_ext [iblk, V, idx t, row, col]

/-- What a point writes. -/
theorem out_apply (t : Fin cfg0.N) (r : Fin 768) (l : Fin 1024) : out0_3 (iblk m c 0 t) (iblk m c 1 t) (iblk m c 2 t) (ix2 r l)
    = out (m ((c : Thread nD τ).loc main_arg0)) (m ((c : Thread nD τ).loc main_arg1)) (m ((c : Thread nD τ).loc main_arg2)) (row t r) (col t l) := by
  frame_out
  refine (pay_apply _ _ _ _ _).trans (congrArg₂ (· + ·) (h_blk m c t r l) ?_)
  exact Finset.sum_congr rfl fun k _ => congrArg₂ (· * ·) (a_blk m c t r k) (w_blk m c t k l)

/-- The array after the run. -/
theorem arr_eq : (dats m 0 c).arrAt 3 cfg0.N = fun y => out (m ((c : Thread nD τ).loc main_arg0))
    (m ((c : Thread nD τ).loc main_arg1)) (m ((c : Thread nD τ).loc main_arg2)) (y 0) (y 1) := by
  refine (dats m 0 c).arrAt_eq_of_covers 3 _ (by decide +kernel) fun t hf (y : S768x1024.Idx) => ?_
  blk_simp
  rw [after0_3]
  idx_vars y
  rw [out_apply]
  have e : (win0_3.blk t).view.emb (ix2 y0 y1) = ix2 (row t y0) (col t y1) := by
    blk_ext [idx t, row, col]
  exact (congrArg (fun z : S8448x2048.Idx => out (m ((c : Thread nD τ).loc main_arg0))
    (m ((c : Thread nD τ).loc main_arg1)) (m ((c : Thread nD τ).loc main_arg2)) (z 0) (z 1)) e).symm

/-- The reference's array. -/
def ref (a : FVec Ideal S8448x2048 .bf16) (w : FVec Ideal S2048x2048 .bf16) (h : FVec Ideal S8448x2048 .f32) : FVec Ideal S8448x2048 .f32 :=
  addf h (Host.dotGeneral Cert.AttnOutRefIdeal.dot_S8448x2048_S2048x2048_S8448x2048_1_0_0_1_n_n none
    (extf .f32 a Cert.AttnOutRefIdeal.Gen.bitsLt_bf16_f32) (extf .f32 w Cert.AttnOutRefIdeal.Gen.bitsLt_bf16_f32))

theorem value_eq (a : FVec Ideal S8448x2048 .bf16) (w : FVec Ideal S2048x2048 .bf16) (h : FVec Ideal S8448x2048 .f32) :
    (fun y : S8448x2048.Idx => out a w h (y 0) (y 1)) = ref a w h := by
  funext y
  idx_vars y
  refine Eq.symm ?_
  pointwise [ref]
  rfl

end Cert.AttnOut

end
-- ==== Proof.Qkv.Mask.lean ====
module

public import proofs.«01_k».proof.Proof.Gen.QkvIdeal.Value
public import Idealize.ShloMosaic.Lib.Pointwise
public import Idealize.ShloMosaic.Lib.Tactic

@[expose] public section

set_option maxRecDepth 16384

noncomputable section

namespace Cert.Qkv

open Idealize.ShloMosaic Idealize.ShloMosaic.TcCoe Cert.QkvIdeal Cert.QkvIdeal.Gen

/-- 1 where two of 256 columns are of one head, -/
def same : FVec Ideal S256x256 .bf16 :=
  k0_pay10 (iota .tc S256x256 32 [1] iota_S256x256_d1_w32) k0_pay6 128#32 k0_pay7 k0_pay8 k0_pay9

/-- and 1 where the first is the second's partner. -/
def swap : IVec S256x256 32 :=
  k0_pay11 (iota .tc S256x256 32 [0] iota_S256x256_d0_w32) (iota .tc S256x256 32 [1] iota_S256x256_d1_w32)

/-- The other column of a rotated pair. -/
def partner (l : ℕ) : ℕ := if l % 64 < 32 then l + 32 else l - 32

theorem sitofp_bit (p : Prop) [Decidable p] (x : BitVec 1) (h : x = if p then 1#1 else 0#1) :
    (FloatOps.sitofp (F := Ideal) FTy.f32 (BitVec.setWidth 32 x) : EReal) = if p then 1 else 0 := by
  subst h
  split
  · exact (show _ = ((1 : ℝ) : EReal) from congrArg _ (by norm_num)).trans EReal.coe_one
  · exact (show _ = ((0 : ℝ) : EReal) from congrArg _ (by norm_num)).trans EReal.coe_zero

theorem head_word (k : Fin 256) : Scalar.select
    (IntOp.andi
      (IntOp.cmpi CmpIPredicate.ne
        (IntOp.subi (BitVec.setWidth 32 (IntOp.cmpi CmpIPredicate.sgt (BitVec.ofNat 32 k.val) 0#32))
          (BitVec.setWidth 32 (IntOp.cmpi CmpIPredicate.slt (BitVec.ofNat 32 k.val) 0#32)))
        (Scalar.subi (Scalar.extui (Scalar.cmpi CmpIPredicate.sgt 128#32 0#32))
          (Scalar.extui (Scalar.cmpi CmpIPredicate.slt 128#32 0#32))))
      (IntOp.cmpi CmpIPredicate.ne (IntOp.remsi ArithUnit.vector (BitVec.ofNat 32 k.val) 128#32) 0#32))
    (IntOp.subi (IntOp.divsi ArithUnit.vector (BitVec.ofNat 32 k.val) 128#32) 1#32)
    (IntOp.divsi ArithUnit.vector (BitVec.ofNat 32 k.val) 128#32) = BitVec.ofNat 32 (k.val / 128) := by
  revert k
  decide +kernel

theorem partner_word (l : Fin 256) : Scalar.select
    (IntOp.cmpi CmpIPredicate.slt
      (Scalar.select
        (IntOp.andi
          (IntOp.xori
            (IntOp.cmpi CmpIPredicate.slt
              (IntOp.remsi ArithUnit.vector (BitVec.ofNat 32 l.val)
                (Scalar.select (Scalar.cmpi CmpIPredicate.eq 64#32 0#32) 1#32 64#32))
              0#32)
            (Scalar.cmpi CmpIPredicate.slt (Scalar.select (Scalar.cmpi CmpIPredicate.eq 64#32 0#32) 1#32 64#32)
              0#32))
          (IntOp.cmpi CmpIPredicate.ne
            (IntOp.remsi ArithUnit.vector (BitVec.ofNat 32 l.val)
              (Scalar.select (Scalar.cmpi CmpIPredicate.eq 64#32 0#32) 1#32 64#32))
            0#32))
        (IntOp.addi
          (IntOp.remsi ArithUnit.vector (BitVec.ofNat 32 l.val)
            (Scalar.select (Scalar.cmpi CmpIPredicate.eq 64#32 0#32) 1#32 64#32))
          (Scalar.select (Scalar.cmpi CmpIPredicate.eq 64#32 0#32) 1#32 64#32))
        (IntOp.remsi ArithUnit.vector (BitVec.ofNat 32 l.val)
          (Scalar.select (Scalar.cmpi CmpIPredicate.eq 64#32 0#32) 1#32 64#32)))
      32#32)
    (IntOp.addi (BitVec.ofNat 32 l.val) 32#32) (IntOp.subi (BitVec.ofNat 32 l.val) 32#32) = BitVec.ofNat 32 (partner l.val) := by
  revert l
  decide +kernel

theorem partner_lt {l : ℕ} (h : l < 256) : partner l < 256 := by
  unfold partner; split <;> omega

theorem eq_word (a b : ℕ) (ha : a < 256) (hb : b < 256) :
    IntOp.cmpi CmpIPredicate.eq (BitVec.ofNat 32 a) (BitVec.ofNat 32 b) = if a = b then 1#1 else 0#1 := by
  have e : BitVec.ofNat 32 a = BitVec.ofNat 32 b ↔ a = b := by
    constructor
    · intro h
      have := congrArg BitVec.toNat h
      simp only [BitVec.toNat_ofNat] at this
      omega
    · rintro rfl; rfl
  by_cases h : a = b
  · subst h
    simp [IntOp.cmpi]
  · rw [if_neg h]
    exact congrArg BitVec.ofBool (beq_eq_false_iff_ne.mpr fun he => h (e.mp he))

theorem same_apply (k l : Fin 256) : same (ix2 k l) = if k.val / 128 = l.val / 128 then 1 else 0 := by
  pointwise [same, k0_pay6, k0_pay7, k0_pay8, k0_pay9, k0_pay10]
  rw [head_word, head_word]
  exact sitofp_bit _ _ (eq_word _ _ (by omega) (by omega))

theorem swap_apply (k l : Fin 256) : k0_pay12 (F := Ideal) swap (ix2 k l) = if k.val = partner l.val then 1 else 0 := by
  pointwise [swap, k0_pay11, k0_pay12]
  rw [partner_word]
  exact sitofp_bit _ _ (eq_word _ _ k.isLt (partner_lt l.isLt))

/-- A sum through the first mask is the head's, -/
theorem sum_same (f : Fin 256 → EReal) (l : Fin 256) : ∑ k, f k * same (ix2 k l)
    = ∑ e : Fin 128, f ⟨l.val / 128 * 128 + e.val, by omega⟩ := by
  simp only [same_apply, mul_ite, mul_one, mul_zero]
  refine (Fintype.sum_of_injective (fun e : Fin 128 => (⟨l.val / 128 * 128 + e.val, by omega⟩ : Fin 256)) ?_ _ _ ?_ ?_).symm
  · intro a b h
    have := congrArg Fin.val h
    exact Fin.ext (by simp only at this; omega)
  · intro k hk
    refine if_neg fun h => hk ⟨⟨k.val % 128, Nat.mod_lt _ (by decide)⟩, Fin.ext ?_⟩
    simp only
    omega
  · intro e
    exact (if_pos (by simp only; omega)).symm

/-- and one through the second its one term. -/
theorem sum_swap (f : Fin 256 → EReal) (l : Fin 256) : ∑ k, f k * k0_pay12 (F := Ideal) swap (ix2 k l)
    = f ⟨partner l.val, partner_lt l.isLt⟩ := by
  simp only [swap_apply, mul_ite, mul_one, mul_zero]
  rw [Finset.sum_eq_single ⟨partner l.val, partner_lt l.isLt⟩ (fun k _ hk => if_neg fun h => hk (Fin.ext h))
    (fun h => absurd (Finset.mem_univ _) h)]
  exact if_pos rfl

end Cert.Qkv

end
-- ==== Proof.Qkv.Point.lean ====
module

public import proofs.«01_k».proof.Proof.Qkv.Mask
public import proofs.«01_k».proof.Proof.Norm.Rms

@[expose] public section

set_option maxRecDepth 16384

noncomputable section

namespace Cert.Qkv

open Idealize.ShloMosaic Idealize.ShloMosaic.TcCoe Cert.QkvIdeal Cert.QkvIdeal.Gen
open Cert.Norm (rms)

/-- The reciprocal of the width of a head, and the constant added under the root. -/
def inv : EReal := Ideal.ofBits FTy.f32 0x3C000000#32
def eps : EReal := Ideal.ofBits FTy.f32 0x358637BD#32

theorem pay1_apply (x : Vec Ideal S1408x2048 .f32) (w : Vec Ideal S1x2048 .f32) (r : Fin 1408) (d : Fin 2048) :
    k0_pay1 x w (ix2 r d) = rms (fun e => x (ix2 r e)) (fun e => w (ix2 0 e)) d := by
  pointwise [k0_pay1]
  rfl

theorem pay2_apply (n : Vec Ideal S1408x2048 .bf16) (w : Vec Ideal S2048x512 .bf16) (r : Fin 1408) (l : Fin 512) :
    k0_pay2 n w (ix2 r l) = ∑ d : Fin 2048, n (ix2 r d) * w (ix2 d l) := by
  pointwise [k0_pay2]

theorem pay3_apply (n : Vec Ideal S1408x2048 .bf16) (w : Vec Ideal S2048x512 .bf16) (r : Fin 1408) (l : Fin 512) :
    k0_pay3 n w (ix2 r l) = ∑ d : Fin 2048, n (ix2 r d) * w (ix2 d l) := by
  pointwise [k0_pay3]

theorem pay4_apply (c : Vec Ideal S1408x128 .f32) (r : Fin 1408) (l : Fin 256) :
    k0_pay4 c (ix2 r l) = c (ix2 r ⟨l.val % 128, Nat.mod_lt _ (by decide)⟩) := by
  pointwise [k0_pay4]
  by_cases h : l.val < 128
  · exact (dif_pos h).trans (congrArg (fun k => c (ix2 r k)) (Fin.ext (show l.val = l.val % 128 by omega)))
  · exact (dif_neg h).trans (congrArg (fun k => c (ix2 r k)) (Fin.ext (show l.val - 128 = l.val % 128 by omega)))

theorem pay5_apply (c : Vec Ideal S1408x128 .f32) (r : Fin 1408) (l : Fin 256) :
    k0_pay5 c (ix2 r l) = c (ix2 r ⟨l.val % 128, Nat.mod_lt _ (by decide)⟩) := pay4_apply c r l

/-- One entry of a rotated pair of heads: of the columns' products `y`, their weights `w`, a cosine and a signed sine. -/
def turn (y w : Fin 256 → EReal) (c s : EReal) (l : Fin 256) : EReal :=
  (y l * w l * c + y ⟨partner l.val, partner_lt l.isLt⟩ * w ⟨partner l.val, partner_lt l.isLt⟩ * s)
    * Ideal.rsqrt ((∑ e : Fin 128, y ⟨l.val / 128 * 128 + e.val, by omega⟩ * y ⟨l.val / 128 * 128 + e.val, by omega⟩) * inv + eps)

theorem pay13_apply (y : FVec Ideal S1408x512 .f32) (c s : FVec Ideal S1408x256 .f32) (w : Vec Ideal S1x256 .f32) (r : Fin 1408) (l : Fin 256) :
    k0_pay13 y c s same swap w (ix2 r l)
    = turn (fun k => y (ix2 r ⟨k.val, by omega⟩)) (fun k => w (ix2 0 k)) (c (ix2 r l)) (s (ix2 r l)) l := by
  pointwise [k0_pay13]
  rw [sum_same (fun k => y (ix2 r ⟨k.val, by omega⟩) * y (ix2 r ⟨k.val, by omega⟩)), sum_swap (fun k => y (ix2 r ⟨k.val, by omega⟩) * w (ix2 0 k))]
  rfl

theorem pay14_apply (y : FVec Ideal S1408x512 .f32) (c s : FVec Ideal S1408x256 .f32) (w : Vec Ideal S1x256 .f32) (r : Fin 1408) (l : Fin 256) :
    k0_pay14 y c s same swap w (ix2 r l)
    = turn (fun k => y (ix2 r ⟨256 + k.val, by omega⟩)) (fun k => w (ix2 0 k)) (c (ix2 r l)) (s (ix2 r l)) l := by
  pointwise [k0_pay14]
  rw [sum_same (fun k => y (ix2 r ⟨256 + k.val, by omega⟩) * y (ix2 r ⟨256 + k.val, by omega⟩)),
    sum_swap (fun k => y (ix2 r ⟨256 + k.val, by omega⟩) * w (ix2 0 k))]
  rfl

end Cert.Qkv

end
-- ==== Proof.Qkv.Tables.lean ====
module

public import proofs.«01_k».proof.Proof.Gen.QkvIdeal.Value
public import Idealize.ShloMosaic.Lib.Tactic
public import Idealize.ShloMosaic.Lib.Pointwise

@[expose] public section

set_option maxRecDepth 16384

noncomputable section

namespace Cert.Qkv

open Idealize.ShloMosaic Idealize.ShloMosaic.TcCoe Cert.QkvIdeal Cert.QkvIdeal.Gen

/-- Each slot's grid row: 0 for padding, −1 for a meta token, -/
def rows : IVec S4224 32 := concatenate S4224 0 [⟨S112, broadcastInDim S112 ![] bcast_S_S112 (constantI S_ 32 0#32)⟩,
  ⟨S16, broadcastInDim S16 ![] bcast_S_S16 (constantI S_ 32 4294967295#32)⟩,
  ⟨S4096, shapeCast S4096 (broadcastInDim S64x64 ![0] bcast_S64_S64x64_0 (iotaInDim S64 32 0)) shapeCasts_S64x64_S4096⟩]
  concatenates_S112_S16_S4096_S4224_d0

/-- and its grid column: a meta token's is its number. -/
def cols : IVec S4224 32 := concatenate S4224 0 [⟨S112, broadcastInDim S112 ![] bcast_S_S112 (constantI S_ 32 0#32)⟩,
  ⟨S16, iotaInDim S16 32 0⟩,
  ⟨S4096, shapeCast S4096 (broadcastInDim S64x64 ![0, 1] bcast_S1x64_S64x64_0_1
    (shapeCast S1x64 (iotaInDim S64 32 0) shapeCasts_S64_S1x64)) shapeCasts_S64x64_S4096⟩]
  concatenates_S112_S16_S4096_S4224_d0

/-- The 32 frequencies of one axis. -/
def freq : FVec Ideal S32 .f32 := Host.powf (broadcastInDim S32 ![] bcast_S_S32 (constant S_ .f32 0x461C4000#32))
  (Host.divf (Host.negf (addf (broadcastInDim S32 ![] bcast_S_S32 (constant S_ .f32 0x00000000#32))
    (mulf (broadcastInDim S32 ![] bcast_S_S32 (constant S_ .f32 0x40000000#32)) (sitofp .f32 (iotaInDim S32 32 0)))))
    (broadcastInDim S32 ![] bcast_S_S32 (constant S_ .f32 0x42800000#32)))

/-- The angles of one axis. -/
def angles (p : IVec S4224 32) : FVec Ideal S4224x32 .f32 :=
  mulf (broadcastInDim S4224x32 ![0, 1] bcast_S4224x1_S4224x32_0_1 (broadcastInDim S4224x1 ![0] bcast_S4224_S4224x1_0 (sitofp .f32 p)))
    (broadcastInDim S4224x32 ![0, 1] bcast_S1x32_S4224x32_0_1 (broadcastInDim S1x32 ![1] bcast_S32_S1x32_1 freq))

def cosines : FVec Ideal S4224x128 .f32 := concatenate S4224x128 1 [⟨S4224x32, Host.cos (angles rows)⟩,
  ⟨S4224x32, Host.cos (angles rows)⟩, ⟨S4224x32, Host.cos (angles cols)⟩, ⟨S4224x32, Host.cos (angles cols)⟩]
  concatenates_S4224x32_S4224x32_S4224x32_S4224x32_S4224x128_d1

def sines : FVec Ideal S4224x128 .f32 := concatenate S4224x128 1 [⟨S4224x32, Host.negf (Host.sin (angles rows))⟩,
  ⟨S4224x32, Host.sin (angles rows)⟩, ⟨S4224x32, Host.negf (Host.sin (angles cols))⟩, ⟨S4224x32, Host.sin (angles cols)⟩]
  concatenates_S4224x32_S4224x32_S4224x32_S4224x32_S4224x128_d1

/-- A column's weight: the queries' with the scale, then the keys', then one. -/
def weights (q k : FVec Ideal S128 .f32) : FVec Ideal S1x4096 .f32 := shapeCast S1x4096 (concatenate S4096 0
  [⟨S2048, shapeCast S2048 (broadcastInDim S16x128 ![0, 1] bcast_S1x128_S16x128_0_1 (shapeCast S1x128
      (mulf q (broadcastInDim S128 ![] bcast_S_S128 (constant S_ .f32 0x3E0293EE#32))) shapeCasts_S128_S1x128)) shapeCasts_S16x128_S2048⟩,
   ⟨S1024, shapeCast S1024 (broadcastInDim S8x128 ![0, 1] bcast_S1x128_S8x128_0_1 (shapeCast S1x128 k shapeCasts_S128_S1x128))
      shapeCasts_S8x128_S1024⟩,
   ⟨S1024, broadcastInDim S1024 ![] bcast_S_S1024 (constant S_ .f32 0x3F800000#32)⟩]
  concatenates_S2048_S1024_S1024_S4096_d0) shapeCasts_S4096_S1x4096

variable (m : (ℓ : Loc nD τ sig) → Buf (Elt Ideal) ℓ) (c : Dev nD)

set_option maxHeartbeats 4000000 in
theorem cosines_eq : (V m c main_v39 : FVec Ideal S4224x128 .f32) = cosines := by
  rfl

set_option maxHeartbeats 4000000 in
theorem sines_eq : (V m c main_v46 : FVec Ideal S4224x128 .f32) = sines := by
  rfl

set_option maxHeartbeats 4000000 in
theorem weights_eq : (V m c main_v57 : FVec Ideal S1x4096 .f32)
    = weights (m ((c : Thread nD τ).loc main_arg3)) (m ((c : Thread nD τ).loc main_arg4)) := by
  rfl

set_option maxHeartbeats 4000000 in
theorem norm_eq : (V m c main_v58 : FVec Ideal S1x2048 .f32) = shapeCast S1x2048 (m ((c : Thread nD τ).loc main_arg1)) shapeCasts_S2048_S1x2048 := by
  rfl

/-- The angle of slot `s` at frequency `l` of axis `a`. -/
def angle (s : Fin 4224) (a : ℕ) (l : Fin 32) : EReal :=
  if a = 0 then angles rows (ix2 s l) else angles cols (ix2 s l)

theorem four (A B C D : Fin 32 → EReal) (d : Fin 128) : (if h : d.val < 32 then A ⟨d.val, h⟩
    else if h : d.val - 32 < 32 then B ⟨d.val - 32, h⟩
    else if h : d.val - 32 - 32 < 32 then C ⟨d.val - 32 - 32, h⟩ else D ⟨d.val - 32 - 32 - 32, by omega⟩)
    = if d.val % 64 < 32 then (if d.val / 64 = 0 then A else C) ⟨d.val % 32, Nat.mod_lt _ (by decide)⟩
      else (if d.val / 64 = 0 then B else D) ⟨d.val % 32, Nat.mod_lt _ (by decide)⟩ := by
  have e (n : ℕ) (h : n < 32) (e : n = d.val % 32) : (⟨n, h⟩ : Fin 32) = ⟨d.val % 32, Nat.mod_lt _ (by decide)⟩ := Fin.ext e
  by_cases h1 : d.val < 32
  · rw [dif_pos h1, if_pos (by omega), if_pos (by omega), e _ h1 (by omega)]
  rw [dif_neg h1]
  by_cases h2 : d.val - 32 < 32
  · rw [dif_pos h2, if_neg (by omega), if_pos (by omega), e _ h2 (by omega)]
  rw [dif_neg h2]
  by_cases h3 : d.val - 32 - 32 < 32
  · rw [dif_pos h3, if_pos (by omega), if_neg (by omega), e _ h3 (by omega)]
  rw [dif_neg h3, if_neg (by omega), if_neg (by omega), e _ (by omega) (by omega)]

theorem cosines_apply (s : Fin 4224) (d : Fin 128) :
    cosines (ix2 s d) = Ideal.cos (angle s (d.val / 64) ⟨d.val % 32, Nat.mod_lt _ (by decide)⟩) := by
  pointwise [cosines]
  refine (four (fun l => Ideal.cos (angles rows (ix2 s l))) (fun l => Ideal.cos (angles rows (ix2 s l)))
    (fun l => Ideal.cos (angles cols (ix2 s l))) (fun l => Ideal.cos (angles cols (ix2 s l))) d).trans ?_
  unfold angle
  split_ifs <;> rfl

theorem sines_apply (s : Fin 4224) (d : Fin 128) : sines (ix2 s d) = if d.val % 64 < 32
    then -Ideal.sin (angle s (d.val / 64) ⟨d.val % 32, Nat.mod_lt _ (by decide)⟩)
    else Ideal.sin (angle s (d.val / 64) ⟨d.val % 32, Nat.mod_lt _ (by decide)⟩) := by
  pointwise [sines]
  refine (four (fun l => -Ideal.sin (angles rows (ix2 s l))) (fun l => Ideal.sin (angles rows (ix2 s l)))
    (fun l => -Ideal.sin (angles cols (ix2 s l))) (fun l => Ideal.sin (angles cols (ix2 s l))) d).trans ?_
  unfold angle
  split_ifs <;> rfl

/-- The scale of the queries. -/
def scale : EReal := Ideal.ofBits FTy.f32 0x3E0293EE#32

/-- The weight of entry `d` of a head's columns: a query's with the scale, or a key's. -/
def weight (q k : Fin 128 → EReal) (j : Fin 4096) (d : Fin 128) : EReal := if j.val < 2048 then q d * scale else k d

theorem weights_apply (q k : FVec Ideal S128 .f32) (j : Fin 4096) (h : j.val < 3072) : weights q k (ix2 0 j)
    = weight (fun e => q (ix1 e)) (fun e => k (ix1 e)) j ⟨j.val % 128, Nat.mod_lt _ (by decide)⟩ := by
  pointwise [weights]
  unfold weight
  by_cases h1 : j.val < 2048
  · rw [dif_pos h1, if_pos h1]
    rfl
  · rw [dif_neg h1, if_neg h1, dif_pos (by omega)]
    exact congrArg (fun l => k (ix1 l)) (Fin.ext (show (j.val - 2048) % 128 = j.val % 128 by omega))

end Cert.Qkv

end
-- ==== Proof.Qkv.Head.lean ====
module

public import proofs.«01_k».proof.Proof.Qkv.Point
public import proofs.«01_k».proof.Proof.Qkv.Tables
public import proofs.«01_k».proof.Proof.Norm.Real

@[expose] public section

set_option maxRecDepth 16384

noncomputable section

namespace Cert.Qkv

open Idealize.ShloMosaic Cert.QkvIdeal Cert.QkvIdeal.Gen
open Cert.Norm (rms)

/-- An entry of the normalised rows' product with the weight. -/
def prod (h : Vec Ideal S8448x2048 .f32) (w : Vec Ideal S2048 .f32) (W : Vec Ideal S2048x4096 .bf16) (i : Fin 8448) (j : Fin 4096) : EReal :=
  ∑ d : Fin 2048, rms (fun e => h (ix2 i e)) (fun e => w (ix1 e)) d * W (ix2 d j)

theorem partner_head {d : ℕ} (h : d < 128) : partner d < 128 := by
  unfold partner
  split <;> omega

/-- One entry of a head rotated first and divided by its root afterwards: `y` is the head's products and `w` its weights. -/
def turned (y w : Fin 128 → EReal) (c s : EReal) (d : Fin 128) : EReal :=
  (y d * w d * c + y ⟨partner d.val, partner_head d.isLt⟩ * w ⟨partner d.val, partner_head d.isLt⟩ * s)
    * Ideal.rsqrt ((∑ e : Fin 128, y e * y e) * inv + eps)

/-- A pair of heads in the columns from `o` on, read as one of its two heads. -/
theorem turn_eq (Y W : Fin 4096 → EReal) (c s : EReal) (o : ℕ) (ho : o % 256 = 0) (hb : o + 256 ≤ 4096) (l : Fin 256) :
    turn (fun k => Y ⟨o + k.val, by omega⟩) (fun k => W ⟨o + k.val, by omega⟩) c s l
    = turned (fun e => Y ⟨(o + l.val) / 128 * 128 + e.val, by omega⟩) (fun e => W ⟨(o + l.val) / 128 * 128 + e.val, by omega⟩) c s
      ⟨(o + l.val) % 128, Nat.mod_lt _ (by decide)⟩ := by
  have e1 : o + l.val = (o + l.val) / 128 * 128 + (o + l.val) % 128 := by omega
  have e2 : o + partner l.val = (o + l.val) / 128 * 128 + partner ((o + l.val) % 128) := by
    unfold partner
    split <;> split <;> omega
  have e3 (e : Fin 128) : o + (l.val / 128 * 128 + e.val) = (o + l.val) / 128 * 128 + e.val := by omega
  unfold turn turned
  simp only [e2, e3]
  simp only [← e1]

/-- An entry of the output: columns below 3072 belong to the heads of queries and keys, which are rotated, the rest to the values. -/
def out (h : Vec Ideal S8448x2048 .f32) (w : Vec Ideal S2048 .f32) (W : Vec Ideal S2048x4096 .bf16) (q k : Vec Ideal S128 .f32)
    (i : Fin 8448) (j : Fin 4096) : EReal :=
  if j.val < 3072 then
    turned (fun e => prod h w W i ⟨j.val / 128 * 128 + e.val, by omega⟩) (weight (fun e => q (ix1 e)) (fun e => k (ix1 e)) j)
      (cosines (ix2 ⟨i.val % 4224, Nat.mod_lt _ (by decide)⟩ ⟨j.val % 128, Nat.mod_lt _ (by decide)⟩))
      (sines (ix2 ⟨i.val % 4224, Nat.mod_lt _ (by decide)⟩ ⟨j.val % 128, Nat.mod_lt _ (by decide)⟩)) ⟨j.val % 128, Nat.mod_lt _ (by decide)⟩
  else prod h w W i j

/-- An entry of a head normalised first: the root of the mean of its squares, and its weight. -/
def scaled (y w : Fin 128 → EReal) (d : Fin 128) : EReal :=
  y d * Ideal.rsqrt (Ideal.div (∑ e, y e * y e) (Ideal.ofBits FTy.f32 0x43000000#32) + Ideal.ofBits FTy.f32 0x358637BD#32) * w d

theorem inv_eq : inv = ((1 / 128 : ℝ) : EReal) := by
  simp [inv, Ideal.ofBits, Ideal.ieee, -EReal.coe_mul]; norm_num

theorem width_eq : Ideal.ofBits FTy.f32 0x43000000#32 = ((128 : ℝ) : EReal) := by
  simp [Ideal.ofBits, Ideal.ieee, -EReal.coe_mul]; norm_num

theorem scale_pos : ∃ e : ℝ, 0 < e ∧ scale = (e : EReal) := by
  refine ⟨(8388608 + 168942) * 2 ^ (-26 : ℤ), by positivity, ?_⟩
  simp [scale, Ideal.ofBits, Ideal.ieee, -EReal.coe_mul]; norm_num

theorem div_width (x : EReal) : Ideal.div x (Ideal.ofBits FTy.f32 0x43000000#32) = x * inv := by
  rw [width_eq, inv_eq, Ideal.div_coe (by norm_num)]

theorem sq_nonneg (x : EReal) : 0 ≤ x * x := by
  induction x with
  | bot => simp
  | coe r => exact_mod_cast mul_self_nonneg r
  | top => simp

/-- The reciprocal root is real and not negative, whatever the entries. -/
theorem root (y : Fin 128 → EReal) : 0 ≤ Ideal.rsqrt ((∑ e, y e * y e) * inv + eps) ∧ Ideal.rsqrt ((∑ e, y e * y e) * inv + eps) ≠ ⊤ := by
  have hs : 0 ≤ ∑ e, y e * y e := Finset.sum_nonneg fun e _ => sq_nonneg _
  generalize ∑ e, y e * y e = S at hs
  obtain ⟨e, he, hE⟩ := Cert.Norm.eps_pos
  rw [show eps = (e : EReal) from hE, inv_eq]
  induction S with
  | bot => simp at hs
  | coe r =>
    have hr : 0 ≤ r := by exact_mod_cast hs
    have hp : 0 < r * (1 / 128) + e := by positivity
    rw [← EReal.coe_mul, ← EReal.coe_add, Ideal.rsqrt_coe, if_neg (by linarith), if_neg (by linarith)]
    refine ⟨?_, EReal.coe_ne_top _⟩
    exact_mod_cast inv_nonneg.mpr (Real.sqrt_nonneg _)
  | top =>
    rw [EReal.top_mul_coe_of_pos (by norm_num), EReal.top_add_coe]
    rw [show Ideal.rsqrt (⊤ : EReal) = 0 from rfl]
    exact ⟨le_refl 0, EReal.zero_ne_top⟩

theorem distrib {k : EReal} (h0 : 0 ≤ k) (h1 : k ≠ ⊤) (a b : EReal) : (a + b) * k = a * k + b * k := by
  rw [mul_comm, EReal.left_distrib_of_nonneg_of_ne_top h0 h1, mul_comm k a, mul_comm k b]

/-- To rotate first is to normalise first: for the keys, -/
theorem turned_eq (y w : Fin 128 → EReal) (c s : EReal) (d : Fin 128) :
    turned y w c s d = scaled y w d * c + scaled y w ⟨partner d.val, partner_head d.isLt⟩ * s := by
  obtain ⟨h0, h1⟩ := root y
  unfold turned scaled
  rw [div_width]
  change _ = y d * Ideal.rsqrt ((∑ e, y e * y e) * inv + eps) * w d * c + y _ * Ideal.rsqrt ((∑ e, y e * y e) * inv + eps) * w _ * s
  generalize Ideal.rsqrt ((∑ e, y e * y e) * inv + eps) = k at h0 h1 ⊢
  rw [distrib h0 h1]
  exact congrArg₂ (· + ·) (by ac_rfl) (by ac_rfl)

/-- and for the queries, whose scale the kernel multiplies into the weights. -/
theorem turned_scale (y w : Fin 128 → EReal) (c s : EReal) (d : Fin 128) : turned y (fun e => w e * scale) c s d
    = (scaled y w d * c + scaled y w ⟨partner d.val, partner_head d.isLt⟩ * s) * scale := by
  obtain ⟨e, he, hE⟩ := scale_pos
  have h0 : 0 ≤ scale := by
    rw [hE]
    exact_mod_cast he.le
  have h1 : scale ≠ ⊤ := by
    rw [hE]
    exact EReal.coe_ne_top _
  rw [turned_eq, distrib h0 h1]
  unfold scaled
  beta_reduce
  exact congrArg₂ (· + ·) (by ac_rfl) (by ac_rfl)

end Cert.Qkv

end
-- ==== Proof.Qkv.Array.lean ====
module

public import proofs.«01_k».proof.Proof.Qkv.Head
public import Idealize.ShloMosaic.Lib.Tactic
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.Qkv

open Idealize.ShloMosaic Idealize.ShloMosaic.TcCoe Cert.QkvIdeal Cert.QkvIdeal.Gen
open Cert.Norm (rms)

variable (m : (ℓ : Loc nD τ sig) → Buf (Elt Ideal) ℓ) (c : Dev nD)

theorem idx : ∀ t : Fin cfg0.N, win0_0.index t = ![t.val / 8, 0] ∧ win0_1.index t = ![0, 0]
    ∧ win0_2.index t = ![0, t.val % 8] ∧ win0_3.index t = ![0, t.val % 8] ∧ win0_4.index t = ![t.val / 8 % 3, 0]
    ∧ win0_5.index t = ![t.val / 8 % 3, 0] ∧ win0_6.index t = ![t.val / 8, t.val % 8] := by
  decide +kernel

theorem lt (t : Fin cfg0.N) : t.val < 48 := t.isLt

/-- The array's row that a row of a point's block is, -/
def row (t : Fin cfg0.N) (r : Fin 1408) : Fin 8448 := ⟨t.val / 8 * 1408 + r.val, by have := lt t; omega⟩

/-- its slot of the sequence, -/
def slot (t : Fin cfg0.N) (r : Fin 1408) : Fin 4224 := ⟨t.val / 8 % 3 * 1408 + r.val, by omega⟩

/-- and the column that a column is. -/
def col (t : Fin cfg0.N) (l : Fin 512) : Fin 4096 := ⟨t.val % 8 * 512 + l.val, by omega⟩

theorem h_blk (t : Fin cfg0.N) (r : Fin 1408) (d : Fin 2048) : iblk m c 0 t (ix2 r d)
    = m ((c : Thread nD τ).loc main_arg0) (ix2 (row t r) d) := by
  have e : iblk m c 0 t (ix2 r d) = V m c main_arg0 (ix2 (row t r) d) := by
    blk_ext [iblk, idx t, row]
  rw [e, V_main_arg0]

theorem norm_blk (t : Fin cfg0.N) (d : Fin 2048) : iblk m c 1 t (ix2 0 d) = m ((c : Thread nD τ).loc main_arg1) (ix1 d) := by
  have e : iblk m c 1 t (ix2 0 d) = V m c main_v58 (ix2 0 d) := by
    blk_ext [iblk, idx t]
  rw [e, norm_eq]
  pointwise
  all_goals rfl

theorem w_blk (t : Fin cfg0.N) (d : Fin 2048) (l : Fin 512) : iblk m c 2 t (ix2 d l)
    = m ((c : Thread nD τ).loc main_arg2) (ix2 d (col t l)) := by
  have e : iblk m c 2 t (ix2 d l) = V m c main_arg2 (ix2 d (col t l)) := by
    blk_ext [iblk, idx t, col]
  rw [e, V_main_arg2]

theorem weights_blk (t : Fin cfg0.N) (l : Fin 512) : iblk m c 3 t (ix2 0 l)
    = weights (m ((c : Thread nD τ).loc main_arg3)) (m ((c : Thread nD τ).loc main_arg4)) (ix2 0 (col t l)) := by
  have e : iblk m c 3 t (ix2 0 l) = V m c main_v57 (ix2 0 (col t l)) := by
    blk_ext [iblk, idx t, col]
  rw [e, weights_eq]

theorem cos_blk (t : Fin cfg0.N) (r : Fin 1408) (d : Fin 128) : iblk m c 4 t (ix2 r d) = cosines (ix2 (slot t r) d) := by
  have e : iblk m c 4 t (ix2 r d) = V m c main_v39 (ix2 (slot t r) d) := by
    blk_ext [iblk, idx t, slot]
  rw [e, cosines_eq]

theorem sin_blk (t : Fin cfg0.N) (r : Fin 1408) (d : Fin 128) : iblk m c 5 t (ix2 r d) = sines (ix2 (slot t r) d) := by
  have e : iblk m c 5 t (ix2 r d) = V m c main_v46 (ix2 (slot t r) d) := by
    blk_ext [iblk, idx t, slot]
  rw [e, sines_eq]

theorem normed_blk (t : Fin cfg0.N) (r : Fin 1408) (d : Fin 2048) : k0_pay1 (iblk m c 0 t) (iblk m c 1 t) (ix2 r d)
    = rms (fun e => m ((c : Thread nD τ).loc main_arg0) (ix2 (row t r) e)) (fun e => m ((c : Thread nD τ).loc main_arg1) (ix1 e)) d :=
  (pay1_apply _ _ _ _).trans (congrArg₂ (fun x v => rms x v d) (funext fun e => h_blk m c t r e) (funext fun e => norm_blk m c t e))

theorem row_congr {s t : Fin cfg0.N} (h : s.val / 8 = t.val / 8) (r : Fin 1408) : row s r = row t r :=
  Fin.ext (by simp only [row, h])

/-- The normalised rows stay in the scratch through a run of 8 points. -/
theorem scratch (t : Fin cfg0.N) : (outsAt0 m c t.val t.isLt).2 = k0_pay1 (iblk m c 0 t) (iblk m c 1 t) := by
  funext y
  refine (Pipeline.eq_of_write_hold_apply (fun n h => (outsAt0 m c n h).2) 8 (fun t => k0_pay1 (iblk m c 0 t) (iblk m c 1 t)) ?_ ?_ t y).trans ?_
  · intro t h y
    rw [outsAt0_A m c t h (by omega) (by omega)]
    frame_out
  · intro t h y
    by_cases h1 : t.val % 8 ≤ 5
    · rw [outsAt0_B m c t h h1 (by omega)]
      rfl
    · rw [outsAt0_C m c t h h1 (by omega)]
      rfl
  · idx_vars y
    rw [normed_blk, normed_blk, row_congr]
    exact Nat.mul_div_cancel_left _ (by norm_num)

/-- What a point of the values' columns writes, -/
theorem plain_pay (t : Fin cfg0.N) (h : 6 ≤ t.val % 8) (y : S1408x512.Idx) :
    (outsAt0 m c t.val t.isLt).1 y = k0_pay2 (k0_pay1 (iblk m c 0 t) (iblk m c 1 t)) (iblk m c 2 t) y := by
  have hs : (outsAt0 m c (t.val - 1) (Nat.lt_of_le_of_lt (Nat.sub_le _ _) t.isLt)).2 = k0_pay1 (iblk m c 0 t) (iblk m c 1 t) := by
    rw [← scratch m c t, outsAt0_C m c t (by omega) (by omega) h]
    rfl
  rw [outsAt0_C m c t (by omega) (by omega) h]
  frame_out
  simp only [read_unread_whole]
  rw [hs]

/-- The output's values, from the arguments. -/
def value (i : Fin 8448) (j : Fin 4096) : EReal :=
  out (m ((c : Thread nD τ).loc main_arg0)) (m ((c : Thread nD τ).loc main_arg1)) (m ((c : Thread nD τ).loc main_arg2))
    (m ((c : Thread nD τ).loc main_arg3)) (m ((c : Thread nD τ).loc main_arg4)) i j

theorem prod_blk (t : Fin cfg0.N) (r : Fin 1408) (l : Fin 512) :
    ∑ d : Fin 2048, k0_pay1 (iblk m c 0 t) (iblk m c 1 t) (ix2 r d) * iblk m c 2 t (ix2 d l)
    = prod (m ((c : Thread nD τ).loc main_arg0)) (m ((c : Thread nD τ).loc main_arg1)) (m ((c : Thread nD τ).loc main_arg2)) (row t r) (col t l) :=
  Finset.sum_congr rfl fun d _ => congrArg₂ (· * ·) (normed_blk m c t r d) (w_blk m c t d l)

theorem slot_eq (t : Fin cfg0.N) (r : Fin 1408) : slot t r = ⟨(row t r).val % 4224, Nat.mod_lt _ (by decide)⟩ :=
  Fin.ext (show t.val / 8 % 3 * 1408 + r.val = (t.val / 8 * 1408 + r.val) % 4224 by omega)

/-- The pair of heads in the columns `p`, …, `p + 255` of a point's block, `p` being 0 or 256. -/
theorem pair (t : Fin cfg0.N) (ht : t.val % 8 ≤ 5) (p : ℕ) (hp : p = 0 ∨ p = 256) (r : Fin 1408) (l : Fin 256) (y w : Fin 256 → EReal) (cs sn : EReal)
    (hy : ∀ k : Fin 256, y k = ∑ d : Fin 2048, k0_pay1 (iblk m c 0 t) (iblk m c 1 t) (ix2 r d) * iblk m c 2 t (ix2 d ⟨p + k.val, by omega⟩))
    (hw : ∀ k : Fin 256, w k = iblk m c 3 t (ix2 0 ⟨p + k.val, by omega⟩))
    (hc : cs = iblk m c 4 t (ix2 r ⟨l.val % 128, Nat.mod_lt _ (by decide)⟩)) (hs : sn = iblk m c 5 t (ix2 r ⟨l.val % 128, Nat.mod_lt _ (by decide)⟩)) :
    turn y w cs sn l = value m c (row t r) (col t ⟨p + l.val, by omega⟩) := by
  have hlt : (col t ⟨p + l.val, by omega⟩).val < 3072 := by
    show t.val % 8 * 512 + (p + l.val) < 3072
    omega
  have ej : (col t ⟨p + l.val, by omega⟩).val = t.val % 8 * 512 + p + l.val := by
    show t.val % 8 * 512 + (p + l.val) = _
    omega
  have em : l.val % 128 = (col t ⟨p + l.val, by omega⟩).val % 128 := by omega
  unfold value out
  rw [if_pos hlt]
  have hy' : y = fun k => prod (m ((c : Thread nD τ).loc main_arg0)) (m ((c : Thread nD τ).loc main_arg1)) (m ((c : Thread nD τ).loc main_arg2))
      (row t r) ⟨t.val % 8 * 512 + p + k.val, by omega⟩ := by
    funext k
    rw [hy k, prod_blk]
    exact congrArg _ (Fin.ext (show t.val % 8 * 512 + (p + k.val) = t.val % 8 * 512 + p + k.val by omega))
  have hw' : w = fun k => weights (m ((c : Thread nD τ).loc main_arg3)) (m ((c : Thread nD τ).loc main_arg4))
      (ix2 0 ⟨t.val % 8 * 512 + p + k.val, by omega⟩) := by
    funext k
    rw [hw k, weights_blk]
    exact congrArg (fun j => weights _ _ (ix2 0 j)) (Fin.ext (show t.val % 8 * 512 + (p + k.val) = t.val % 8 * 512 + p + k.val by omega))
  have hc' : cs = cosines (ix2 ⟨(row t r).val % 4224, Nat.mod_lt _ (by decide)⟩ ⟨(col t ⟨p + l.val, by omega⟩).val % 128, Nat.mod_lt _ (by decide)⟩) := by
    rw [hc, cos_blk, slot_eq]
    exact congrArg (fun d => cosines (ix2 _ d)) (Fin.ext em)
  have hs' : sn = sines (ix2 ⟨(row t r).val % 4224, Nat.mod_lt _ (by decide)⟩ ⟨(col t ⟨p + l.val, by omega⟩).val % 128, Nat.mod_lt _ (by decide)⟩) := by
    rw [hs, sin_blk, slot_eq]
    exact congrArg (fun d => sines (ix2 _ d)) (Fin.ext em)
  rw [hy', hw', ← hc', ← hs']
  refine (turn_eq (fun j => prod (m ((c : Thread nD τ).loc main_arg0)) (m ((c : Thread nD τ).loc main_arg1)) (m ((c : Thread nD τ).loc main_arg2))
      (row t r) j) (fun j => weights (m ((c : Thread nD τ).loc main_arg3)) (m ((c : Thread nD τ).loc main_arg4)) (ix2 0 j)) cs sn
      (t.val % 8 * 512 + p) (by omega) (by omega) l).trans ?_
  simp only [ej]
  refine congrArg (fun v => turned _ v cs sn _) (funext fun e => ?_)
  rw [weights_apply _ _ _ (by show (t.val % 8 * 512 + p + l.val) / 128 * 128 + e.val < 3072; omega)]
  have ed : ((t.val % 8 * 512 + p + l.val) / 128 * 128 + e.val) % 128 = e.val := by omega
  have ei : ((t.val % 8 * 512 + p + l.val) / 128 * 128 + e.val < 2048) = ((col t ⟨p + l.val, by omega⟩).val < 2048) := by
    rw [ej]
    exact propext (by omega)
  simp only [weight, ed, ei]

theorem first_ld (v : Vec Ideal S1x512 .f32) (k : Fin 256) :
    View.ld v (Rect.unit ![0, 0] ![1, 256] inb_S1x512_S1x256_0_0) (ix2 0 k) = v (ix2 0 ⟨0 + k.val, by omega⟩) := by
  pointwise
  blk_ext

theorem second_ld (v : Vec Ideal S1x512 .f32) (k : Fin 256) :
    View.ld v (Rect.unit ![0, 256] ![1, 256] inb_S1x512_S1x256_0_256) (ix2 0 k) = v (ix2 0 ⟨256 + k.val, by omega⟩) := by
  pointwise
  blk_ext

theorem first_piece (t : Fin cfg0.N) (ht : t.val % 8 ≤ 5) (r : Fin 1408) (l : Fin 256) :
    k0_pay13 (k0_pay3 (k0_pay1 (iblk m c 0 t) (iblk m c 1 t)) (iblk m c 2 t)) (k0_pay4 (iblk m c 4 t)) (k0_pay5 (iblk m c 5 t)) same swap
      (View.ld (iblk m c 3 t) (Rect.unit ![0, 0] ![1, 256] inb_S1x512_S1x256_0_0)) (ix2 r l)
    = value m c (row t r) (col t ⟨0 + l.val, by omega⟩) := by
  rw [pay13_apply]
  refine pair m c t ht 0 (Or.inl rfl) r l _ _ _ _ ?_ ?_ (pay4_apply _ _ _) (pay5_apply _ _ _)
  · intro k
    rw [pay3_apply]
    simp only [Nat.zero_add]
  · intro k
    exact first_ld _ k

theorem second_piece (t : Fin cfg0.N) (ht : t.val % 8 ≤ 5) (r : Fin 1408) (l : Fin 256) :
    k0_pay14 (k0_pay3 (k0_pay1 (iblk m c 0 t) (iblk m c 1 t)) (iblk m c 2 t)) (k0_pay4 (iblk m c 4 t)) (k0_pay5 (iblk m c 5 t)) same swap
      (View.ld (iblk m c 3 t) (Rect.unit ![0, 256] ![1, 256] inb_S1x512_S1x256_0_256)) (ix2 r l)
    = value m c (row t r) (col t ⟨256 + l.val, by omega⟩) := by
  rw [pay14_apply]
  refine pair m c t ht 256 (Or.inr rfl) r l _ _ _ _ ?_ ?_ (pay4_apply _ _ _) (pay5_apply _ _ _)
  · intro k
    rw [pay3_apply]
  · intro k
    exact second_ld _ k

theorem pieces (t : Fin cfg0.N) (ht : t.val % 8 ≤ 5) (y : S1408x512.Idx) (n : FVec Ideal S1408x2048 .bf16)
    (hn : n = k0_pay1 (iblk m c 0 t) (iblk m c 1 t)) :
    View.canon
      [(⟨Rect.unit ![0, 256] ![1408, 256] inb_S1408x512_S1408x256_0_256,
          k0_pay14 (k0_pay3 n (iblk m c 2 t)) (k0_pay4 (iblk m c 4 t)) (k0_pay5 (iblk m c 5 t)) same swap
            (View.ld (iblk m c 3 t) (Rect.unit ![0, 256] ![1, 256] inb_S1x512_S1x256_0_256))⟩ : View.Piece (Elt Ideal) S1408x512 .bf16),
        ⟨Rect.unit ![0, 0] ![1408, 256] inb_S1408x512_S1408x256_0_0,
          k0_pay13 (k0_pay3 n (iblk m c 2 t)) (k0_pay4 (iblk m c 4 t)) (k0_pay5 (iblk m c 5 t)) same swap
            (View.ld (iblk m c 3 t) (Rect.unit ![0, 0] ![1, 256] inb_S1x512_S1x256_0_0))⟩] y
    = value m c (row t (y 0)) (col t (y 1)) := by
  subst hn
  canon_tiles x h
  · idx_vars x
    refine (second_piece m c t ht _ _).trans ?_
    exact congrArg₂ (value m c) (congrArg (row t) (Fin.ext h0.symm)) (congrArg (col t) (Fin.ext h1.symm))
  · idx_vars x
    refine (first_piece m c t ht _ _).trans ?_
    exact congrArg₂ (value m c) (congrArg (row t) (Fin.ext h0.symm)) (congrArg (col t) (Fin.ext (h1.trans (Nat.zero_add _).symm).symm))

theorem out_apply (t : Fin cfg0.N) (y : S1408x512.Idx) : (outsAt0 m c t.val t.isLt).1 y = value m c (row t (y 0)) (col t (y 1)) := by
  by_cases h : t.val % 8 = 0
  · rw [outsAt0_A m c t h (by omega) (by omega)]
    frame_out
    exact pieces m c t (by omega) y _ rfl
  by_cases h1 : t.val % 8 ≤ 5
  · have hs : (outsAt0 m c (t.val - 1) (Nat.lt_of_le_of_lt (Nat.sub_le _ _) t.isLt)).2 = k0_pay1 (iblk m c 0 t) (iblk m c 1 t) := by
      rw [← scratch m c t, outsAt0_B m c t h h1 (by omega)]
      rfl
    rw [outsAt0_B m c t h h1 (by omega)]
    frame_out
    simp only [read_unread_whole]
    exact pieces m c t h1 y _ hs
  · rw [plain_pay m c t (by omega)]
    idx_vars y
    rw [pay2_apply, prod_blk]
    unfold value out
    rw [if_neg]
    show ¬ t.val % 8 * 512 + _ < 3072
    omega

/-- The array after the run. -/
theorem arr_eq : (dats m 0 c).arrAt 6 cfg0.N = fun y => value m c (y 0) (y 1) := by
  refine (dats m 0 c).arrAt_eq_of_covers 6 _ (by decide +kernel) fun t hf (y : S1408x512.Idx) => ?_
  blk_simp
  rw [after0_6]
  rw [out_apply]
  idx_vars y
  have e : (win0_6.blk t).view.emb (ix2 y0 y1) = ix2 (row t y0) (col t y1) := by
    blk_ext [idx t, row, col]
  exact (congrArg (fun z : S8448x4096.Idx => value m c (z 0) (z 1)) e).symm

end Cert.Qkv

end
-- ==== Proof.Qkv.Rotate.lean ====
module

public import proofs.«01_k».proof.Proof.Norm.Ref
public import proofs.«01_k».proof.Proof.Qkv.Head
public import proofs.«01_k».proof.Proof.Gen.QkvRefIdeal.Run

@[expose] public section

set_option maxRecDepth 16384

noncomputable section

namespace Cert.Qkv

open Idealize.ShloMosaic Idealize.ShloMosaic.TcCoe Cert.QkvRefIdeal Cert.QkvRefIdeal.Gen
open Cert.Norm (normed)

/-- The angles of both axes, by the host's operations. -/
def axes : FVec Ideal S4224x2x32 .f32 :=
  mulf (broadcastInDim S4224x2x32 ![0, 1, 2] bcast_S4224x2x1_S4224x2x32_0_1_2 (broadcastInDim S4224x2x1 ![0, 1] bcast_S4224x2_S4224x2x1_0_1
      (sitofp .f32 (concatenate S4224x2 1 [⟨S4224x1, broadcastInDim S4224x1 ![0] bcast_S4224_S4224x1_0 rows⟩,
        ⟨S4224x1, broadcastInDim S4224x1 ![0] bcast_S4224_S4224x1_0 cols⟩] concatenates_S4224x1_S4224x1_S4224x2_d1))))
    (broadcastInDim S4224x2x32 ![0, 1, 2] bcast_S1x1x32_S4224x2x32_0_1_2 (broadcastInDim S1x1x32 ![2] bcast_S32_S1x1x32_2 freq))

theorem axes_apply (s : Fin 4224) (a : Fin 2) (l : Fin 32) : axes (ix3 s a l) = angle s a.val l := by
  pointwise [axes]
  unfold angle
  have e (p : IVec S4224 32) : angles p (ix2 s l) = FloatOps.sitofp (F := Ideal) FTy.f32 (p (ix1 s)) * freq (ix1 l) := by
    pointwise [angles]
  by_cases h : a.val = 0
  · rw [dif_pos (by omega), if_pos h, e]
  · rw [dif_neg (by omega), if_neg h, e]

/-- An entry of a head, rotated. -/
theorem rotate (N : Fin 128 → EReal) (s : Fin 4224) (d : Fin 128) :
    (if d.val % 64 < 32 then
      N ⟨d.val / 64 * 64 + d.val % 32, by omega⟩ * Ideal.cos (angle s (d.val / 64) ⟨d.val % 32, by omega⟩)
        - N ⟨d.val / 64 * 64 + 32 + d.val % 32, by omega⟩ * Ideal.sin (angle s (d.val / 64) ⟨d.val % 32, by omega⟩)
    else N ⟨d.val / 64 * 64 + 32 + d.val % 32, by omega⟩ * Ideal.cos (angle s (d.val / 64) ⟨d.val % 32, by omega⟩)
        + N ⟨d.val / 64 * 64 + d.val % 32, by omega⟩ * Ideal.sin (angle s (d.val / 64) ⟨d.val % 32, by omega⟩))
    = N d * cosines (ix2 s d) + N ⟨partner d.val, partner_head d.isLt⟩ * sines (ix2 s d) := by
  rw [cosines_apply, sines_apply]
  by_cases h : d.val % 64 < 32
  · have e1 : (⟨d.val / 64 * 64 + d.val % 32, by omega⟩ : Fin 128) = d := Fin.ext (show d.val / 64 * 64 + d.val % 32 = d.val by omega)
    have e2 : (⟨d.val / 64 * 64 + 32 + d.val % 32, by omega⟩ : Fin 128) = ⟨partner d.val, partner_head d.isLt⟩ := Fin.ext (by
      show d.val / 64 * 64 + 32 + d.val % 32 = partner d.val
      unfold partner
      rw [if_pos h]
      omega)
    rw [if_pos h, if_pos h, e1, e2, mul_neg, sub_eq_add_neg]
  · have e1 : (⟨d.val / 64 * 64 + 32 + d.val % 32, by omega⟩ : Fin 128) = d := Fin.ext (show d.val / 64 * 64 + 32 + d.val % 32 = d.val by omega)
    have e2 : (⟨d.val / 64 * 64 + d.val % 32, by omega⟩ : Fin 128) = ⟨partner d.val, partner_head d.isLt⟩ := Fin.ext (by
      show d.val / 64 * 64 + d.val % 32 = partner d.val
      unfold partner
      rw [if_neg h]
      omega)
    rw [if_neg h, if_neg h, e1, e2]

/-- The heads of the queries in the products, -/
def qheads (y : FVec Ideal S2x4224x4096 .f32) : FVec Ideal S2x4224x16x128 .f32 :=
  shapeCast _ (extractStridedSlice S2x4224x2048 ![0, 0, 0] y slices_S2x4224x4096_S2x4224x2048_0_0_0) shapeCasts_S2x4224x2048_S2x4224x16x128

/-- the same normalised, -/
def qnormed (x : FVec Ideal S2x4224x16x128 .f32) (w : FVec Ideal S128 .f32) : FVec Ideal S2x4224x16x128 .f32 :=
  mulf (mulf x (broadcastInDim S2x4224x16x128 ![0, 1, 2, 3] bcast_S2x4224x16x1_S2x4224x16x128_0_1_2_3 (Host.rsqrt (addf
    (Host.divf (broadcastInDim S2x4224x16x1 ![0, 1, 2] bcast_S2x4224x16_S2x4224x16x1_0_1_2
        (Host.reduceAdd (mulf x x) (constant S_ .f32 0x00000000#32) reducesTo_S2x4224x16x128_S2x4224x16_d3 h_S_))
      (broadcastInDim S2x4224x16x1 ![] bcast_S_S2x4224x16x1 (constant S_ .f32 0x43000000#32)))
    (broadcastInDim S2x4224x16x1 ![] bcast_S_S2x4224x16x1 (constant S_ .f32 0x358637BD#32))))))
    (broadcastInDim S2x4224x16x128 ![0, 1, 2, 3] bcast_S1x1x1x128_S2x4224x16x128_0_1_2_3
      (broadcastInDim S1x1x1x128 ![3] bcast_S128_S1x1x1x128_3 w))

/-- a table laid over them, -/
def qwide (a : FVec Ideal S4224x2x32 .f32) : FVec Ideal S2x4224x16x2x32 .f32 :=
  broadcastInDim S2x4224x16x2x32 ![0, 1, 2, 3, 4] bcast_S1x4224x1x2x32_S2x4224x16x2x32_0_1_2_3_4
    (broadcastInDim S1x4224x1x2x32 ![1, 2, 3, 4] bcast_S4224x1x2x32_S1x4224x1x2x32_1_2_3_4
      (broadcastInDim S4224x1x2x32 ![0, 2, 3] bcast_S4224x2x32_S4224x1x2x32_0_2_3 a))

/-- the first halves of their axes -/
def qhalf0 (x : FVec Ideal S2x4224x16x128 .f32) : FVec Ideal S2x4224x16x2x32 .f32 :=
  shapeCast _ (extractStridedSlice S2x4224x16x2x1x32 ![0, 0, 0, 0, 0, 0] (shapeCast S2x4224x16x2x2x32 x shapeCasts_S2x4224x16x128_S2x4224x16x2x2x32)
    slices_S2x4224x16x2x2x32_S2x4224x16x2x1x32_0_0_0_0_0_0) shapeCasts_S2x4224x16x2x1x32_S2x4224x16x2x32

/-- and the second, -/
def qhalf1 (x : FVec Ideal S2x4224x16x128 .f32) : FVec Ideal S2x4224x16x2x32 .f32 :=
  shapeCast _ (extractStridedSlice S2x4224x16x2x1x32 ![0, 0, 0, 0, 1, 0] (shapeCast S2x4224x16x2x2x32 x shapeCasts_S2x4224x16x128_S2x4224x16x2x2x32)
    slices_S2x4224x16x2x2x32_S2x4224x16x2x1x32_0_0_0_0_1_0) shapeCasts_S2x4224x16x2x1x32_S2x4224x16x2x32

/-- and heads put together from two halves. -/
def qpair (a b : FVec Ideal S2x4224x16x2x32 .f32) : FVec Ideal S2x4224x16x128 .f32 :=
  shapeCast _ (concatenate S2x4224x16x2x2x32 4
    [⟨S2x4224x16x2x1x32, broadcastInDim S2x4224x16x2x1x32 ![0, 1, 2, 3, 5] bcast_S2x4224x16x2x32_S2x4224x16x2x1x32_0_1_2_3_5 a⟩,
      ⟨S2x4224x16x2x1x32, broadcastInDim S2x4224x16x2x1x32 ![0, 1, 2, 3, 5] bcast_S2x4224x16x2x32_S2x4224x16x2x1x32_0_1_2_3_5 b⟩]
    concatenates_S2x4224x16x2x1x32_S2x4224x16x2x1x32_S2x4224x16x2x2x32_d4) shapeCasts_S2x4224x16x2x2x32_S2x4224x16x128

/-- The heads rotated. -/
def qrotated (x : FVec Ideal S2x4224x16x128 .f32) : FVec Ideal S2x4224x16x128 .f32 :=
  qpair (subf (mulf (qhalf0 x) (qwide (Host.cos axes))) (mulf (qhalf1 x) (qwide (Host.sin axes))))
    (addf (mulf (qhalf1 x) (qwide (Host.cos axes))) (mulf (qhalf0 x) (qwide (Host.sin axes))))

theorem qheads_apply (y : FVec Ideal S2x4224x4096 .f32) (b : Fin 2) (s : Fin 4224) (n : Fin 16) (d : Fin 128) :
    qheads y (ix4 b s n d) = y (ix3 b s ⟨n.val * 128 + d.val, by omega⟩) := by
  pointwise [qheads]

theorem qnormed_apply (x : FVec Ideal S2x4224x16x128 .f32) (w : FVec Ideal S128 .f32) (b : Fin 2) (s : Fin 4224) (n : Fin 16) (d : Fin 128) :
    qnormed x w (ix4 b s n d) = scaled (fun e => x (ix4 b s n e)) (fun e => w (ix1 e)) d := by
  pointwise [qnormed]
  rfl

theorem qhalf0_apply (x : FVec Ideal S2x4224x16x128 .f32) (b : Fin 2) (s : Fin 4224) (n : Fin 16) (a : Fin 2) (l : Fin 32) :
    qhalf0 x (ix5 b s n a l) = x (ix4 b s n ⟨a.val * 64 + l.val, by omega⟩) := by
  pointwise [qhalf0]

theorem qhalf1_apply (x : FVec Ideal S2x4224x16x128 .f32) (b : Fin 2) (s : Fin 4224) (n : Fin 16) (a : Fin 2) (l : Fin 32) :
    qhalf1 x (ix5 b s n a l) = x (ix4 b s n ⟨a.val * 64 + 32 + l.val, by omega⟩) := by
  pointwise [qhalf1]

theorem qwide_apply (x : FVec Ideal S4224x2x32 .f32) (b : Fin 2) (s : Fin 4224) (n : Fin 16) (a : Fin 2) (l : Fin 32) :
    qwide x (ix5 b s n a l) = x (ix3 s a l) := by
  pointwise [qwide]

theorem qpair_apply (x y : FVec Ideal S2x4224x16x2x32 .f32) (b : Fin 2) (s : Fin 4224) (n : Fin 16) (d : Fin 128) :
    qpair x y (ix4 b s n d) = if d.val % 64 < 32 then x (ix5 b s n ⟨d.val / 64, by omega⟩ ⟨d.val % 32, by omega⟩)
      else y (ix5 b s n ⟨d.val / 64, by omega⟩ ⟨d.val % 32, by omega⟩) := by
  pointwise [qpair]
  by_cases h : d.val % 64 < 32
  · rw [dif_pos (by omega), if_pos h]
  · rw [dif_neg (by omega), if_neg h]

theorem qrotated_apply (x : FVec Ideal S2x4224x16x128 .f32) (b : Fin 2) (s : Fin 4224) (n : Fin 16) (d : Fin 128) :
    qrotated x (ix4 b s n d) = x (ix4 b s n d) * cosines (ix2 s d) + x (ix4 b s n ⟨partner d.val, partner_head d.isLt⟩) * sines (ix2 s d) := by
  refine Eq.trans ?_ (rotate (fun e => x (ix4 b s n e)) s d)
  unfold qrotated
  refine (qpair_apply _ _ b s n d).trans ?_
  refine if_congr Iff.rfl ?_ ?_
  · show qhalf0 x _ * qwide (Host.cos axes) _ - qhalf1 x _ * qwide (Host.sin axes) _ = _
    rw [qhalf0_apply, qhalf1_apply, qwide_apply, qwide_apply]
    exact congrArg (fun t => x _ * Ideal.cos t - x _ * Ideal.sin t) (axes_apply s _ _)
  · show qhalf1 x _ * qwide (Host.cos axes) _ + qhalf0 x _ * qwide (Host.sin axes) _ = _
    rw [qhalf0_apply, qhalf1_apply, qwide_apply, qwide_apply]
    exact congrArg (fun t => x _ * Ideal.cos t + x _ * Ideal.sin t) (axes_apply s _ _)

/-- The heads of the keys in the products, -/
def kheads (y : FVec Ideal S2x4224x4096 .f32) : FVec Ideal S2x4224x8x128 .f32 :=
  shapeCast _ (extractStridedSlice S2x4224x1024 ![0, 0, 2048] y slices_S2x4224x4096_S2x4224x1024_0_0_2048) shapeCasts_S2x4224x1024_S2x4224x8x128

/-- the same normalised, -/
def knormed (x : FVec Ideal S2x4224x8x128 .f32) (w : FVec Ideal S128 .f32) : FVec Ideal S2x4224x8x128 .f32 :=
  mulf (mulf x (broadcastInDim S2x4224x8x128 ![0, 1, 2, 3] bcast_S2x4224x8x1_S2x4224x8x128_0_1_2_3 (Host.rsqrt (addf
    (Host.divf (broadcastInDim S2x4224x8x1 ![0, 1, 2] bcast_S2x4224x8_S2x4224x8x1_0_1_2
        (Host.reduceAdd (mulf x x) (constant S_ .f32 0x00000000#32) reducesTo_S2x4224x8x128_S2x4224x8_d3 h_S_))
      (broadcastInDim S2x4224x8x1 ![] bcast_S_S2x4224x8x1 (constant S_ .f32 0x43000000#32)))
    (broadcastInDim S2x4224x8x1 ![] bcast_S_S2x4224x8x1 (constant S_ .f32 0x358637BD#32))))))
    (broadcastInDim S2x4224x8x128 ![0, 1, 2, 3] bcast_S1x1x1x128_S2x4224x8x128_0_1_2_3
      (broadcastInDim S1x1x1x128 ![3] bcast_S128_S1x1x1x128_3 w))

/-- a table laid over them, -/
def kwide (a : FVec Ideal S4224x2x32 .f32) : FVec Ideal S2x4224x8x2x32 .f32 :=
  broadcastInDim S2x4224x8x2x32 ![0, 1, 2, 3, 4] bcast_S1x4224x1x2x32_S2x4224x8x2x32_0_1_2_3_4
    (broadcastInDim S1x4224x1x2x32 ![1, 2, 3, 4] bcast_S4224x1x2x32_S1x4224x1x2x32_1_2_3_4
      (broadcastInDim S4224x1x2x32 ![0, 2, 3] bcast_S4224x2x32_S4224x1x2x32_0_2_3 a))

/-- the first halves of their axes -/
def khalf0 (x : FVec Ideal S2x4224x8x128 .f32) : FVec Ideal S2x4224x8x2x32 .f32 :=
  shapeCast _ (extractStridedSlice S2x4224x8x2x1x32 ![0, 0, 0, 0, 0, 0] (shapeCast S2x4224x8x2x2x32 x shapeCasts_S2x4224x8x128_S2x4224x8x2x2x32)
    slices_S2x4224x8x2x2x32_S2x4224x8x2x1x32_0_0_0_0_0_0) shapeCasts_S2x4224x8x2x1x32_S2x4224x8x2x32

/-- and the second, -/
def khalf1 (x : FVec Ideal S2x4224x8x128 .f32) : FVec Ideal S2x4224x8x2x32 .f32 :=
  shapeCast _ (extractStridedSlice S2x4224x8x2x1x32 ![0, 0, 0, 0, 1, 0] (shapeCast S2x4224x8x2x2x32 x shapeCasts_S2x4224x8x128_S2x4224x8x2x2x32)
    slices_S2x4224x8x2x2x32_S2x4224x8x2x1x32_0_0_0_0_1_0) shapeCasts_S2x4224x8x2x1x32_S2x4224x8x2x32

/-- and heads put together from two halves. -/
def kpair (a b : FVec Ideal S2x4224x8x2x32 .f32) : FVec Ideal S2x4224x8x128 .f32 :=
  shapeCast _ (concatenate S2x4224x8x2x2x32 4
    [⟨S2x4224x8x2x1x32, broadcastInDim S2x4224x8x2x1x32 ![0, 1, 2, 3, 5] bcast_S2x4224x8x2x32_S2x4224x8x2x1x32_0_1_2_3_5 a⟩,
      ⟨S2x4224x8x2x1x32, broadcastInDim S2x4224x8x2x1x32 ![0, 1, 2, 3, 5] bcast_S2x4224x8x2x32_S2x4224x8x2x1x32_0_1_2_3_5 b⟩]
    concatenates_S2x4224x8x2x1x32_S2x4224x8x2x1x32_S2x4224x8x2x2x32_d4) shapeCasts_S2x4224x8x2x2x32_S2x4224x8x128

/-- The heads rotated. -/
def krotated (x : FVec Ideal S2x4224x8x128 .f32) : FVec Ideal S2x4224x8x128 .f32 :=
  kpair (subf (mulf (khalf0 x) (kwide (Host.cos axes))) (mulf (khalf1 x) (kwide (Host.sin axes))))
    (addf (mulf (khalf1 x) (kwide (Host.cos axes))) (mulf (khalf0 x) (kwide (Host.sin axes))))

theorem kheads_apply (y : FVec Ideal S2x4224x4096 .f32) (b : Fin 2) (s : Fin 4224) (n : Fin 8) (d : Fin 128) :
    kheads y (ix4 b s n d) = y (ix3 b s ⟨2048 + (n.val * 128 + d.val), by omega⟩) := by
  pointwise [kheads]

theorem knormed_apply (x : FVec Ideal S2x4224x8x128 .f32) (w : FVec Ideal S128 .f32) (b : Fin 2) (s : Fin 4224) (n : Fin 8) (d : Fin 128) :
    knormed x w (ix4 b s n d) = scaled (fun e => x (ix4 b s n e)) (fun e => w (ix1 e)) d := by
  pointwise [knormed]
  rfl

theorem khalf0_apply (x : FVec Ideal S2x4224x8x128 .f32) (b : Fin 2) (s : Fin 4224) (n : Fin 8) (a : Fin 2) (l : Fin 32) :
    khalf0 x (ix5 b s n a l) = x (ix4 b s n ⟨a.val * 64 + l.val, by omega⟩) := by
  pointwise [khalf0]

theorem khalf1_apply (x : FVec Ideal S2x4224x8x128 .f32) (b : Fin 2) (s : Fin 4224) (n : Fin 8) (a : Fin 2) (l : Fin 32) :
    khalf1 x (ix5 b s n a l) = x (ix4 b s n ⟨a.val * 64 + 32 + l.val, by omega⟩) := by
  pointwise [khalf1]

theorem kwide_apply (x : FVec Ideal S4224x2x32 .f32) (b : Fin 2) (s : Fin 4224) (n : Fin 8) (a : Fin 2) (l : Fin 32) :
    kwide x (ix5 b s n a l) = x (ix3 s a l) := by
  pointwise [kwide]

theorem kpair_apply (x y : FVec Ideal S2x4224x8x2x32 .f32) (b : Fin 2) (s : Fin 4224) (n : Fin 8) (d : Fin 128) :
    kpair x y (ix4 b s n d) = if d.val % 64 < 32 then x (ix5 b s n ⟨d.val / 64, by omega⟩ ⟨d.val % 32, by omega⟩)
      else y (ix5 b s n ⟨d.val / 64, by omega⟩ ⟨d.val % 32, by omega⟩) := by
  pointwise [kpair]
  by_cases h : d.val % 64 < 32
  · rw [dif_pos (by omega), if_pos h]
  · rw [dif_neg (by omega), if_neg h]

theorem krotated_apply (x : FVec Ideal S2x4224x8x128 .f32) (b : Fin 2) (s : Fin 4224) (n : Fin 8) (d : Fin 128) :
    krotated x (ix4 b s n d) = x (ix4 b s n d) * cosines (ix2 s d) + x (ix4 b s n ⟨partner d.val, partner_head d.isLt⟩) * sines (ix2 s d) := by
  refine Eq.trans ?_ (rotate (fun e => x (ix4 b s n e)) s d)
  unfold krotated
  refine (kpair_apply _ _ b s n d).trans ?_
  refine if_congr Iff.rfl ?_ ?_
  · show khalf0 x _ * kwide (Host.cos axes) _ - khalf1 x _ * kwide (Host.sin axes) _ = _
    rw [khalf0_apply, khalf1_apply, kwide_apply, kwide_apply]
    exact congrArg (fun t => x _ * Ideal.cos t - x _ * Ideal.sin t) (axes_apply s _ _)
  · show khalf1 x _ * kwide (Host.cos axes) _ + khalf0 x _ * kwide (Host.sin axes) _ = _
    rw [khalf0_apply, khalf1_apply, kwide_apply, kwide_apply]
    exact congrArg (fun t => x _ * Ideal.cos t + x _ * Ideal.sin t) (axes_apply s _ _)

end Cert.Qkv

end
-- ==== Proof.Qkv.Ref.lean ====
module

public import proofs.«01_k».proof.Proof.Qkv.Rotate

@[expose] public section

set_option maxRecDepth 16384

noncomputable section

namespace Cert.Qkv

open Idealize.ShloMosaic Idealize.ShloMosaic.TcCoe Cert.QkvRefIdeal Cert.QkvRefIdeal.Gen
open Cert.Norm (normed)

/-- The products, by the host's operations, split into the two sequences. -/
def products (h : FVec Ideal S8448x2048 .f32) (w : FVec Ideal S2048 .f32) (W : FVec Ideal S2048x4096 .bf16) : FVec Ideal S2x4224x4096 .f32 :=
  shapeCast _ (Host.dotGeneral dot_S8448x2048_S2048x4096_S8448x4096_1_0_0_1_n_n none (normed h w) (extf .f32 W bitsLt_bf16_f32) :
    FVec Ideal S8448x4096 .f32) shapeCasts_S8448x4096_S2x4224x4096

/-- The queries with their scale, as columns, -/
def qcols (x : FVec Ideal S2x4224x16x128 .f32) : FVec Ideal S2x4224x2048 .f32 :=
  shapeCast _ (mulf x (broadcastInDim S2x4224x16x128 ![] bcast_S_S2x4224x16x128 (constant S_ .f32 0x3E0293EE#32))) shapeCasts_S2x4224x16x128_S2x4224x2048

/-- the keys as columns, -/
def kcols (x : FVec Ideal S2x4224x8x128 .f32) : FVec Ideal S2x4224x1024 .f32 := shapeCast _ x shapeCasts_S2x4224x8x128_S2x4224x1024

/-- the values' columns, -/
def vcols (y : FVec Ideal S2x4224x4096 .f32) : FVec Ideal S2x4224x1024 .f32 :=
  extractStridedSlice S2x4224x1024 ![0, 0, 3072] y slices_S2x4224x4096_S2x4224x1024_0_0_3072

/-- and the three side by side. -/
def joined (q : FVec Ideal S2x4224x2048 .f32) (k v : FVec Ideal S2x4224x1024 .f32) : FVec Ideal S2x4224x4096 .f32 :=
  concatenate S2x4224x4096 2 [⟨S2x4224x2048, q⟩, ⟨S2x4224x1024, k⟩, ⟨S2x4224x1024, v⟩]
    concatenates_S2x4224x2048_S2x4224x1024_S2x4224x1024_S2x4224x4096_d2

def rowwise (x : FVec Ideal S2x4224x4096 .f32) : FVec Ideal S8448x4096 .bf16 :=
  truncf .bf16 (shapeCast S8448x4096 x shapeCasts_S2x4224x4096_S8448x4096) bitsLt_bf16_f32

/-- The reference's array. -/
def ref (h : FVec Ideal S8448x2048 .f32) (w : FVec Ideal S2048 .f32) (W : FVec Ideal S2048x4096 .bf16) (q k : FVec Ideal S128 .f32) :
    FVec Ideal S8448x4096 .bf16 :=
  rowwise (joined (qcols (qrotated (qnormed (qheads (products h w W)) q))) (kcols (krotated (knormed (kheads (products h w W)) k)))
    (vcols (products h w W)))

theorem products_apply (h : FVec Ideal S8448x2048 .f32) (w : FVec Ideal S2048 .f32) (W : FVec Ideal S2048x4096 .bf16) (b : Fin 2) (s : Fin 4224)
    (j : Fin 4096) : products h w W (ix3 b s j) = prod h w W ⟨b.val * 4224 + s.val, by omega⟩ j := by
  have e : products h w W (ix3 b s j) = ∑ d : Fin 2048, normed h w (ix2 ⟨b.val * 4224 + s.val, by omega⟩ d) * W (ix2 d j) := by
    pointwise [products]
    all_goals rfl
  rw [e]
  simp only [Cert.Norm.normed_apply]
  rfl

theorem qcols_apply (x : FVec Ideal S2x4224x16x128 .f32) (b : Fin 2) (s : Fin 4224) (j : Fin 2048) :
    qcols x (ix3 b s j) = x (ix4 b s ⟨j.val / 128, by omega⟩ ⟨j.val % 128, by omega⟩) * scale := by
  pointwise [qcols]
  rfl

theorem kcols_apply (x : FVec Ideal S2x4224x8x128 .f32) (b : Fin 2) (s : Fin 4224) (j : Fin 1024) :
    kcols x (ix3 b s j) = x (ix4 b s ⟨j.val / 128, by omega⟩ ⟨j.val % 128, by omega⟩) := by
  pointwise [kcols]

theorem vcols_apply (y : FVec Ideal S2x4224x4096 .f32) (b : Fin 2) (s : Fin 4224) (j : Fin 1024) :
    vcols y (ix3 b s j) = y (ix3 b s ⟨3072 + j.val, by omega⟩) := by
  pointwise [vcols]

theorem joined_apply (q : FVec Ideal S2x4224x2048 .f32) (k v : FVec Ideal S2x4224x1024 .f32) (b : Fin 2) (s : Fin 4224) (j : Fin 4096) :
    joined q k v (ix3 b s j) = if h : j.val < 2048 then q (ix3 b s ⟨j.val, h⟩) else if h' : j.val < 3072 then k (ix3 b s ⟨j.val - 2048, by omega⟩)
      else v (ix3 b s ⟨j.val - 3072, by omega⟩) := by
  pointwise [joined]
  by_cases h : j.val < 2048
  · rw [dif_pos h, dif_pos h]
  rw [dif_neg h, dif_neg h]
  by_cases h' : j.val < 3072
  · rw [dif_pos (by omega), dif_pos h']
  · rw [dif_neg (by omega), dif_neg h']
    exact congrArg (fun l => v (ix3 b s l)) (Fin.ext (show j.val - 2048 - 1024 = j.val - 3072 by omega))

theorem rowwise_apply (x : FVec Ideal S2x4224x4096 .f32) (i : Fin 8448) (j : Fin 4096) :
    rowwise x (ix2 i j) = x (ix3 ⟨i.val / 4224, by omega⟩ ⟨i.val % 4224, by omega⟩ j) := by
  pointwise [rowwise]

/-- A head's products, in the rows as they were. -/
theorem head_apply (h : FVec Ideal S8448x2048 .f32) (w : FVec Ideal S2048 .f32) (W : FVec Ideal S2048x4096 .bf16) (i : Fin 8448) (j : Fin 4096)
    (l : ℕ) (hl : l < 4096) (e : l = j.val) : products h w W (ix3 ⟨i.val / 4224, by omega⟩ ⟨i.val % 4224, by omega⟩ ⟨l, hl⟩) = prod h w W i j := by
  subst e
  rw [products_apply]
  exact congrArg (fun r => prod h w W r j) (Fin.ext (show i.val / 4224 * 4224 + i.val % 4224 = i.val by omega))

theorem q_value (h : FVec Ideal S8448x2048 .f32) (w : FVec Ideal S2048 .f32) (W : FVec Ideal S2048x4096 .bf16) (q k : FVec Ideal S128 .f32)
    (i : Fin 8448) (j : Fin 4096) (hj : j.val < 2048) : out h w W q k i j
    = qcols (qrotated (qnormed (qheads (products h w W)) q)) (ix3 ⟨i.val / 4224, by omega⟩ ⟨i.val % 4224, by omega⟩ ⟨j.val, hj⟩) := by
  rw [qcols_apply, qrotated_apply, qnormed_apply, qnormed_apply]
  unfold out
  rw [if_pos (by omega)]
  have ew : weight (fun e => q (ix1 e)) (fun e => k (ix1 e)) j = fun e => q (ix1 e) * scale := by
    funext e
    exact if_pos hj
  rw [ew, turned_scale]
  have ey : (fun e => qheads (products h w W) (ix4 ⟨i.val / 4224, by omega⟩ ⟨i.val % 4224, by omega⟩ ⟨j.val / 128, by omega⟩ e))
      = fun e : Fin 128 => prod h w W i ⟨j.val / 128 * 128 + e.val, by omega⟩ := by
    funext e
    rw [qheads_apply]
    exact head_apply h w W i _ _ _ rfl
  rw [ey]

theorem k_value (h : FVec Ideal S8448x2048 .f32) (w : FVec Ideal S2048 .f32) (W : FVec Ideal S2048x4096 .bf16) (q k : FVec Ideal S128 .f32)
    (i : Fin 8448) (j : Fin 4096) (hj : ¬ j.val < 2048) (hj' : j.val < 3072) : out h w W q k i j
    = kcols (krotated (knormed (kheads (products h w W)) k)) (ix3 ⟨i.val / 4224, by omega⟩ ⟨i.val % 4224, by omega⟩ ⟨j.val - 2048, by omega⟩) := by
  rw [kcols_apply, krotated_apply, knormed_apply, knormed_apply]
  unfold out
  rw [if_pos hj']
  have ew : weight (fun e => q (ix1 e)) (fun e => k (ix1 e)) j = fun e => k (ix1 e) := by
    funext e
    exact if_neg hj
  have ed : (⟨j.val % 128, by omega⟩ : Fin 128) = ⟨(j.val - 2048) % 128, by omega⟩ := Fin.ext (show j.val % 128 = (j.val - 2048) % 128 by omega)
  rw [ew, turned_eq]
  have ey : (fun e => kheads (products h w W) (ix4 ⟨i.val / 4224, by omega⟩ ⟨i.val % 4224, by omega⟩ ⟨(j.val - 2048) / 128, by omega⟩ e))
      = fun e : Fin 128 => prod h w W i ⟨j.val / 128 * 128 + e.val, by omega⟩ := by
    funext e
    rw [kheads_apply]
    exact head_apply h w W i _ _ _ (show 2048 + ((j.val - 2048) / 128 * 128 + e.val) = j.val / 128 * 128 + e.val by omega)
  rw [ey, ed]

/-- Whatever the arguments, the kernel's array is the reference's. -/
theorem value_eq (h : FVec Ideal S8448x2048 .f32) (w : FVec Ideal S2048 .f32) (W : FVec Ideal S2048x4096 .bf16) (q k : FVec Ideal S128 .f32) :
    (fun y : S8448x4096.Idx => out h w W q k (y 0) (y 1)) = ref h w W q k := by
  funext y
  idx_vars y
  refine Eq.trans ?_ ((rowwise_apply _ _ _).trans (joined_apply _ _ _ _ _ _)).symm
  by_cases hj : y1.val < 2048
  · rw [dif_pos hj]
    exact q_value h w W q k y0 y1 hj
  rw [dif_neg hj]
  by_cases hj' : y1.val < 3072
  · rw [dif_pos hj']
    exact k_value h w W q k y0 y1 hj hj'
  rw [dif_neg hj', vcols_apply]
  refine (if_neg hj').trans ?_
  exact (head_apply h w W y0 y1 _ _ (show 3072 + (y1.val - 3072) = y1.val by omega)).symm

set_option maxHeartbeats 4000000 in
/-- The reference's run ends with that array. -/
theorem res_eq (m : (ℓ : Loc nD τ sig) → Buf (Elt Ideal) ℓ) (c : Dev nD) : (Value.res_main_v137 m c : FVec Ideal S8448x4096 .bf16)
    = ref (m ((c : Thread nD τ).loc main_arg0)) (m ((c : Thread nD τ).loc main_arg1)) (m ((c : Thread nD τ).loc main_arg2))
      (m ((c : Thread nD τ).loc main_arg3)) (m ((c : Thread nD τ).loc main_arg4)) := by
  rfl

end Cert.Qkv

end
-- ==== Proof.Project.Qkv.lean ====
module

public import proofs.«01_k».proof.Proof.Qkv.Array
public import proofs.«01_k».proof.Proof.Qkv.Ref
-- ==== Proof.FfnNext.Point.lean ====
module

public import proofs.«01_k».proof.Proof.Gen.FfnNextIdeal.Value
public import proofs.«01_k».proof.Proof.Ffn.Array
public import Idealize.ShloMosaic.Lib.Pointwise
public import Idealize.ShloMosaic.Lib.Tactic
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.FfnNext

open Cert.Norm (rms)
open Cert.Ffn (act)

open Idealize.ShloMosaic Idealize.ShloMosaic.TcCoe Cert.FfnNextIdeal Cert.FfnNextIdeal.Gen

theorem norm_apply (x : Vec Ideal S768x2048 .f32) (w : Vec Ideal S1x2048 .f32) (r : Fin 768) (d : Fin 2048) :
    k0_pay2 x w (ix2 r d) = rms (fun e => x (ix2 r e)) (fun e => w (ix2 0 e)) d := by
  pointwise [k0_pay2]
  rfl

theorem tile_apply (n : Vec Ideal S768x2048 .bf16) (g u : Vec Ideal S2048x768 .bf16) (x : Vec Ideal S768x2048 .f32) (o : Vec Ideal S768x2048 .bf16)
    (r : Fin 768) (l : Fin 2048) : k0_pay3 n g u x o (ix2 r l) = x (ix2 r l) + ∑ k : Fin 768,
      act (∑ d : Fin 2048, n (ix2 r d) * g (ix2 d k)) (∑ d : Fin 2048, n (ix2 r d) * u (ix2 d k)) * o (ix2 k l) := by
  pointwise [k0_pay3]
  rfl

variable (m : (ℓ : Loc nD τ sig) → Buf (Elt Ideal) ℓ) (c : Dev nD)

theorem idx : ∀ t : Fin cfg0.N, win0_0.index t = ![t.val / 8, 0] ∧ win0_1.index t = ![0, 0]
    ∧ win0_2.index t = ![0, t.val % 8] ∧ win0_3.index t = ![0, 8 + t.val % 8] ∧ win0_4.index t = ![t.val % 8, 0]
    ∧ win0_7.index t = ![t.val / 8, 0] := by
  decide +kernel

theorem lt (t : Fin cfg0.N) : t.val < 88 := t.isLt

/-- The array's row that a row of a point's block is. -/
def row (t : Fin cfg0.N) (r : Fin 768) : Fin 8448 := ⟨t.val / 8 * 768 + r.val, by have := lt t; omega⟩

theorem row_congr {s t : Fin cfg0.N} (h : s.val / 8 = t.val / 8) (r : Fin 768) : row s r = row t r :=
  Fin.ext (by simp only [row, h])

theorem h_blk (t : Fin cfg0.N) (r : Fin 768) (d : Fin 2048) : iblk m c 0 t (ix2 r d)
    = m ((c : Thread nD τ).loc main_arg0) (ix2 (row t r) d) := by
  unfold row
  blk_ext [iblk, V, idx t]

theorem norm_blk (t : Fin cfg0.N) (d : Fin 2048) : iblk m c 1 t (ix2 0 d) = m ((c : Thread nD τ).loc main_arg1) (ix1 d) := by
  have e : V m c main_v0 (ix2 0 d) = m ((c : Thread nD τ).loc main_arg1) (ix1 d) := by
    entry_read
    pointwise
    all_goals rfl
  refine Eq.trans ?_ e
  blk_ext [iblk, idx t]

theorem gate_blk (t : Fin cfg0.N) (d : Fin 2048) (k : Fin 768) : iblk m c 2 t (ix2 d k)
    = m ((c : Thread nD τ).loc main_arg2) (ix2 d ⟨t.val % 8 * 768 + k.val, by omega⟩) := by
  blk_ext [iblk, V, idx t]

theorem up_blk (t : Fin cfg0.N) (d : Fin 2048) (k : Fin 768) : iblk m c 3 t (ix2 d k)
    = m ((c : Thread nD τ).loc main_arg2) (ix2 d ⟨6144 + (t.val % 8 * 768 + k.val), by omega⟩) := by
  blk_ext [iblk, V, idx t]

theorem out_blk (t : Fin cfg0.N) (k : Fin 768) (l : Fin 2048) : iblk m c 4 t (ix2 k l)
    = m ((c : Thread nD τ).loc main_arg3) (ix2 ⟨t.val % 8 * 768 + k.val, by omega⟩ l) := by
  blk_ext [iblk, V, idx t]

/-- The normalised rows stay in the scratch through a run of eight points. -/
theorem scratch (t : Fin cfg0.N) : (outsAt0 m c t.val t.isLt).2.2.2 = k0_pay2 (iblk m c 0 t) (iblk m c 1 t) := by
  funext y
  refine (Pipeline.eq_of_write_hold_apply (fun n h => (outsAt0 m c n h).2.2.2) 8 (fun t => k0_pay2 (iblk m c 0 t) (iblk m c 1 t)) ?_ ?_ t y).trans ?_
  · intro t h y
    rw [outsAt0_A m c t h]
    frame_out
  · intro t h y
    rw [outsAt0_B m c t h]
    rfl
  · idx_vars y
    rw [norm_apply, norm_apply]
    simp only [h_blk, norm_blk]
    rw [row_congr (s := ⟨8 * (t.val / 8), Pipeline.run_start_lt t⟩) (t := t) (Nat.mul_div_cancel_left _ (by norm_num : 0 < 8))]

/-- The residual rows of a point's block. -/
def start (t : Fin cfg0.N) (y : S768x2048.Idx) : EReal := m ((c : Thread nD τ).loc main_arg0) (ix2 (row t (y 0)) (y 1))

/-- What a point adds to its block: the part of the hidden lanes of its own column block. -/
def part (t : Fin cfg0.N) (y : S768x2048.Idx) : EReal := ∑ k : Fin 768,
  act (∑ d : Fin 2048, k0_pay2 (iblk m c 0 t) (iblk m c 1 t) (ix2 (y 0) d) * iblk m c 2 t (ix2 d k))
    (∑ d : Fin 2048, k0_pay2 (iblk m c 0 t) (iblk m c 1 t) (ix2 (y 0) d) * iblk m c 3 t (ix2 d k)) * iblk m c 4 t (ix2 k (y 1))

/-- The first point of a run starts from the residual rows; -/
theorem out_A (t : Fin cfg0.N) (h : t.val % 8 = 0) (y : S768x2048.Idx) : (outsAt0 m c t.val t.isLt).1 y = start m c t y + part m c t y := by
  rw [outsAt0_A m c t h]
  frame_out
  idx_vars y
  exact (tile_apply _ _ _ _ _ _ _).trans (congrArg (· + _) (h_blk m c t y0 y1))

/-- the others add to what the point before left. -/
theorem out_B (t : Fin cfg0.N) (h : ¬ t.val % 8 = 0) (y : S768x2048.Idx) : (outsAt0 m c t.val t.isLt).1 y
    = (outsAt0 m c (t.val - 1) (Nat.lt_of_le_of_lt (Nat.sub_le _ _) t.isLt)).1 y + part m c t y := by
  have hs : (outsAt0 m c (t.val - 1) (Nat.lt_of_le_of_lt (Nat.sub_le _ _) t.isLt)).2.2.2 = k0_pay2 (iblk m c 0 t) (iblk m c 1 t) := by
    rw [← scratch m c t, outsAt0_B m c t h]
    rfl
  rw [outsAt0_B m c t h]
  frame_out
  simp only [read_unread_whole]
  rw [hs]
  idx_vars y
  exact tile_apply _ _ _ _ _ _ _

/-- What a run of eight points leaves in its block. -/
theorem out_run (t : Fin cfg0.N) (h : t.val % 8 = 7) (y : S768x2048.Idx) : (outsAt0 m c t.val t.isLt).1 y
    = start m c t y + ∑ s : Fin 8, part m c ⟨8 * (t.val / 8) + s.val, Pipeline.run_point_lt_of_flush t h s⟩ y := by
  have e := Pipeline.eq_sum_fin_of_reset_step_apply_of_flush (fun n h => (outsAt0 m c n h).1) 8 (fun _ => (0 : EReal))
    (fun t y => (if t.val % 8 = 0 then start m c t y else (0 : EReal)) + part m c t y)
    (fun t h y => by rw [out_A m c t h, if_pos h]; exact (zero_add _).symm)
    (fun t h y => by rw [out_B m c t h, if_neg h, zero_add]) t h y
  refine e.trans ?_
  rw [zero_add, Finset.sum_add_distrib]
  congr 1
  rw [Finset.sum_eq_single 0]
  · rw [if_pos (by simp)]
    refine congrArg (fun r : Fin 8448 => m ((c : Thread nD τ).loc main_arg0) (ix2 r (y 1))) (row_congr ?_ (y 0))
    simp only [Fin.val_zero]
    omega
  · intro s _ hs
    rw [if_neg]
    have : s.val ≠ 0 := fun h => hs (Fin.ext h)
    simp only
    omega
  · simp

end Cert.FfnNext

end
-- ==== Proof.FfnNext.Array.lean ====
module

public import proofs.«01_k».proof.Proof.FfnNext.Point

@[expose] public section

set_option maxRecDepth 16384

noncomputable section

namespace Cert.FfnNext

open Cert.Norm (rms)
open Cert.Ffn (act lane unit ffn)

open Idealize.ShloMosaic Idealize.ShloMosaic.TcCoe Cert.FfnNextIdeal Cert.FfnNextIdeal.Gen

variable (m : (ℓ : Loc nD τ sig) → Buf (Elt Ideal) ℓ) (c : Dev nD)

theorem part_eq (t : Fin cfg0.N) (y : S768x2048.Idx) : part m c t y = ∑ k : Fin 768,
    unit (m ((c : Thread nD τ).loc main_arg0)) (m ((c : Thread nD τ).loc main_arg1)) (m ((c : Thread nD τ).loc main_arg2))
      (row t (y 0)) ⟨t.val % 8 * 768 + k.val, by omega⟩
    * (m ((c : Thread nD τ).loc main_arg3) : S6144x2048.Idx → EReal) (ix2 ⟨t.val % 8 * 768 + k.val, by omega⟩ (y 1)) := by
  unfold part unit lane
  refine Finset.sum_congr rfl fun k _ => congrArg₂ (· * ·) (congrArg₂ act ?_ ?_) (out_blk m c t k (y 1)) <;>
    refine Finset.sum_congr rfl fun d _ => congrArg₂ (· * ·) ((norm_apply _ _ _ _).trans ?_) ?_
  · exact congrArg₂ (fun x v => rms x v d) (funext fun e => h_blk m c t (y 0) e) (funext fun e => norm_blk m c t e)
  · exact gate_blk m c t d k
  · exact congrArg₂ (fun x v => rms x v d) (funext fun e => h_blk m c t (y 0) e) (funext fun e => norm_blk m c t e)
  · exact up_blk m c t d k

theorem arr_eq : (dats m 0 c).arrAt 7 cfg0.N = fun y => ffn (m ((c : Thread nD τ).loc main_arg0))
    (m ((c : Thread nD τ).loc main_arg1)) (m ((c : Thread nD τ).loc main_arg2)) (m ((c : Thread nD τ).loc main_arg3)) (y 0) (y 1) := by
  refine (dats m 0 c).arrAt_eq_of_covers 7 _ (by decide +kernel) fun t hf (y : S768x2048.Idx) => ?_
  have ht := lt t
  blk_simp
  rw [after0_7, out_run m c t ((flush0_7 t).mp hf)]
  have e : (win0_7.blk t).view.emb y = ix2 (row t (y 0)) (y 1) := by
    blk_ext [idx t, row]
  refine Eq.trans ?_ (congrArg (fun z : S8448x2048.Idx => ffn (m ((c : Thread nD τ).loc main_arg0))
    (m ((c : Thread nD τ).loc main_arg1)) (m ((c : Thread nD τ).loc main_arg2)) (m ((c : Thread nD τ).loc main_arg3)) (z 0) (z 1)) e).symm
  refine congrArg (start m c t y + ·) ?_
  simp only [part_eq]
  refine Fin.sum_mul_add_congr fun s k hl => ?_
  have hr := (row_congr (s := ⟨8 * (t.val / 8) + s.val, Pipeline.run_point_lt_of_flush t ((flush0_7 t).mp hf) s⟩) (t := t) (by simp only; omega) (y 0))
  have hs : (8 * (t.val / 8) + s.val) % 8 = s.val := by omega
  rw [hr]
  simp only [hs]
  rfl

end Cert.FfnNext

end
-- ==== Proof.FfnNext.Cast.lean ====
module

public import proofs.«01_k».proof.Proof.FfnNext.Point

@[expose] public section

set_option maxRecDepth 16384

noncomputable section

namespace Cert.FfnNext

open Idealize.ShloMosaic Idealize.ShloMosaic.TcCoe Cert.FfnNextIdeal Cert.FfnNextIdeal.Gen

variable (m : (ℓ : Loc nD τ sig) → Buf (Elt Ideal) ℓ) (c : Dev nD)

theorem cast_idx : ∀ t : Fin cfg0.N, win0_5.index t = ![1, 0, min t.val 63, 0]
    ∧ win0_8.index t = ![min t.val 63, 0]
    ∧ win0_6.index t = ![1, 0, min t.val 63, 0]
    ∧ win0_9.index t = ![min t.val 63, 0] := by
  decide +kernel

theorem first_apply (x : Vec Ideal S1x1x32x12288 .f32) (r : Fin 32) (d : Fin 12288) : k0_pay4 x (ix2 r d) = x (ix4 0 0 r d) := by
  pointwise [k0_pay4]

/-- Columns of one layer of the first array that is cast. -/
def first (x : S4x2x2048x12288.Idx → EReal) (r : Fin 2048) (d : Fin 12288) : EReal := x (ix4 1 0 r d)

theorem first_blk (t : Fin cfg0.N) (r : Fin 32) (d : Fin 12288) : iblk m c 5 t (ix4 0 0 r d)
    = first (m ((c : Thread nD τ).loc main_arg4)) ⟨min t.val 63 * 32 + r.val, by omega⟩ d := by
  unfold first
  blk_ext [iblk, V, cast_idx t]

/-- Every point writes its rows of the first cast. -/
theorem first_out (t : Fin cfg0.N) (r : Fin 32) (d : Fin 12288) : (outsAt0 m c t.val t.isLt).2.1 (ix2 r d)
    = first (m ((c : Thread nD τ).loc main_arg4)) ⟨min t.val 63 * 32 + r.val, by omega⟩ d := by
  refine Eq.trans ?_ ((first_apply _ r d).trans (first_blk m c t r d))
  by_cases h : t.val % 8 = 0
  · rw [outsAt0_A m c t h]
    frame_out
  · rw [outsAt0_B m c t h]
    frame_out

theorem first_arr : (dats m 0 c).arrAt 8 cfg0.N = fun y => first (m ((c : Thread nD τ).loc main_arg4)) (y 0) (y 1) := by
  refine (dats m 0 c).arrAt_eq_of_covers 8 _ (by decide +kernel) fun t hf (y : S32x12288.Idx) => ?_
  have ht := lt t
  blk_simp
  rw [after0_8]
  have e : (win0_8.blk t).view.emb y = ix2 ⟨min t.val 63 * 32 + (y 0).val, by have : (y 0).val < 32 := (y 0).isLt; omega⟩ (y 1) := by
    blk_ext [cast_idx t]
  refine Eq.trans ?_ (congrArg (fun z : S2048x12288.Idx => first (m ((c : Thread nD τ).loc main_arg4)) (z 0) (z 1)) e).symm
  idx_vars y
  exact first_out m c t y0 y1

theorem second_apply (x : Vec Ideal S1x1x96x2048 .f32) (r : Fin 96) (d : Fin 2048) : k0_pay1 x (ix2 r d) = x (ix4 0 0 r d) := by
  pointwise [k0_pay1]

/-- Columns of one layer of the second array that is cast. -/
def second (x : S4x2x6144x2048.Idx → EReal) (r : Fin 6144) (d : Fin 2048) : EReal := x (ix4 1 0 r d)

theorem second_blk (t : Fin cfg0.N) (r : Fin 96) (d : Fin 2048) : iblk m c 6 t (ix4 0 0 r d)
    = second (m ((c : Thread nD τ).loc main_arg5)) ⟨min t.val 63 * 96 + r.val, by omega⟩ d := by
  unfold second
  blk_ext [iblk, V, cast_idx t]

/-- Every point writes its rows of the second cast. -/
theorem second_out (t : Fin cfg0.N) (r : Fin 96) (d : Fin 2048) : (outsAt0 m c t.val t.isLt).2.2.1 (ix2 r d)
    = second (m ((c : Thread nD τ).loc main_arg5)) ⟨min t.val 63 * 96 + r.val, by omega⟩ d := by
  refine Eq.trans ?_ ((second_apply _ r d).trans (second_blk m c t r d))
  by_cases h : t.val % 8 = 0
  · rw [outsAt0_A m c t h]
    frame_out
  · rw [outsAt0_B m c t h]
    frame_out

theorem second_arr : (dats m 0 c).arrAt 9 cfg0.N = fun y => second (m ((c : Thread nD τ).loc main_arg5)) (y 0) (y 1) := by
  refine (dats m 0 c).arrAt_eq_of_covers 9 _ (by decide +kernel) fun t hf (y : S96x2048.Idx) => ?_
  have ht := lt t
  blk_simp
  rw [after0_9]
  have e : (win0_9.blk t).view.emb y = ix2 ⟨min t.val 63 * 96 + (y 0).val, by have : (y 0).val < 96 := (y 0).isLt; omega⟩ (y 1) := by
    blk_ext [cast_idx t]
  refine Eq.trans ?_ (congrArg (fun z : S6144x2048.Idx => second (m ((c : Thread nD τ).loc main_arg5)) (z 0) (z 1)) e).symm
  idx_vars y
  exact second_out m c t y0 y1

end Cert.FfnNext

end
-- ==== Proof.FfnNext.Ref.lean ====
module

public import proofs.«01_k».proof.Proof.Gen.FfnNextRefIdeal.Run
public import proofs.«01_k».proof.Proof.FfnNext.Cast
public import proofs.«01_k».proof.Proof.Ffn.Ref

@[expose] public section

set_option maxRecDepth 16384

noncomputable section

namespace Cert.FfnNext.Ref

open Cert.Norm (normed)
open Cert.Ffn.Ref (result gated project)

open Idealize.ShloMosaic Idealize.ShloMosaic.TcCoe Cert.FfnNextRefIdeal Cert.FfnNextRefIdeal.Gen

theorem first_eq (x : FVec Ideal S4x2x2048x12288 .f32) : truncf .bf16 (shapeCast S2048x12288 (extractStridedSlice S1x1x2048x12288 ![1, 0, 0, 0] x
    slices_S4x2x2048x12288_S1x1x2048x12288_1_0_0_0) shapeCasts_S1x1x2048x12288_S2048x12288) bitsLt_bf16_f32 = fun y : S2048x12288.Idx => first x (y 0) (y 1) := by
  funext y
  idx_vars y
  unfold first
  pointwise

theorem second_eq (x : FVec Ideal S4x2x6144x2048 .f32) : truncf .bf16 (shapeCast S6144x2048 (extractStridedSlice S1x1x6144x2048 ![1, 0, 0, 0] x
    slices_S4x2x6144x2048_S1x1x6144x2048_1_0_0_0) shapeCasts_S1x1x6144x2048_S6144x2048) bitsLt_bf16_f32 = fun y : S6144x2048.Idx => second x (y 0) (y 1) := by
  funext y
  idx_vars y
  unfold second
  pointwise

/-- The reference's run, its results by stages. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v27) = result (m ((c : Thread nD τ).loc main_arg0))
        (gated (project (normed (m ((c : Thread nD τ).loc main_arg0)) (m ((c : Thread nD τ).loc main_arg1))) (m ((c : Thread nD τ).loc main_arg2))))
        (m ((c : Thread nD τ).loc main_arg3))
      ∧ r.2.mem ((c : Thread nD τ).loc main_v28) = (fun y => first (m ((c : Thread nD τ).loc main_arg4)) (y 0) (y 1))
      ∧ r.2.mem ((c : Thread nD τ).loc main_v29) = (fun y => second (m ((c : Thread nD τ).loc main_arg5)) (y 0) (y 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans rfl, (h c).2.1.trans (first_eq _), (h c).2.2.1.trans (second_eq _), (h c).2.2.2⟩)
    (Cert.FfnNextRefIdeal.Value.run (F := Ideal) m ρ)

end Cert.FfnNext.Ref

end
-- ==== Proof.FfnAttn.Point.lean ====
module

public import proofs.«01_k».proof.Proof.Gen.FfnAttnIdeal.Value
public import proofs.«01_k».proof.Proof.Ffn.Array
public import Idealize.ShloMosaic.Lib.Pointwise
public import Idealize.ShloMosaic.Lib.Tactic
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.FfnAttn

open Cert.Norm (rms)
open Cert.Ffn (act)

open Idealize.ShloMosaic Idealize.ShloMosaic.TcCoe Cert.FfnAttnIdeal Cert.FfnAttnIdeal.Gen

theorem norm_apply (x : Vec Ideal S768x2048 .f32) (w : Vec Ideal S1x2048 .f32) (r : Fin 768) (d : Fin 2048) :
    k0_pay4 x w (ix2 r d) = rms (fun e => x (ix2 r e)) (fun e => w (ix2 0 e)) d := by
  pointwise [k0_pay4]
  rfl

theorem tile_apply (n : Vec Ideal S768x2048 .bf16) (g u : Vec Ideal S2048x512 .bf16) (x : Vec Ideal S768x2048 .f32) (o : Vec Ideal S512x2048 .bf16)
    (r : Fin 768) (l : Fin 2048) : k0_pay5 n g u x o (ix2 r l) = x (ix2 r l) + ∑ k : Fin 512,
      act (∑ d : Fin 2048, n (ix2 r d) * g (ix2 d k)) (∑ d : Fin 2048, n (ix2 r d) * u (ix2 d k)) * o (ix2 k l) := by
  pointwise [k0_pay5]
  rfl

variable (m : (ℓ : Loc nD τ sig) → Buf (Elt Ideal) ℓ) (c : Dev nD)

theorem idx : ∀ t : Fin cfg0.N, win0_0.index t = ![t.val / 12, 0] ∧ win0_1.index t = ![0, 0]
    ∧ win0_2.index t = ![0, t.val % 12] ∧ win0_3.index t = ![0, 12 + t.val % 12] ∧ win0_4.index t = ![t.val % 12, 0]
    ∧ win0_9.index t = ![t.val / 12, 0] := by
  decide +kernel

theorem lt (t : Fin cfg0.N) : t.val < 132 := t.isLt

/-- The array's row that a row of a point's block is. -/
def row (t : Fin cfg0.N) (r : Fin 768) : Fin 8448 := ⟨t.val / 12 * 768 + r.val, by have := lt t; omega⟩

theorem row_congr {s t : Fin cfg0.N} (h : s.val / 12 = t.val / 12) (r : Fin 768) : row s r = row t r :=
  Fin.ext (by simp only [row, h])

theorem h_blk (t : Fin cfg0.N) (r : Fin 768) (d : Fin 2048) : iblk m c 0 t (ix2 r d)
    = m ((c : Thread nD τ).loc main_arg0) (ix2 (row t r) d) := by
  unfold row
  blk_ext [iblk, V, idx t]

theorem norm_blk (t : Fin cfg0.N) (d : Fin 2048) : iblk m c 1 t (ix2 0 d) = m ((c : Thread nD τ).loc main_arg1) (ix1 d) := by
  have e : V m c main_v0 (ix2 0 d) = m ((c : Thread nD τ).loc main_arg1) (ix1 d) := by
    entry_read
    pointwise
    all_goals rfl
  refine Eq.trans ?_ e
  blk_ext [iblk, idx t]

theorem gate_blk (t : Fin cfg0.N) (d : Fin 2048) (k : Fin 512) : iblk m c 2 t (ix2 d k)
    = m ((c : Thread nD τ).loc main_arg2) (ix2 d ⟨t.val % 12 * 512 + k.val, by omega⟩) := by
  blk_ext [iblk, V, idx t]

theorem up_blk (t : Fin cfg0.N) (d : Fin 2048) (k : Fin 512) : iblk m c 3 t (ix2 d k)
    = m ((c : Thread nD τ).loc main_arg2) (ix2 d ⟨6144 + (t.val % 12 * 512 + k.val), by omega⟩) := by
  blk_ext [iblk, V, idx t]

theorem out_blk (t : Fin cfg0.N) (k : Fin 512) (l : Fin 2048) : iblk m c 4 t (ix2 k l)
    = m ((c : Thread nD τ).loc main_arg3) (ix2 ⟨t.val % 12 * 512 + k.val, by omega⟩ l) := by
  blk_ext [iblk, V, idx t]

/-- The normalised rows stay in the scratch through a run of twelve points. -/
theorem scratch (t : Fin cfg0.N) : (outsAt0 m c t.val t.isLt).2.2.2.2.2 = k0_pay4 (iblk m c 0 t) (iblk m c 1 t) := by
  funext y
  refine (Pipeline.eq_of_write_hold_apply (fun n h => (outsAt0 m c n h).2.2.2.2.2) 12 (fun t => k0_pay4 (iblk m c 0 t) (iblk m c 1 t)) ?_ ?_ t y).trans ?_
  · intro t h y
    rw [outsAt0_A m c t h]
    frame_out
  · intro t h y
    rw [outsAt0_B m c t h]
    rfl
  · idx_vars y
    rw [norm_apply, norm_apply]
    simp only [h_blk, norm_blk]
    rw [row_congr (s := ⟨12 * (t.val / 12), Pipeline.run_start_lt t⟩) (t := t) (Nat.mul_div_cancel_left _ (by norm_num : 0 < 12))]

/-- The residual rows of a point's block. -/
def start (t : Fin cfg0.N) (y : S768x2048.Idx) : EReal := m ((c : Thread nD τ).loc main_arg0) (ix2 (row t (y 0)) (y 1))

/-- What a point adds to its block: the part of the hidden lanes of its own column block. -/
def part (t : Fin cfg0.N) (y : S768x2048.Idx) : EReal := ∑ k : Fin 512,
  act (∑ d : Fin 2048, k0_pay4 (iblk m c 0 t) (iblk m c 1 t) (ix2 (y 0) d) * iblk m c 2 t (ix2 d k))
    (∑ d : Fin 2048, k0_pay4 (iblk m c 0 t) (iblk m c 1 t) (ix2 (y 0) d) * iblk m c 3 t (ix2 d k)) * iblk m c 4 t (ix2 k (y 1))

/-- The first point of a run starts from the residual rows; -/
theorem out_A (t : Fin cfg0.N) (h : t.val % 12 = 0) (y : S768x2048.Idx) : (outsAt0 m c t.val t.isLt).1 y = start m c t y + part m c t y := by
  rw [outsAt0_A m c t h]
  frame_out
  idx_vars y
  exact (tile_apply _ _ _ _ _ _ _).trans (congrArg (· + _) (h_blk m c t y0 y1))

/-- the others add to what the point before left. -/
theorem out_B (t : Fin cfg0.N) (h : ¬ t.val % 12 = 0) (y : S768x2048.Idx) : (outsAt0 m c t.val t.isLt).1 y
    = (outsAt0 m c (t.val - 1) (Nat.lt_of_le_of_lt (Nat.sub_le _ _) t.isLt)).1 y + part m c t y := by
  have hs : (outsAt0 m c (t.val - 1) (Nat.lt_of_le_of_lt (Nat.sub_le _ _) t.isLt)).2.2.2.2.2 = k0_pay4 (iblk m c 0 t) (iblk m c 1 t) := by
    rw [← scratch m c t, outsAt0_B m c t h]
    rfl
  rw [outsAt0_B m c t h]
  frame_out
  simp only [read_unread_whole]
  rw [hs]
  idx_vars y
  exact tile_apply _ _ _ _ _ _ _

/-- What a run of twelve points leaves in its block. -/
theorem out_run (t : Fin cfg0.N) (h : t.val % 12 = 11) (y : S768x2048.Idx) : (outsAt0 m c t.val t.isLt).1 y
    = start m c t y + ∑ s : Fin 12, part m c ⟨12 * (t.val / 12) + s.val, Pipeline.run_point_lt_of_flush t h s⟩ y := by
  have e := Pipeline.eq_sum_fin_of_reset_step_apply_of_flush (fun n h => (outsAt0 m c n h).1) 12 (fun _ => (0 : EReal))
    (fun t y => (if t.val % 12 = 0 then start m c t y else (0 : EReal)) + part m c t y)
    (fun t h y => by rw [out_A m c t h, if_pos h]; exact (zero_add _).symm)
    (fun t h y => by rw [out_B m c t h, if_neg h, zero_add]) t h y
  refine e.trans ?_
  rw [zero_add, Finset.sum_add_distrib]
  congr 1
  rw [Finset.sum_eq_single 0]
  · rw [if_pos (by simp)]
    refine congrArg (fun r : Fin 8448 => m ((c : Thread nD τ).loc main_arg0) (ix2 r (y 1))) (row_congr ?_ (y 0))
    simp only [Fin.val_zero]
    omega
  · intro s _ hs
    rw [if_neg]
    have : s.val ≠ 0 := fun h => hs (Fin.ext h)
    simp only
    omega
  · simp

end Cert.FfnAttn

end
-- ==== Proof.FfnAttn.Array.lean ====
module

public import proofs.«01_k».proof.Proof.FfnAttn.Point

@[expose] public section

set_option maxRecDepth 16384

noncomputable section

namespace Cert.FfnAttn

open Cert.Norm (rms)
open Cert.Ffn (act lane unit ffn)

open Idealize.ShloMosaic Idealize.ShloMosaic.TcCoe Cert.FfnAttnIdeal Cert.FfnAttnIdeal.Gen

variable (m : (ℓ : Loc nD τ sig) → Buf (Elt Ideal) ℓ) (c : Dev nD)

theorem part_eq (t : Fin cfg0.N) (y : S768x2048.Idx) : part m c t y = ∑ k : Fin 512,
    unit (m ((c : Thread nD τ).loc main_arg0)) (m ((c : Thread nD τ).loc main_arg1)) (m ((c : Thread nD τ).loc main_arg2))
      (row t (y 0)) ⟨t.val % 12 * 512 + k.val, by omega⟩
    * (m ((c : Thread nD τ).loc main_arg3) : S6144x2048.Idx → EReal) (ix2 ⟨t.val % 12 * 512 + k.val, by omega⟩ (y 1)) := by
  unfold part unit lane
  refine Finset.sum_congr rfl fun k _ => congrArg₂ (· * ·) (congrArg₂ act ?_ ?_) (out_blk m c t k (y 1)) <;>
    refine Finset.sum_congr rfl fun d _ => congrArg₂ (· * ·) ((norm_apply _ _ _ _).trans ?_) ?_
  · exact congrArg₂ (fun x v => rms x v d) (funext fun e => h_blk m c t (y 0) e) (funext fun e => norm_blk m c t e)
  · exact gate_blk m c t d k
  · exact congrArg₂ (fun x v => rms x v d) (funext fun e => h_blk m c t (y 0) e) (funext fun e => norm_blk m c t e)
  · exact up_blk m c t d k

theorem arr_eq : (dats m 0 c).arrAt 9 cfg0.N = fun y => ffn (m ((c : Thread nD τ).loc main_arg0))
    (m ((c : Thread nD τ).loc main_arg1)) (m ((c : Thread nD τ).loc main_arg2)) (m ((c : Thread nD τ).loc main_arg3)) (y 0) (y 1) := by
  refine (dats m 0 c).arrAt_eq_of_covers 9 _ (by decide +kernel) fun t hf (y : S768x2048.Idx) => ?_
  have ht := lt t
  blk_simp
  rw [after0_9, out_run m c t ((flush0_9 t).mp hf)]
  have e : (win0_9.blk t).view.emb y = ix2 (row t (y 0)) (y 1) := by
    blk_ext [idx t, row]
  refine Eq.trans ?_ (congrArg (fun z : S8448x2048.Idx => ffn (m ((c : Thread nD τ).loc main_arg0))
    (m ((c : Thread nD τ).loc main_arg1)) (m ((c : Thread nD τ).loc main_arg2)) (m ((c : Thread nD τ).loc main_arg3)) (z 0) (z 1)) e).symm
  refine congrArg (start m c t y + ·) ?_
  simp only [part_eq]
  refine Fin.sum_mul_add_congr fun s k hl => ?_
  have hr := (row_congr (s := ⟨12 * (t.val / 12) + s.val, Pipeline.run_point_lt_of_flush t ((flush0_9 t).mp hf) s⟩) (t := t) (by simp only; omega) (y 0))
  have hs : (12 * (t.val / 12) + s.val) % 12 = s.val := by omega
  rw [hr]
  simp only [hs]
  rfl

end Cert.FfnAttn

end
-- ==== Proof.FfnAttn.Cast.lean ====
module

public import proofs.«01_k».proof.Proof.FfnAttn.Point

@[expose] public section

set_option maxRecDepth 16384

noncomputable section

namespace Cert.FfnAttn

open Idealize.ShloMosaic Idealize.ShloMosaic.TcCoe Cert.FfnAttnIdeal Cert.FfnAttnIdeal.Gen

variable (m : (ℓ : Loc nD τ sig) → Buf (Elt Ideal) ℓ) (c : Dev nD)

theorem cast_idx : ∀ t : Fin cfg0.N, win0_5.index t = ![0, min t.val 127, 0]
    ∧ win0_10.index t = ![min t.val 127, 0]
    ∧ win0_6.index t = ![0, min t.val 127, 0]
    ∧ win0_11.index t = ![min t.val 127, 0]
    ∧ win0_7.index t = ![1, 1, min t.val 127, 0]
    ∧ win0_12.index t = ![min t.val 127, 0]
    ∧ win0_8.index t = ![1, 1, min t.val 127, 0]
    ∧ win0_13.index t = ![min t.val 127, 0] := by
  decide +kernel

theorem first_apply (x : Vec Ideal S1x16x4096 .f32) (r : Fin 16) (d : Fin 4096) : k0_pay6 x (ix2 r d) = x (ix3 0 r d) := by
  pointwise [k0_pay6]

/-- Columns of one layer of the first array that is cast. -/
def first (x : S2x2048x4096.Idx → EReal) (r : Fin 2048) (d : Fin 4096) : EReal := x (ix3 0 r d)

theorem first_blk (t : Fin cfg0.N) (r : Fin 16) (d : Fin 4096) : iblk m c 5 t (ix3 0 r d)
    = first (m ((c : Thread nD τ).loc main_arg4)) ⟨min t.val 127 * 16 + r.val, by omega⟩ d := by
  unfold first
  blk_ext [iblk, V, cast_idx t]

/-- Every point writes its rows of the first cast. -/
theorem first_out (t : Fin cfg0.N) (r : Fin 16) (d : Fin 4096) : (outsAt0 m c t.val t.isLt).2.1 (ix2 r d)
    = first (m ((c : Thread nD τ).loc main_arg4)) ⟨min t.val 127 * 16 + r.val, by omega⟩ d := by
  refine Eq.trans ?_ ((first_apply _ r d).trans (first_blk m c t r d))
  by_cases h : t.val % 12 = 0
  · rw [outsAt0_A m c t h]
    frame_out
  · rw [outsAt0_B m c t h]
    frame_out

theorem first_arr : (dats m 0 c).arrAt 10 cfg0.N = fun y => first (m ((c : Thread nD τ).loc main_arg4)) (y 0) (y 1) := by
  refine (dats m 0 c).arrAt_eq_of_covers 10 _ (by decide +kernel) fun t hf (y : S16x4096.Idx) => ?_
  have ht := lt t
  blk_simp
  rw [after0_10]
  have e : (win0_10.blk t).view.emb y = ix2 ⟨min t.val 127 * 16 + (y 0).val, by have : (y 0).val < 16 := (y 0).isLt; omega⟩ (y 1) := by
    blk_ext [cast_idx t]
  refine Eq.trans ?_ (congrArg (fun z : S2048x4096.Idx => first (m ((c : Thread nD τ).loc main_arg4)) (z 0) (z 1)) e).symm
  idx_vars y
  exact first_out m c t y0 y1

theorem second_apply (x : Vec Ideal S1x16x2048 .f32) (r : Fin 16) (d : Fin 2048) : k0_pay1 x (ix2 r d) = x (ix3 0 r d) := by
  pointwise [k0_pay1]

/-- Columns of one layer of the second array that is cast. -/
def second (x : S2x2048x2048.Idx → EReal) (r : Fin 2048) (d : Fin 2048) : EReal := x (ix3 0 r d)

theorem second_blk (t : Fin cfg0.N) (r : Fin 16) (d : Fin 2048) : iblk m c 6 t (ix3 0 r d)
    = second (m ((c : Thread nD τ).loc main_arg5)) ⟨min t.val 127 * 16 + r.val, by omega⟩ d := by
  unfold second
  blk_ext [iblk, V, cast_idx t]

/-- Every point writes its rows of the second cast. -/
theorem second_out (t : Fin cfg0.N) (r : Fin 16) (d : Fin 2048) : (outsAt0 m c t.val t.isLt).2.2.1 (ix2 r d)
    = second (m ((c : Thread nD τ).loc main_arg5)) ⟨min t.val 127 * 16 + r.val, by omega⟩ d := by
  refine Eq.trans ?_ ((second_apply _ r d).trans (second_blk m c t r d))
  by_cases h : t.val % 12 = 0
  · rw [outsAt0_A m c t h]
    frame_out
  · rw [outsAt0_B m c t h]
    frame_out

theorem second_arr : (dats m 0 c).arrAt 11 cfg0.N = fun y => second (m ((c : Thread nD τ).loc main_arg5)) (y 0) (y 1) := by
  refine (dats m 0 c).arrAt_eq_of_covers 11 _ (by decide +kernel) fun t hf (y : S16x2048.Idx) => ?_
  have ht := lt t
  blk_simp
  rw [after0_11]
  have e : (win0_11.blk t).view.emb y = ix2 ⟨min t.val 127 * 16 + (y 0).val, by have : (y 0).val < 16 := (y 0).isLt; omega⟩ (y 1) := by
    blk_ext [cast_idx t]
  refine Eq.trans ?_ (congrArg (fun z : S2048x2048.Idx => second (m ((c : Thread nD τ).loc main_arg5)) (z 0) (z 1)) e).symm
  idx_vars y
  exact second_out m c t y0 y1

theorem third_apply (x : Vec Ideal S1x1x16x12288 .f32) (r : Fin 16) (d : Fin 12288) : k0_pay2 x (ix2 r d) = x (ix4 0 0 r d) := by
  pointwise [k0_pay2]

/-- Columns of one layer of the third array that is cast. -/
def third (x : S4x2x2048x12288.Idx → EReal) (r : Fin 2048) (d : Fin 12288) : EReal := x (ix4 1 1 r d)

theorem third_blk (t : Fin cfg0.N) (r : Fin 16) (d : Fin 12288) : iblk m c 7 t (ix4 0 0 r d)
    = third (m ((c : Thread nD τ).loc main_arg6)) ⟨min t.val 127 * 16 + r.val, by omega⟩ d := by
  unfold third
  blk_ext [iblk, V, cast_idx t]

/-- Every point writes its rows of the third cast. -/
theorem third_out (t : Fin cfg0.N) (r : Fin 16) (d : Fin 12288) : (outsAt0 m c t.val t.isLt).2.2.2.1 (ix2 r d)
    = third (m ((c : Thread nD τ).loc main_arg6)) ⟨min t.val 127 * 16 + r.val, by omega⟩ d := by
  refine Eq.trans ?_ ((third_apply _ r d).trans (third_blk m c t r d))
  by_cases h : t.val % 12 = 0
  · rw [outsAt0_A m c t h]
    frame_out
  · rw [outsAt0_B m c t h]
    frame_out

theorem third_arr : (dats m 0 c).arrAt 12 cfg0.N = fun y => third (m ((c : Thread nD τ).loc main_arg6)) (y 0) (y 1) := by
  refine (dats m 0 c).arrAt_eq_of_covers 12 _ (by decide +kernel) fun t hf (y : S16x12288.Idx) => ?_
  have ht := lt t
  blk_simp
  rw [after0_12]
  have e : (win0_12.blk t).view.emb y = ix2 ⟨min t.val 127 * 16 + (y 0).val, by have : (y 0).val < 16 := (y 0).isLt; omega⟩ (y 1) := by
    blk_ext [cast_idx t]
  refine Eq.trans ?_ (congrArg (fun z : S2048x12288.Idx => third (m ((c : Thread nD τ).loc main_arg6)) (z 0) (z 1)) e).symm
  idx_vars y
  exact third_out m c t y0 y1

theorem fourth_apply (x : Vec Ideal S1x1x48x2048 .f32) (r : Fin 48) (d : Fin 2048) : k0_pay3 x (ix2 r d) = x (ix4 0 0 r d) := by
  pointwise [k0_pay3]

/-- Columns of one layer of the fourth array that is cast. -/
def fourth (x : S4x2x6144x2048.Idx → EReal) (r : Fin 6144) (d : Fin 2048) : EReal := x (ix4 1 1 r d)

theorem fourth_blk (t : Fin cfg0.N) (r : Fin 48) (d : Fin 2048) : iblk m c 8 t (ix4 0 0 r d)
    = fourth (m ((c : Thread nD τ).loc main_arg7)) ⟨min t.val 127 * 48 + r.val, by omega⟩ d := by
  unfold fourth
  blk_ext [iblk, V, cast_idx t]

/-- Every point writes its rows of the fourth cast. -/
theorem fourth_out (t : Fin cfg0.N) (r : Fin 48) (d : Fin 2048) : (outsAt0 m c t.val t.isLt).2.2.2.2.1 (ix2 r d)
    = fourth (m ((c : Thread nD τ).loc main_arg7)) ⟨min t.val 127 * 48 + r.val, by omega⟩ d := by
  refine Eq.trans ?_ ((fourth_apply _ r d).trans (fourth_blk m c t r d))
  by_cases h : t.val % 12 = 0
  · rw [outsAt0_A m c t h]
    frame_out
  · rw [outsAt0_B m c t h]
    frame_out

theorem fourth_arr : (dats m 0 c).arrAt 13 cfg0.N = fun y => fourth (m ((c : Thread nD τ).loc main_arg7)) (y 0) (y 1) := by
  refine (dats m 0 c).arrAt_eq_of_covers 13 _ (by decide +kernel) fun t hf (y : S48x2048.Idx) => ?_
  have ht := lt t
  blk_simp
  rw [after0_13]
  have e : (win0_13.blk t).view.emb y = ix2 ⟨min t.val 127 * 48 + (y 0).val, by have : (y 0).val < 48 := (y 0).isLt; omega⟩ (y 1) := by
    blk_ext [cast_idx t]
  refine Eq.trans ?_ (congrArg (fun z : S6144x2048.Idx => fourth (m ((c : Thread nD τ).loc main_arg7)) (z 0) (z 1)) e).symm
  idx_vars y
  exact fourth_out m c t y0 y1

end Cert.FfnAttn

end
-- ==== Proof.FfnAttn.Ref.lean ====
module

public import proofs.«01_k».proof.Proof.Gen.FfnAttnRefIdeal.Run
public import proofs.«01_k».proof.Proof.FfnAttn.Cast
public import proofs.«01_k».proof.Proof.Ffn.Ref

@[expose] public section

set_option maxRecDepth 16384

noncomputable section

namespace Cert.FfnAttn.Ref

open Cert.Norm (normed)
open Cert.Ffn.Ref (result gated project)

open Idealize.ShloMosaic Idealize.ShloMosaic.TcCoe Cert.FfnAttnRefIdeal Cert.FfnAttnRefIdeal.Gen

theorem first_eq (x : FVec Ideal S2x2048x4096 .f32) : truncf .bf16 (shapeCast S2048x4096 (extractStridedSlice S1x2048x4096 ![0, 0, 0] x
    slices_S2x2048x4096_S1x2048x4096_0_0_0) shapeCasts_S1x2048x4096_S2048x4096) bitsLt_bf16_f32 = fun y : S2048x4096.Idx => first x (y 0) (y 1) := by
  funext y
  idx_vars y
  unfold first
  pointwise

theorem second_eq (x : FVec Ideal S2x2048x2048 .f32) : truncf .bf16 (shapeCast S2048x2048 (extractStridedSlice S1x2048x2048 ![0, 0, 0] x
    slices_S2x2048x2048_S1x2048x2048_0_0_0) shapeCasts_S1x2048x2048_S2048x2048) bitsLt_bf16_f32 = fun y : S2048x2048.Idx => second x (y 0) (y 1) := by
  funext y
  idx_vars y
  unfold second
  pointwise

theorem third_eq (x : FVec Ideal S4x2x2048x12288 .f32) : truncf .bf16 (shapeCast S2048x12288 (extractStridedSlice S1x1x2048x12288 ![1, 1, 0, 0] x
    slices_S4x2x2048x12288_S1x1x2048x12288_1_1_0_0) shapeCasts_S1x1x2048x12288_S2048x12288) bitsLt_bf16_f32 = fun y : S2048x12288.Idx => third x (y 0) (y 1) := by
  funext y
  idx_vars y
  unfold third
  pointwise

theorem fourth_eq (x : FVec Ideal S4x2x6144x2048 .f32) : truncf .bf16 (shapeCast S6144x2048 (extractStridedSlice S1x1x6144x2048 ![1, 1, 0, 0] x
    slices_S4x2x6144x2048_S1x1x6144x2048_1_1_0_0) shapeCasts_S1x1x6144x2048_S6144x2048) bitsLt_bf16_f32 = fun y : S6144x2048.Idx => fourth x (y 0) (y 1) := by
  funext y
  idx_vars y
  unfold fourth
  pointwise

/-- The reference's run, its results by stages. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v31) = result (m ((c : Thread nD τ).loc main_arg0))
        (gated (project (normed (m ((c : Thread nD τ).loc main_arg0)) (m ((c : Thread nD τ).loc main_arg1))) (m ((c : Thread nD τ).loc main_arg2))))
        (m ((c : Thread nD τ).loc main_arg3))
      ∧ r.2.mem ((c : Thread nD τ).loc main_v32) = (fun y => first (m ((c : Thread nD τ).loc main_arg4)) (y 0) (y 1))
      ∧ r.2.mem ((c : Thread nD τ).loc main_v33) = (fun y => second (m ((c : Thread nD τ).loc main_arg5)) (y 0) (y 1))
      ∧ r.2.mem ((c : Thread nD τ).loc main_v34) = (fun y => third (m ((c : Thread nD τ).loc main_arg6)) (y 0) (y 1))
      ∧ r.2.mem ((c : Thread nD τ).loc main_v35) = (fun y => fourth (m ((c : Thread nD τ).loc main_arg7)) (y 0) (y 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans rfl, (h c).2.1.trans (first_eq _), (h c).2.2.1.trans (second_eq _), (h c).2.2.2.1.trans (third_eq _), (h c).2.2.2.2.1.trans (fourth_eq _), (h c).2.2.2.2.2⟩)
    (Cert.FfnAttnRefIdeal.Value.run (F := Ideal) m ρ)

end Cert.FfnAttn.Ref

end
-- ==== Proof.FfnSsd.Point.lean ====
module

public import proofs.«01_k».proof.Proof.Gen.FfnSsdIdeal.Value
public import proofs.«01_k».proof.Proof.Ffn.Array
public import Idealize.ShloMosaic.Lib.Pointwise
public import Idealize.ShloMosaic.Lib.Tactic
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.FfnSsd

open Cert.Norm (rms)
open Cert.Ffn (act)

open Idealize.ShloMosaic Idealize.ShloMosaic.TcCoe Cert.FfnSsdIdeal Cert.FfnSsdIdeal.Gen

theorem norm_apply (x : Vec Ideal S768x2048 .f32) (w : Vec Ideal S1x2048 .f32) (r : Fin 768) (d : Fin 2048) :
    k0_pay5 x w (ix2 r d) = rms (fun e => x (ix2 r e)) (fun e => w (ix2 0 e)) d := by
  pointwise [k0_pay5]
  rfl

theorem tile_apply (n : Vec Ideal S768x2048 .bf16) (g u : Vec Ideal S2048x512 .bf16) (x : Vec Ideal S768x2048 .f32) (o : Vec Ideal S512x2048 .bf16)
    (r : Fin 768) (l : Fin 2048) : k0_pay6 n g u x o (ix2 r l) = x (ix2 r l) + ∑ k : Fin 512,
      act (∑ d : Fin 2048, n (ix2 r d) * g (ix2 d k)) (∑ d : Fin 2048, n (ix2 r d) * u (ix2 d k)) * o (ix2 k l) := by
  pointwise [k0_pay6]
  rfl

variable (m : (ℓ : Loc nD τ sig) → Buf (Elt Ideal) ℓ) (c : Dev nD)

theorem idx : ∀ t : Fin cfg0.N, win0_0.index t = ![t.val / 12, 0] ∧ win0_1.index t = ![0, 0]
    ∧ win0_2.index t = ![0, t.val % 12] ∧ win0_3.index t = ![0, 12 + t.val % 12] ∧ win0_4.index t = ![t.val % 12, 0]
    ∧ win0_10.index t = ![t.val / 12, 0] := by
  decide +kernel

theorem lt (t : Fin cfg0.N) : t.val < 132 := t.isLt

/-- The array's row that a row of a point's block is. -/
def row (t : Fin cfg0.N) (r : Fin 768) : Fin 8448 := ⟨t.val / 12 * 768 + r.val, by have := lt t; omega⟩

theorem row_congr {s t : Fin cfg0.N} (h : s.val / 12 = t.val / 12) (r : Fin 768) : row s r = row t r :=
  Fin.ext (by simp only [row, h])

theorem h_blk (t : Fin cfg0.N) (r : Fin 768) (d : Fin 2048) : iblk m c 0 t (ix2 r d)
    = m ((c : Thread nD τ).loc main_arg0) (ix2 (row t r) d) := by
  unfold row
  blk_ext [iblk, V, idx t]

theorem norm_blk (t : Fin cfg0.N) (d : Fin 2048) : iblk m c 1 t (ix2 0 d) = m ((c : Thread nD τ).loc main_arg1) (ix1 d) := by
  have e : V m c main_v0 (ix2 0 d) = m ((c : Thread nD τ).loc main_arg1) (ix1 d) := by
    entry_read
    pointwise
    all_goals rfl
  refine Eq.trans ?_ e
  blk_ext [iblk, idx t]

theorem gate_blk (t : Fin cfg0.N) (d : Fin 2048) (k : Fin 512) : iblk m c 2 t (ix2 d k)
    = m ((c : Thread nD τ).loc main_arg2) (ix2 d ⟨t.val % 12 * 512 + k.val, by omega⟩) := by
  blk_ext [iblk, V, idx t]

theorem up_blk (t : Fin cfg0.N) (d : Fin 2048) (k : Fin 512) : iblk m c 3 t (ix2 d k)
    = m ((c : Thread nD τ).loc main_arg2) (ix2 d ⟨6144 + (t.val % 12 * 512 + k.val), by omega⟩) := by
  blk_ext [iblk, V, idx t]

theorem out_blk (t : Fin cfg0.N) (k : Fin 512) (l : Fin 2048) : iblk m c 4 t (ix2 k l)
    = m ((c : Thread nD τ).loc main_arg3) (ix2 ⟨t.val % 12 * 512 + k.val, by omega⟩ l) := by
  blk_ext [iblk, V, idx t]

/-- The normalised rows stay in the scratch through a run of twelve points. -/
theorem scratch (t : Fin cfg0.N) : (outsAt0 m c t.val t.isLt).2.2.2.2.2.2 = k0_pay5 (iblk m c 0 t) (iblk m c 1 t) := by
  funext y
  refine (Pipeline.eq_of_write_hold_apply (fun n h => (outsAt0 m c n h).2.2.2.2.2.2) 12 (fun t => k0_pay5 (iblk m c 0 t) (iblk m c 1 t)) ?_ ?_ t y).trans ?_
  · intro t h y
    rw [outsAt0_A m c t h]
    frame_out
  · intro t h y
    rw [outsAt0_B m c t h]
    rfl
  · idx_vars y
    rw [norm_apply, norm_apply]
    simp only [h_blk, norm_blk]
    rw [row_congr (s := ⟨12 * (t.val / 12), Pipeline.run_start_lt t⟩) (t := t) (Nat.mul_div_cancel_left _ (by norm_num : 0 < 12))]

/-- The residual rows of a point's block. -/
def start (t : Fin cfg0.N) (y : S768x2048.Idx) : EReal := m ((c : Thread nD τ).loc main_arg0) (ix2 (row t (y 0)) (y 1))

/-- What a point adds to its block: the part of the hidden lanes of its own column block. -/
def part (t : Fin cfg0.N) (y : S768x2048.Idx) : EReal := ∑ k : Fin 512,
  act (∑ d : Fin 2048, k0_pay5 (iblk m c 0 t) (iblk m c 1 t) (ix2 (y 0) d) * iblk m c 2 t (ix2 d k))
    (∑ d : Fin 2048, k0_pay5 (iblk m c 0 t) (iblk m c 1 t) (ix2 (y 0) d) * iblk m c 3 t (ix2 d k)) * iblk m c 4 t (ix2 k (y 1))

/-- The first point of a run starts from the residual rows; -/
theorem out_A (t : Fin cfg0.N) (h : t.val % 12 = 0) (y : S768x2048.Idx) : (outsAt0 m c t.val t.isLt).1 y = start m c t y + part m c t y := by
  rw [outsAt0_A m c t h]
  frame_out
  idx_vars y
  exact (tile_apply _ _ _ _ _ _ _).trans (congrArg (· + _) (h_blk m c t y0 y1))

/-- the others add to what the point before left. -/
theorem out_B (t : Fin cfg0.N) (h : ¬ t.val % 12 = 0) (y : S768x2048.Idx) : (outsAt0 m c t.val t.isLt).1 y
    = (outsAt0 m c (t.val - 1) (Nat.lt_of_le_of_lt (Nat.sub_le _ _) t.isLt)).1 y + part m c t y := by
  have hs : (outsAt0 m c (t.val - 1) (Nat.lt_of_le_of_lt (Nat.sub_le _ _) t.isLt)).2.2.2.2.2.2 = k0_pay5 (iblk m c 0 t) (iblk m c 1 t) := by
    rw [← scratch m c t, outsAt0_B m c t h]
    rfl
  rw [outsAt0_B m c t h]
  frame_out
  simp only [read_unread_whole]
  rw [hs]
  idx_vars y
  exact tile_apply _ _ _ _ _ _ _

/-- What a run of twelve points leaves in its block. -/
theorem out_run (t : Fin cfg0.N) (h : t.val % 12 = 11) (y : S768x2048.Idx) : (outsAt0 m c t.val t.isLt).1 y
    = start m c t y + ∑ s : Fin 12, part m c ⟨12 * (t.val / 12) + s.val, Pipeline.run_point_lt_of_flush t h s⟩ y := by
  have e := Pipeline.eq_sum_fin_of_reset_step_apply_of_flush (fun n h => (outsAt0 m c n h).1) 12 (fun _ => (0 : EReal))
    (fun t y => (if t.val % 12 = 0 then start m c t y else (0 : EReal)) + part m c t y)
    (fun t h y => by rw [out_A m c t h, if_pos h]; exact (zero_add _).symm)
    (fun t h y => by rw [out_B m c t h, if_neg h, zero_add]) t h y
  refine e.trans ?_
  rw [zero_add, Finset.sum_add_distrib]
  congr 1
  rw [Finset.sum_eq_single 0]
  · rw [if_pos (by simp)]
    refine congrArg (fun r : Fin 8448 => m ((c : Thread nD τ).loc main_arg0) (ix2 r (y 1))) (row_congr ?_ (y 0))
    simp only [Fin.val_zero]
    omega
  · intro s _ hs
    rw [if_neg]
    have : s.val ≠ 0 := fun h => hs (Fin.ext h)
    simp only
    omega
  · simp

end Cert.FfnSsd

end
-- ==== Proof.FfnSsd.Array.lean ====
module

public import proofs.«01_k».proof.Proof.FfnSsd.Point

@[expose] public section

set_option maxRecDepth 16384

noncomputable section

namespace Cert.FfnSsd

open Cert.Norm (rms)
open Cert.Ffn (act lane unit ffn)

open Idealize.ShloMosaic Idealize.ShloMosaic.TcCoe Cert.FfnSsdIdeal Cert.FfnSsdIdeal.Gen

variable (m : (ℓ : Loc nD τ sig) → Buf (Elt Ideal) ℓ) (c : Dev nD)

theorem part_eq (t : Fin cfg0.N) (y : S768x2048.Idx) : part m c t y = ∑ k : Fin 512,
    unit (m ((c : Thread nD τ).loc main_arg0)) (m ((c : Thread nD τ).loc main_arg1)) (m ((c : Thread nD τ).loc main_arg2))
      (row t (y 0)) ⟨t.val % 12 * 512 + k.val, by omega⟩
    * (m ((c : Thread nD τ).loc main_arg3) : S6144x2048.Idx → EReal) (ix2 ⟨t.val % 12 * 512 + k.val, by omega⟩ (y 1)) := by
  unfold part unit lane
  refine Finset.sum_congr rfl fun k _ => congrArg₂ (· * ·) (congrArg₂ act ?_ ?_) (out_blk m c t k (y 1)) <;>
    refine Finset.sum_congr rfl fun d _ => congrArg₂ (· * ·) ((norm_apply _ _ _ _).trans ?_) ?_
  · exact congrArg₂ (fun x v => rms x v d) (funext fun e => h_blk m c t (y 0) e) (funext fun e => norm_blk m c t e)
  · exact gate_blk m c t d k
  · exact congrArg₂ (fun x v => rms x v d) (funext fun e => h_blk m c t (y 0) e) (funext fun e => norm_blk m c t e)
  · exact up_blk m c t d k

theorem arr_eq : (dats m 0 c).arrAt 10 cfg0.N = fun y => ffn (m ((c : Thread nD τ).loc main_arg0))
    (m ((c : Thread nD τ).loc main_arg1)) (m ((c : Thread nD τ).loc main_arg2)) (m ((c : Thread nD τ).loc main_arg3)) (y 0) (y 1) := by
  refine (dats m 0 c).arrAt_eq_of_covers 10 _ (by decide +kernel) fun t hf (y : S768x2048.Idx) => ?_
  have ht := lt t
  blk_simp
  rw [after0_10, out_run m c t ((flush0_10 t).mp hf)]
  have e : (win0_10.blk t).view.emb y = ix2 (row t (y 0)) (y 1) := by
    blk_ext [idx t, row]
  refine Eq.trans ?_ (congrArg (fun z : S8448x2048.Idx => ffn (m ((c : Thread nD τ).loc main_arg0))
    (m ((c : Thread nD τ).loc main_arg1)) (m ((c : Thread nD τ).loc main_arg2)) (m ((c : Thread nD τ).loc main_arg3)) (z 0) (z 1)) e).symm
  refine congrArg (start m c t y + ·) ?_
  simp only [part_eq]
  refine Fin.sum_mul_add_congr fun s k hl => ?_
  have hr := (row_congr (s := ⟨12 * (t.val / 12) + s.val, Pipeline.run_point_lt_of_flush t ((flush0_10 t).mp hf) s⟩) (t := t) (by simp only; omega) (y 0))
  have hs : (12 * (t.val / 12) + s.val) % 12 = s.val := by omega
  rw [hr]
  simp only [hs]
  rfl

end Cert.FfnSsd

end
-- ==== Proof.FfnSsd.Cast.lean ====
module

public import proofs.«01_k».proof.Proof.FfnSsd.Point

@[expose] public section

set_option maxRecDepth 16384

noncomputable section

namespace Cert.FfnSsd

open Idealize.ShloMosaic Idealize.ShloMosaic.TcCoe Cert.FfnSsdIdeal Cert.FfnSsdIdeal.Gen

variable (m : (ℓ : Loc nD τ sig) → Buf (Elt Ideal) ℓ) (c : Dev nD)

theorem cast_idx : ∀ t : Fin cfg0.N, win0_5.index t = ![0, min t.val 127, 0]
    ∧ win0_11.index t = ![min t.val 127, 0]
    ∧ win0_6.index t = ![0, min t.val 127, 80]
    ∧ win0_12.index t = ![min t.val 127, 0]
    ∧ win0_7.index t = ![0, min t.val 127, 0]
    ∧ win0_13.index t = ![min t.val 127, 0]
    ∧ win0_8.index t = ![0, 1, min t.val 127, 0]
    ∧ win0_14.index t = ![min t.val 127, 0]
    ∧ win0_9.index t = ![0, 1, min t.val 127, 0]
    ∧ win0_15.index t = ![min t.val 127, 0] := by
  decide +kernel

theorem first_apply (x : Vec Ideal S1x16x10240 .f32) (r : Fin 16) (d : Fin 10240) : k0_pay7 x (ix2 r d) = x (ix3 0 r d) := by
  pointwise [k0_pay7]

/-- Columns of one layer of the first array that is cast. -/
def first (x : S2x2048x10368.Idx → EReal) (r : Fin 2048) (d : Fin 10240) : EReal := x (ix3 0 r ⟨d.val, by omega⟩)

theorem first_blk (t : Fin cfg0.N) (r : Fin 16) (d : Fin 10240) : X0_5 m c t (ix3 0 r d)
    = first (m ((c : Thread nD τ).loc main_arg4)) ⟨min t.val 127 * 16 + r.val, by omega⟩ d := by
  unfold first
  unfold X0_5 Pipeline.Window.fill
  rw [dif_pos (moved0_5 t _)]
  blk_ext [iblk, V, cast_idx t]

/-- Every point writes its rows of the first cast. -/
theorem first_out (t : Fin cfg0.N) (r : Fin 16) (d : Fin 10240) : (outsAt0 m c t.val t.isLt).2.1 (ix2 r d)
    = first (m ((c : Thread nD τ).loc main_arg4)) ⟨min t.val 127 * 16 + r.val, by omega⟩ d := by
  refine Eq.trans ?_ ((first_apply _ r d).trans (first_blk m c t r d))
  by_cases h : t.val % 12 = 0
  · rw [outsAt0_A m c t h]
    frame_out
  · rw [outsAt0_B m c t h]
    frame_out

theorem first_arr : (dats m 0 c).arrAt 11 cfg0.N = fun y => first (m ((c : Thread nD τ).loc main_arg4)) (y 0) (y 1) := by
  refine (dats m 0 c).arrAt_eq_of_covers 11 _ (by decide +kernel) fun t hf (y : S16x10240.Idx) => ?_
  have ht := lt t
  blk_simp
  rw [after0_11]
  have e : (win0_11.blk t).view.emb y = ix2 ⟨min t.val 127 * 16 + (y 0).val, by have : (y 0).val < 16 := (y 0).isLt; omega⟩ (y 1) := by
    blk_ext [cast_idx t]
  refine Eq.trans ?_ (congrArg (fun z : S2048x10240.Idx => first (m ((c : Thread nD τ).loc main_arg4)) (z 0) (z 1)) e).symm
  idx_vars y
  exact first_out m c t y0 y1

theorem second_apply (x : Vec Ideal S1x16x128 .f32) (r : Fin 16) (d : Fin 128) : k0_pay1 x (ix2 r d) = x (ix3 0 r d) := by
  pointwise [k0_pay1]

/-- Columns of one layer of the second array that is cast. -/
def second (x : S2x2048x10368.Idx → EReal) (r : Fin 2048) (d : Fin 128) : EReal := x (ix3 0 r ⟨10240 + d.val, by omega⟩)

theorem second_blk (t : Fin cfg0.N) (r : Fin 16) (d : Fin 128) : iblk m c 6 t (ix3 0 r d)
    = second (m ((c : Thread nD τ).loc main_arg4)) ⟨min t.val 127 * 16 + r.val, by omega⟩ d := by
  unfold second
  blk_ext [iblk, V, cast_idx t]

/-- Every point writes its rows of the second cast. -/
theorem second_out (t : Fin cfg0.N) (r : Fin 16) (d : Fin 128) : (outsAt0 m c t.val t.isLt).2.2.1 (ix2 r d)
    = second (m ((c : Thread nD τ).loc main_arg4)) ⟨min t.val 127 * 16 + r.val, by omega⟩ d := by
  refine Eq.trans ?_ ((second_apply _ r d).trans (second_blk m c t r d))
  by_cases h : t.val % 12 = 0
  · rw [outsAt0_A m c t h]
    frame_out
  · rw [outsAt0_B m c t h]
    frame_out

theorem second_arr : (dats m 0 c).arrAt 12 cfg0.N = fun y => second (m ((c : Thread nD τ).loc main_arg4)) (y 0) (y 1) := by
  refine (dats m 0 c).arrAt_eq_of_covers 12 _ (by decide +kernel) fun t hf (y : S16x128.Idx) => ?_
  have ht := lt t
  blk_simp
  rw [after0_12]
  have e : (win0_12.blk t).view.emb y = ix2 ⟨min t.val 127 * 16 + (y 0).val, by have : (y 0).val < 16 := (y 0).isLt; omega⟩ (y 1) := by
    blk_ext [cast_idx t]
  refine Eq.trans ?_ (congrArg (fun z : S2048x128.Idx => second (m ((c : Thread nD τ).loc main_arg4)) (z 0) (z 1)) e).symm
  idx_vars y
  exact second_out m c t y0 y1

theorem third_apply (x : Vec Ideal S1x32x2048 .f32) (r : Fin 32) (d : Fin 2048) : k0_pay2 x (ix2 r d) = x (ix3 0 r d) := by
  pointwise [k0_pay2]

/-- Columns of one layer of the third array that is cast. -/
def third (x : S2x4096x2048.Idx → EReal) (r : Fin 4096) (d : Fin 2048) : EReal := x (ix3 0 r d)

theorem third_blk (t : Fin cfg0.N) (r : Fin 32) (d : Fin 2048) : iblk m c 7 t (ix3 0 r d)
    = third (m ((c : Thread nD τ).loc main_arg5)) ⟨min t.val 127 * 32 + r.val, by omega⟩ d := by
  unfold third
  blk_ext [iblk, V, cast_idx t]

/-- Every point writes its rows of the third cast. -/
theorem third_out (t : Fin cfg0.N) (r : Fin 32) (d : Fin 2048) : (outsAt0 m c t.val t.isLt).2.2.2.1 (ix2 r d)
    = third (m ((c : Thread nD τ).loc main_arg5)) ⟨min t.val 127 * 32 + r.val, by omega⟩ d := by
  refine Eq.trans ?_ ((third_apply _ r d).trans (third_blk m c t r d))
  by_cases h : t.val % 12 = 0
  · rw [outsAt0_A m c t h]
    frame_out
  · rw [outsAt0_B m c t h]
    frame_out

theorem third_arr : (dats m 0 c).arrAt 13 cfg0.N = fun y => third (m ((c : Thread nD τ).loc main_arg5)) (y 0) (y 1) := by
  refine (dats m 0 c).arrAt_eq_of_covers 13 _ (by decide +kernel) fun t hf (y : S32x2048.Idx) => ?_
  have ht := lt t
  blk_simp
  rw [after0_13]
  have e : (win0_13.blk t).view.emb y = ix2 ⟨min t.val 127 * 32 + (y 0).val, by have : (y 0).val < 32 := (y 0).isLt; omega⟩ (y 1) := by
    blk_ext [cast_idx t]
  refine Eq.trans ?_ (congrArg (fun z : S4096x2048.Idx => third (m ((c : Thread nD τ).loc main_arg5)) (z 0) (z 1)) e).symm
  idx_vars y
  exact third_out m c t y0 y1

theorem fourth_apply (x : Vec Ideal S1x1x16x12288 .f32) (r : Fin 16) (d : Fin 12288) : k0_pay3 x (ix2 r d) = x (ix4 0 0 r d) := by
  pointwise [k0_pay3]

/-- Columns of one layer of the fourth array that is cast. -/
def fourth (x : S4x2x2048x12288.Idx → EReal) (r : Fin 2048) (d : Fin 12288) : EReal := x (ix4 0 1 r d)

theorem fourth_blk (t : Fin cfg0.N) (r : Fin 16) (d : Fin 12288) : iblk m c 8 t (ix4 0 0 r d)
    = fourth (m ((c : Thread nD τ).loc main_arg6)) ⟨min t.val 127 * 16 + r.val, by omega⟩ d := by
  unfold fourth
  blk_ext [iblk, V, cast_idx t]

/-- Every point writes its rows of the fourth cast. -/
theorem fourth_out (t : Fin cfg0.N) (r : Fin 16) (d : Fin 12288) : (outsAt0 m c t.val t.isLt).2.2.2.2.1 (ix2 r d)
    = fourth (m ((c : Thread nD τ).loc main_arg6)) ⟨min t.val 127 * 16 + r.val, by omega⟩ d := by
  refine Eq.trans ?_ ((fourth_apply _ r d).trans (fourth_blk m c t r d))
  by_cases h : t.val % 12 = 0
  · rw [outsAt0_A m c t h]
    frame_out
  · rw [outsAt0_B m c t h]
    frame_out

theorem fourth_arr : (dats m 0 c).arrAt 14 cfg0.N = fun y => fourth (m ((c : Thread nD τ).loc main_arg6)) (y 0) (y 1) := by
  refine (dats m 0 c).arrAt_eq_of_covers 14 _ (by decide +kernel) fun t hf (y : S16x12288.Idx) => ?_
  have ht := lt t
  blk_simp
  rw [after0_14]
  have e : (win0_14.blk t).view.emb y = ix2 ⟨min t.val 127 * 16 + (y 0).val, by have : (y 0).val < 16 := (y 0).isLt; omega⟩ (y 1) := by
    blk_ext [cast_idx t]
  refine Eq.trans ?_ (congrArg (fun z : S2048x12288.Idx => fourth (m ((c : Thread nD τ).loc main_arg6)) (z 0) (z 1)) e).symm
  idx_vars y
  exact fourth_out m c t y0 y1

theorem fifth_apply (x : Vec Ideal S1x1x48x2048 .f32) (r : Fin 48) (d : Fin 2048) : k0_pay4 x (ix2 r d) = x (ix4 0 0 r d) := by
  pointwise [k0_pay4]

/-- Columns of one layer of the fifth array that is cast. -/
def fifth (x : S4x2x6144x2048.Idx → EReal) (r : Fin 6144) (d : Fin 2048) : EReal := x (ix4 0 1 r d)

theorem fifth_blk (t : Fin cfg0.N) (r : Fin 48) (d : Fin 2048) : iblk m c 9 t (ix4 0 0 r d)
    = fifth (m ((c : Thread nD τ).loc main_arg7)) ⟨min t.val 127 * 48 + r.val, by omega⟩ d := by
  unfold fifth
  blk_ext [iblk, V, cast_idx t]

/-- Every point writes its rows of the fifth cast. -/
theorem fifth_out (t : Fin cfg0.N) (r : Fin 48) (d : Fin 2048) : (outsAt0 m c t.val t.isLt).2.2.2.2.2.1 (ix2 r d)
    = fifth (m ((c : Thread nD τ).loc main_arg7)) ⟨min t.val 127 * 48 + r.val, by omega⟩ d := by
  refine Eq.trans ?_ ((fifth_apply _ r d).trans (fifth_blk m c t r d))
  by_cases h : t.val % 12 = 0
  · rw [outsAt0_A m c t h]
    frame_out
  · rw [outsAt0_B m c t h]
    frame_out

theorem fifth_arr : (dats m 0 c).arrAt 15 cfg0.N = fun y => fifth (m ((c : Thread nD τ).loc main_arg7)) (y 0) (y 1) := by
  refine (dats m 0 c).arrAt_eq_of_covers 15 _ (by decide +kernel) fun t hf (y : S48x2048.Idx) => ?_
  have ht := lt t
  blk_simp
  rw [after0_15]
  have e : (win0_15.blk t).view.emb y = ix2 ⟨min t.val 127 * 48 + (y 0).val, by have : (y 0).val < 48 := (y 0).isLt; omega⟩ (y 1) := by
    blk_ext [cast_idx t]
  refine Eq.trans ?_ (congrArg (fun z : S6144x2048.Idx => fifth (m ((c : Thread nD τ).loc main_arg7)) (z 0) (z 1)) e).symm
  idx_vars y
  exact fifth_out m c t y0 y1

end Cert.FfnSsd

end
-- ==== Proof.FfnSsd.Ref.lean ====
module

public import proofs.«01_k».proof.Proof.Gen.FfnSsdRefIdeal.Run
public import proofs.«01_k».proof.Proof.FfnSsd.Cast
public import proofs.«01_k».proof.Proof.Ffn.Ref

@[expose] public section

set_option maxRecDepth 16384

noncomputable section

namespace Cert.FfnSsd.Ref

open Cert.Norm (normed)
open Cert.Ffn.Ref (result gated project)

open Idealize.ShloMosaic Idealize.ShloMosaic.TcCoe Cert.FfnSsdRefIdeal Cert.FfnSsdRefIdeal.Gen

theorem first_eq (x : FVec Ideal S2x2048x10368 .f32) : truncf .bf16 (shapeCast S2048x10240 (extractStridedSlice S1x2048x10240 ![0, 0, 0] x
    slices_S2x2048x10368_S1x2048x10240_0_0_0) shapeCasts_S1x2048x10240_S2048x10240) bitsLt_bf16_f32 = fun y : S2048x10240.Idx => first x (y 0) (y 1) := by
  funext y
  idx_vars y
  unfold first
  pointwise

theorem second_eq (x : FVec Ideal S2x2048x10368 .f32) : truncf .bf16 (shapeCast S2048x128 (extractStridedSlice S1x2048x128 ![0, 0, 10240] x
    slices_S2x2048x10368_S1x2048x128_0_0_10240) shapeCasts_S1x2048x128_S2048x128) bitsLt_bf16_f32 = fun y : S2048x128.Idx => second x (y 0) (y 1) := by
  funext y
  idx_vars y
  unfold second
  pointwise

theorem third_eq (x : FVec Ideal S2x4096x2048 .f32) : truncf .bf16 (shapeCast S4096x2048 (extractStridedSlice S1x4096x2048 ![0, 0, 0] x
    slices_S2x4096x2048_S1x4096x2048_0_0_0) shapeCasts_S1x4096x2048_S4096x2048) bitsLt_bf16_f32 = fun y : S4096x2048.Idx => third x (y 0) (y 1) := by
  funext y
  idx_vars y
  unfold third
  pointwise

theorem fourth_eq (x : FVec Ideal S4x2x2048x12288 .f32) : truncf .bf16 (shapeCast S2048x12288 (extractStridedSlice S1x1x2048x12288 ![0, 1, 0, 0] x
    slices_S4x2x2048x12288_S1x1x2048x12288_0_1_0_0) shapeCasts_S1x1x2048x12288_S2048x12288) bitsLt_bf16_f32 = fun y : S2048x12288.Idx => fourth x (y 0) (y 1) := by
  funext y
  idx_vars y
  unfold fourth
  pointwise

theorem fifth_eq (x : FVec Ideal S4x2x6144x2048 .f32) : truncf .bf16 (shapeCast S6144x2048 (extractStridedSlice S1x1x6144x2048 ![0, 1, 0, 0] x
    slices_S4x2x6144x2048_S1x1x6144x2048_0_1_0_0) shapeCasts_S1x1x6144x2048_S6144x2048) bitsLt_bf16_f32 = fun y : S6144x2048.Idx => fifth x (y 0) (y 1) := by
  funext y
  idx_vars y
  unfold fifth
  pointwise

/-- The reference's run, its results by stages. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v33) = result (m ((c : Thread nD τ).loc main_arg0))
        (gated (project (normed (m ((c : Thread nD τ).loc main_arg0)) (m ((c : Thread nD τ).loc main_arg1))) (m ((c : Thread nD τ).loc main_arg2))))
        (m ((c : Thread nD τ).loc main_arg3))
      ∧ r.2.mem ((c : Thread nD τ).loc main_v34) = (fun y => first (m ((c : Thread nD τ).loc main_arg4)) (y 0) (y 1))
      ∧ r.2.mem ((c : Thread nD τ).loc main_v35) = (fun y => second (m ((c : Thread nD τ).loc main_arg4)) (y 0) (y 1))
      ∧ r.2.mem ((c : Thread nD τ).loc main_v36) = (fun y => third (m ((c : Thread nD τ).loc main_arg5)) (y 0) (y 1))
      ∧ r.2.mem ((c : Thread nD τ).loc main_v37) = (fun y => fourth (m ((c : Thread nD τ).loc main_arg6)) (y 0) (y 1))
      ∧ r.2.mem ((c : Thread nD τ).loc main_v38) = (fun y => fifth (m ((c : Thread nD τ).loc main_arg7)) (y 0) (y 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans rfl, (h c).2.1.trans (first_eq _), (h c).2.2.1.trans (second_eq _), (h c).2.2.2.1.trans (third_eq _), (h c).2.2.2.2.1.trans (fourth_eq _), (h c).2.2.2.2.2.1.trans (fifth_eq _), (h c).2.2.2.2.2.2⟩)
    (Cert.FfnSsdRefIdeal.Value.run (F := Ideal) m ρ)

end Cert.FfnSsd.Ref

end
-- ==== Proof.Finite.lean ====
module

public import proofs.«01_k».proof.Pre_finite_qkv
public import proofs.«01_k».proof.Pre_finite_ffn
public import proofs.«01_k».proof.Pre_finite_ffn_ssd
public import proofs.«01_k».proof.Pre_finite_ffn_attn
public import proofs.«01_k».proof.Pre_finite_ffn_next
public import Idealize.ShloMosaic.Lib.Pointwise

@[expose] public section

set_option maxRecDepth 16384

noncomputable section

namespace Cert.Finite

open Idealize.ShloMosaic

/-- An extended real of magnitude below `+∞` is a real. -/
theorem real_of_abs_lt (x : EReal) (h : max x (-x) < ⊤) : ∃ r : ℝ, x = r := by
  induction x using EReal.rec with
  | bot => simp at h
  | top => simp at h
  | coe r => exact ⟨r, rfl⟩

theorem posInf : Ideal.ofBits FTy.bf16 0x7F80#16 = ⊤ := by
  simp [Ideal.ofBits, Ideal.ieee]

theorem real_of_lt {φ : FTy} (x : Ideal φ) (h : BitVec.ofBool (decide ((FloatOps.absf x : EReal) < ⊤)) = 1#1) : ∃ r : ℝ, x = (r : EReal) := by
  refine real_of_abs_lt x ?_
  by_contra hn
  rw [decide_eq_false (show ¬ ((FloatOps.absf x : EReal) < ⊤) from hn)] at h
  exact absurd h (by decide)

theorem qkv [Cert.Pre_finite_qkv.Facts] (x : FVec Ideal Cert.Pre_finite_qkv.S8448x4096 .bf16) (h : Cert.Pre_finite_qkv.fn (F := Ideal) x = fun _ => 1#1)
    (i : Cert.Pre_finite_qkv.S8448x4096.Idx) : ∃ r : ℝ, x i = (r : EReal) := by
  have h' := congrFun h i
  idx_vars i
  revert h'
  pointwise [Cert.Pre_finite_qkv.fn]
  rw [posInf]
  intro h
  exact real_of_lt _ h

theorem posInf32 : Ideal.ofBits FTy.f32 0x7F800000#32 = ⊤ := by
  simp [Ideal.ofBits, Ideal.ieee]

section Ffn

open Cert.Pre_finite_ffn

variable [Cert.Pre_finite_ffn.Facts] (x0 : FVec Ideal S8448x2048 .f32) (x1 : FVec Ideal S2048 .f32) (x2 : FVec Ideal S2048x12288 .bf16)
  (x3 : FVec Ideal S6144x2048 .bf16)

theorem ffn_h (h : (fn (F := Ideal) x0 x1 x2 x3).1 = fun _ => 1#1) (i : S8448x2048.Idx) : ∃ r : ℝ, x0 i = (r : EReal) := by
  have h' := congrFun h i
  idx_vars i
  revert h'
  pointwise [fn]
  rw [posInf32]
  exact real_of_lt _

theorem ffn_norm (h : (fn (F := Ideal) x0 x1 x2 x3).2.1 = fun _ => 1#1) (i : S2048.Idx) : ∃ r : ℝ, x1 i = (r : EReal) := by
  have h' := congrFun h i
  idx_vars i
  revert h'
  pointwise [fn]
  rw [posInf32]
  exact real_of_lt _

theorem ffn_in (h : (fn (F := Ideal) x0 x1 x2 x3).2.2 = fun _ => 1#1) (i : S2048x12288.Idx) : ∃ r : ℝ, x2 i = (r : EReal) := by
  have h' := congrFun h i
  idx_vars i
  revert h'
  pointwise [fn]
  rw [posInf]
  exact real_of_lt _

theorem next_eq [Cert.Pre_finite_ffn_next.Facts] (x4 : FVec Ideal Cert.Pre_finite_ffn_next.S4x2x2048x12288 .f32) (x5 : FVec Ideal Cert.Pre_finite_ffn_next.S4x2x6144x2048 .f32) :
    Cert.Pre_finite_ffn_next.fn (F := Ideal) x0 x1 x2 x3 x4 x5 = fn (F := Ideal) x0 x1 x2 x3 := rfl

theorem attn_eq [Cert.Pre_finite_ffn_attn.Facts] (x4 : FVec Ideal Cert.Pre_finite_ffn_attn.S2x2048x4096 .f32) (x5 : FVec Ideal Cert.Pre_finite_ffn_attn.S2x2048x2048 .f32) (x6 : FVec Ideal Cert.Pre_finite_ffn_attn.S4x2x2048x12288 .f32) (x7 : FVec Ideal Cert.Pre_finite_ffn_attn.S4x2x6144x2048 .f32) :
    Cert.Pre_finite_ffn_attn.fn (F := Ideal) x0 x1 x2 x3 x4 x5 x6 x7 = fn (F := Ideal) x0 x1 x2 x3 := rfl

theorem ssd_eq [Cert.Pre_finite_ffn_ssd.Facts] (x4 : FVec Ideal Cert.Pre_finite_ffn_ssd.S2x2048x10368 .f32) (x5 : FVec Ideal Cert.Pre_finite_ffn_ssd.S2x4096x2048 .f32) (x6 : FVec Ideal Cert.Pre_finite_ffn_ssd.S4x2x2048x12288 .f32) (x7 : FVec Ideal Cert.Pre_finite_ffn_ssd.S4x2x6144x2048 .f32) :
    Cert.Pre_finite_ffn_ssd.fn (F := Ideal) x0 x1 x2 x3 x4 x5 x6 x7 = fn (F := Ideal) x0 x1 x2 x3 := rfl

end Ffn

end Cert.Finite

end
-- ==== Proof.lean ====
/- The claims about the attention of one layer (`Kernel`, `Reference`), one half-step feed-forward layer (`Ffn`,
   `FfnRef`; and, casting other weights on the side, `FfnNext`, `FfnAttn`, `FfnSsd`) and the projections around the
   attention and the state-space mixer (one pair of programs each): each program ends with its arguments unchanged and
   every counter at zero, and each kernel's results are its reference's, over the extended reals; for the attention and
   the feed-forward layers, where arguments are finite. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.FfnIdeal.Value
public import proofs.«01_k».proof.Proof.Gen.FfnRefIdeal.Run
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.SsdIn
public import proofs.«01_k».proof.Proof.Gen.SsdIn.Skeleton
public import proofs.«01_k».proof.Proof.Gen.SsdIn.Launch
public import proofs.«01_k».proof.Proof.Gen.SsdIn.Points
public import proofs.«01_k».proof.Proof.Gen.SsdIn.Frame
public import proofs.«01_k».proof.Proof.Gen.SsdInIdeal
public import proofs.«01_k».proof.Proof.Gen.SsdInIdeal.Skeleton
public import proofs.«01_k».proof.Proof.Gen.SsdInIdeal.Launch
public import proofs.«01_k».proof.Proof.Gen.SsdInIdeal.Points
public import proofs.«01_k».proof.Proof.Gen.SsdInIdeal.Frame
public import proofs.«01_k».proof.Proof.Gen.SsdInIdeal.Value
public import proofs.«01_k».proof.Proof.Gen.SsdInRefIdeal
public import proofs.«01_k».proof.Proof.Gen.SsdInRefIdeal.Run
public import proofs.«01_k».proof.Proof.Gen.SsdDt
public import proofs.«01_k».proof.Proof.Gen.SsdDt.Skeleton
public import proofs.«01_k».proof.Proof.Gen.SsdDt.Launch
public import proofs.«01_k».proof.Proof.Gen.SsdDt.Points
public import proofs.«01_k».proof.Proof.Gen.SsdDt.Frame
public import proofs.«01_k».proof.Proof.Gen.SsdDtIdeal
public import proofs.«01_k».proof.Proof.Gen.SsdDtIdeal.Skeleton
public import proofs.«01_k».proof.Proof.Gen.SsdDtIdeal.Launch
public import proofs.«01_k».proof.Proof.Gen.SsdDtIdeal.Points
public import proofs.«01_k».proof.Proof.Gen.SsdDtIdeal.Frame
public import proofs.«01_k».proof.Proof.Gen.SsdDtIdeal.Value
public import proofs.«01_k».proof.Proof.Gen.SsdDtRefIdeal
public import proofs.«01_k».proof.Proof.Gen.SsdDtRefIdeal.Run
public import proofs.«01_k».proof.Proof.Gen.SsdOut
public import proofs.«01_k».proof.Proof.Gen.SsdOut.Skeleton
public import proofs.«01_k».proof.Proof.Gen.SsdOut.Launch
public import proofs.«01_k».proof.Proof.Gen.SsdOut.Points
public import proofs.«01_k».proof.Proof.Gen.SsdOut.Frame
public import proofs.«01_k».proof.Proof.Gen.SsdOutIdeal
public import proofs.«01_k».proof.Proof.Gen.SsdOutIdeal.Skeleton
public import proofs.«01_k».proof.Proof.Gen.SsdOutIdeal.Launch
public import proofs.«01_k».proof.Proof.Gen.SsdOutIdeal.Points
public import proofs.«01_k».proof.Proof.Gen.SsdOutIdeal.Frame
public import proofs.«01_k».proof.Proof.Gen.SsdOutIdeal.Value
public import proofs.«01_k».proof.Proof.Gen.SsdOutRefIdeal
public import proofs.«01_k».proof.Proof.Gen.SsdOutRefIdeal.Run
public import proofs.«01_k».proof.Proof.Gen.AttnOut
public import proofs.«01_k».proof.Proof.Gen.AttnOut.Skeleton
public import proofs.«01_k».proof.Proof.Gen.AttnOut.Launch
public import proofs.«01_k».proof.Proof.Gen.AttnOut.Points
public import proofs.«01_k».proof.Proof.Gen.AttnOut.Frame
public import proofs.«01_k».proof.Proof.Gen.AttnOutIdeal
public import proofs.«01_k».proof.Proof.Gen.AttnOutIdeal.Skeleton
public import proofs.«01_k».proof.Proof.Gen.AttnOutIdeal.Launch
public import proofs.«01_k».proof.Proof.Gen.AttnOutIdeal.Points
public import proofs.«01_k».proof.Proof.Gen.AttnOutIdeal.Frame
public import proofs.«01_k».proof.Proof.Gen.AttnOutIdeal.Value
public import proofs.«01_k».proof.Proof.Gen.AttnOutRefIdeal
public import proofs.«01_k».proof.Proof.Gen.AttnOutRefIdeal.Run
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Run
public import proofs.«01_k».proof.Proof.Gen.FfnNext
public import proofs.«01_k».proof.Proof.Gen.FfnNext.Skeleton
public import proofs.«01_k».proof.Proof.Gen.FfnNext.Launch
public import proofs.«01_k».proof.Proof.Gen.FfnNext.Points
public import proofs.«01_k».proof.Proof.Gen.FfnNext.Frame
public import proofs.«01_k».proof.Proof.Gen.FfnNextIdeal
public import proofs.«01_k».proof.Proof.Gen.FfnNextIdeal.Skeleton
public import proofs.«01_k».proof.Proof.Gen.FfnNextIdeal.Launch
public import proofs.«01_k».proof.Proof.Gen.FfnNextIdeal.Points
public import proofs.«01_k».proof.Proof.Gen.FfnNextIdeal.Frame
public import proofs.«01_k».proof.Proof.Gen.FfnNextIdeal.Value
public import proofs.«01_k».proof.Proof.Gen.FfnNextRefIdeal
public import proofs.«01_k».proof.Proof.Gen.FfnNextRefIdeal.Run
public import proofs.«01_k».proof.Proof.Gen.FfnAttn
public import proofs.«01_k».proof.Proof.Gen.FfnAttn.Skeleton
public import proofs.«01_k».proof.Proof.Gen.FfnAttn.Launch
public import proofs.«01_k».proof.Proof.Gen.FfnAttn.Points
public import proofs.«01_k».proof.Proof.Gen.FfnAttn.Frame
public import proofs.«01_k».proof.Proof.Gen.FfnAttnIdeal
public import proofs.«01_k».proof.Proof.Gen.FfnAttnIdeal.Skeleton
public import proofs.«01_k».proof.Proof.Gen.FfnAttnIdeal.Launch
public import proofs.«01_k».proof.Proof.Gen.FfnAttnIdeal.Points
public import proofs.«01_k».proof.Proof.Gen.FfnAttnIdeal.Frame
public import proofs.«01_k».proof.Proof.Gen.FfnAttnIdeal.Value
public import proofs.«01_k».proof.Proof.Gen.FfnAttnRefIdeal
public import proofs.«01_k».proof.Proof.Gen.FfnAttnRefIdeal.Run
public import proofs.«01_k».proof.Proof.Gen.FfnSsd
public import proofs.«01_k».proof.Proof.Gen.FfnSsd.Skeleton
public import proofs.«01_k».proof.Proof.Gen.FfnSsd.Launch
public import proofs.«01_k».proof.Proof.Gen.FfnSsd.Points
public import proofs.«01_k».proof.Proof.Gen.FfnSsd.Frame
public import proofs.«01_k».proof.Proof.Gen.FfnSsdIdeal
public import proofs.«01_k».proof.Proof.Gen.FfnSsdIdeal.Skeleton
public import proofs.«01_k».proof.Proof.Gen.FfnSsdIdeal.Launch
public import proofs.«01_k».proof.Proof.Gen.FfnSsdIdeal.Points
public import proofs.«01_k».proof.Proof.Gen.FfnSsdIdeal.Frame
public import proofs.«01_k».proof.Proof.Gen.FfnSsdIdeal.Value
public import proofs.«01_k».proof.Proof.Gen.FfnSsdRefIdeal
public import proofs.«01_k».proof.Proof.Gen.FfnSsdRefIdeal.Run
public import proofs.«01_k».proof.Proof.Attn.Equation
public import proofs.«01_k».proof.Proof.Ffn.Equation
public import proofs.«01_k».proof.Proof.Project.SsdIn
public import proofs.«01_k».proof.Proof.Project.SsdDt
public import proofs.«01_k».proof.Proof.Project.SsdOut
public import proofs.«01_k».proof.Proof.Project.AttnOut
public import proofs.«01_k».proof.Proof.Project.Qkv
public import proofs.«01_k».proof.Proof.FfnNext.Array
public import proofs.«01_k».proof.Proof.FfnNext.Ref
public import proofs.«01_k».proof.Proof.FfnAttn.Array
public import proofs.«01_k».proof.Proof.FfnAttn.Ref
public import proofs.«01_k».proof.Proof.FfnSsd.Array
public import proofs.«01_k».proof.Proof.FfnSsd.Ref
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.SL.Sem

theorem facts_qkv : Cert.Pre_finite_qkv.Facts := ⟨by decide⟩

theorem facts_ffn : Cert.Pre_finite_ffn.Facts := ⟨by decide, by decide, by decide⟩

theorem facts_ffn_next : Cert.Pre_finite_ffn_next.Facts := ⟨by decide, by decide, by decide⟩

theorem facts_ffn_attn : Cert.Pre_finite_ffn_attn.Facts := ⟨by decide, by decide, by decide⟩

theorem facts_ffn_ssd : Cert.Pre_finite_ffn_ssd.Facts := ⟨by decide, by decide, by decide⟩

/-- The attention's reference ends with its argument unchanged and every counter at zero. -/
theorem attn_ref_frame : @Cert.quiescent_ReferenceIdeal Cert.ReferenceIdeal.Gen.facts := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So does the feed-forward layer's. -/
theorem ffn_ref_frame : @Cert.quiescent_FfnRefIdeal Cert.FfnRefIdeal.Gen.facts := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The attention's two results are one array. -/
theorem attn_value : @Cert.algebraic_KernelIdeal_ReferenceIdeal_pre_finite_qkv
    Cert.KernelIdeal.Gen.facts Cert.ReferenceIdeal.Gen.facts facts_qkv := by
  intro m ρ m' ρ' hpre hagree
  have := facts_qkv
  refine ⟨_, Cert.KernelIdeal.Value.run_blocks m ρ, ?_⟩
  refine (θ_run Cert.ReferenceIdeal.defs _ _).mono (fun _ h c => ⟨(h c).1.trans ?_, (h c).2⟩) (Cert.ReferenceIdeal.Value.run (F := Ideal) m' ρ')
  refine (Cert.Attn.Ref.res_eq m' c).trans ?_
  rw [hagree c, Cert.Attn.arr_eq m c]
  exact (Cert.Attn.value_eq _ (Cert.Finite.qkv _ (hpre c))).symm

/-- The feed-forward layer's two results are one array. -/
theorem ffn_value : @Cert.algebraic_FfnIdeal_FfnRefIdeal_pre_finite_ffn
    Cert.FfnIdeal.Gen.facts Cert.FfnRefIdeal.Gen.facts facts_ffn := by
  intro m ρ m' ρ' hpre hagree
  have := facts_ffn
  refine ⟨_, Cert.FfnIdeal.Value.run_blocks m ρ, ?_⟩
  refine (θ_run Cert.FfnRefIdeal.defs _ _).mono (fun _ h c => ⟨(h c).1.trans ?_, (h c).2⟩) (Cert.Ffn.Ref.run m' ρ')
  obtain ⟨h0, h1, h2, h3⟩ := hagree c
  rw [h0, h1, h2, h3, Cert.Ffn.arr_eq m c]
  exact (Cert.Ffn.value_eq _ _ _ _ (Cert.Finite.ffn_h _ _ _ _ (hpre c).1) (Cert.Finite.ffn_norm _ _ _ _ (hpre c).2.1)
    (Cert.Finite.ffn_in _ _ _ _ (hpre c).2.2)).symm

/-- The reference of the state-space mixer's input projection ends with its arguments unchanged and every counter at zero, -/
theorem ssd_in_ref_frame : @Cert.quiescent_SsdInRefIdeal Cert.SsdInRefIdeal.Gen.facts := fun m ρ _ =>
  (θ_run Cert.SsdInRefIdeal.defs _ _).mono (fun r h => ⟨fun c => (h c).2, sem_eq_zero_of_no_sems (by decide) r.2⟩)
    (Cert.SsdInRefIdeal.Value.run (F := Ideal) m ρ)

/-- and the two results of the state-space mixer's input projection are one array. -/
theorem ssd_in_value : @Cert.algebraic_SsdInIdeal_SsdInRefIdeal Cert.SsdInIdeal.Gen.facts Cert.SsdInRefIdeal.Gen.facts := by
  intro m ρ m' ρ' _ hagree
  refine ⟨_, Cert.SsdInIdeal.Value.run_blocks m ρ, ?_⟩
  refine (θ_run Cert.SsdInRefIdeal.defs _ _).mono (fun _ h c => ⟨(h c).1.trans ?_, (h c).2⟩) (Cert.SsdInRefIdeal.Value.run (F := Ideal) m' ρ')
  obtain ⟨h0, h1, h2⟩ := hagree c
  rw [h0, h1, h2, Cert.SsdIn.arr_eq m c]
  exact (Cert.SsdIn.value_eq _ _ _).symm

/-- The reference of its projection to step sizes ends with its arguments unchanged and every counter at zero, -/
theorem ssd_dt_ref_frame : @Cert.quiescent_SsdDtRefIdeal Cert.SsdDtRefIdeal.Gen.facts := fun m ρ _ =>
  (θ_run Cert.SsdDtRefIdeal.defs _ _).mono (fun r h => ⟨fun c => (h c).2, sem_eq_zero_of_no_sems (by decide) r.2⟩)
    (Cert.SsdDtRefIdeal.Value.run (F := Ideal) m ρ)

/-- and the two results of its projection to step sizes are one array. -/
theorem ssd_dt_value : @Cert.algebraic_SsdDtIdeal_SsdDtRefIdeal Cert.SsdDtIdeal.Gen.facts Cert.SsdDtRefIdeal.Gen.facts := by
  intro m ρ m' ρ' _ hagree
  refine ⟨_, Cert.SsdDtIdeal.Value.run_blocks m ρ, ?_⟩
  refine (θ_run Cert.SsdDtRefIdeal.defs _ _).mono (fun _ h c => ⟨(h c).1.trans ?_, (h c).2⟩) (Cert.SsdDtRefIdeal.Value.run (F := Ideal) m' ρ')
  obtain ⟨h0, h1, h2⟩ := hagree c
  rw [h0, h1, h2, Cert.SsdDt.arr_eq m c]
  exact (Cert.SsdDt.value_eq _ _ _).symm

/-- The reference of its output projection ends with its arguments unchanged and every counter at zero, -/
theorem ssd_out_ref_frame : @Cert.quiescent_SsdOutRefIdeal Cert.SsdOutRefIdeal.Gen.facts := fun m ρ _ =>
  (θ_run Cert.SsdOutRefIdeal.defs _ _).mono (fun r h => ⟨fun c => (h c).2, sem_eq_zero_of_no_sems (by decide) r.2⟩)
    (Cert.SsdOutRefIdeal.Value.run (F := Ideal) m ρ)

/-- and the two results of its output projection are one array. -/
theorem ssd_out_value : @Cert.algebraic_SsdOutIdeal_SsdOutRefIdeal Cert.SsdOutIdeal.Gen.facts Cert.SsdOutRefIdeal.Gen.facts := by
  intro m ρ m' ρ' _ hagree
  refine ⟨_, Cert.SsdOutIdeal.Value.run_blocks m ρ, ?_⟩
  refine (θ_run Cert.SsdOutRefIdeal.defs _ _).mono (fun _ h c => ⟨(h c).1.trans ?_, (h c).2⟩) (Cert.SsdOutRefIdeal.Value.run (F := Ideal) m' ρ')
  obtain ⟨h0, h1, h2⟩ := hagree c
  rw [h0, h1, h2, Cert.SsdOut.arr_eq m c]
  exact (Cert.SsdOut.value_eq _ _ _).symm

/-- The reference of the attention's output projection ends with its arguments unchanged and every counter at zero, -/
theorem attn_out_ref_frame : @Cert.quiescent_AttnOutRefIdeal Cert.AttnOutRefIdeal.Gen.facts := fun m ρ _ =>
  (θ_run Cert.AttnOutRefIdeal.defs _ _).mono (fun r h => ⟨fun c => (h c).2, sem_eq_zero_of_no_sems (by decide) r.2⟩)
    (Cert.AttnOutRefIdeal.Value.run (F := Ideal) m ρ)

/-- and the two results of the attention's output projection are one array. -/
theorem attn_out_value : @Cert.algebraic_AttnOutIdeal_AttnOutRefIdeal Cert.AttnOutIdeal.Gen.facts Cert.AttnOutRefIdeal.Gen.facts := by
  intro m ρ m' ρ' _ hagree
  refine ⟨_, Cert.AttnOutIdeal.Value.run_blocks m ρ, ?_⟩
  refine (θ_run Cert.AttnOutRefIdeal.defs _ _).mono (fun _ h c => ⟨(h c).1.trans ?_, (h c).2⟩) (Cert.AttnOutRefIdeal.Value.run (F := Ideal) m' ρ')
  obtain ⟨h0, h1, h2⟩ := hagree c
  rw [h0, h1, h2, Cert.AttnOut.arr_eq m c]
  exact (Cert.AttnOut.value_eq _ _ _).symm

/-- The reference of the projection to queries, keys and values ends with its arguments unchanged and every counter at zero, -/
theorem qkv_ref_frame : @Cert.quiescent_QkvRefIdeal Cert.QkvRefIdeal.Gen.facts := fun m ρ _ =>
  (θ_run Cert.QkvRefIdeal.defs _ _).mono (fun r h => ⟨fun c => (h c).2, sem_eq_zero_of_no_sems (by decide) r.2⟩)
    (Cert.QkvRefIdeal.Value.run (F := Ideal) m ρ)

/-- and the two results of the projection to queries, keys and values are one array. -/
theorem qkv_value : @Cert.algebraic_QkvIdeal_QkvRefIdeal Cert.QkvIdeal.Gen.facts Cert.QkvRefIdeal.Gen.facts := by
  intro m ρ m' ρ' _ hagree
  refine ⟨_, Cert.QkvIdeal.Value.run_blocks m ρ, ?_⟩
  refine (θ_run Cert.QkvRefIdeal.defs _ _).mono (fun _ h c => ⟨(h c).1.trans ?_, (h c).2⟩) (Cert.QkvRefIdeal.Value.run (F := Ideal) m' ρ')
  obtain ⟨h0, h1, h2, h3, h4⟩ := hagree c
  refine (Cert.Qkv.res_eq m' c).trans ?_
  rw [h0, h1, h2, h3, h4, Cert.Qkv.arr_eq m c]
  exact (Cert.Qkv.value_eq _ _ _ _ _).symm

/-- The reference of the half-step layer that casts the weights of the next half step ends as the others do; -/
theorem ffn_next_ref_frame : @Cert.quiescent_FfnNextRefIdeal Cert.FfnNextRefIdeal.Gen.facts := fun m ρ _ =>
  (θ_run Cert.FfnNextRefIdeal.defs _ _).mono (fun r h => ⟨fun c => (h c).2.2.2, sem_eq_zero_of_no_sems (by decide) r.2⟩)
    (Cert.FfnNextRefIdeal.Value.run (F := Ideal) m ρ)

/-- and its rows and its casts are the kernel's, where the first three arguments are finite. -/
theorem ffn_next_value : @Cert.algebraic_FfnNextIdeal_FfnNextRefIdeal_pre_finite_ffn_next
    Cert.FfnNextIdeal.Gen.facts Cert.FfnNextRefIdeal.Gen.facts facts_ffn_next := by
  intro m ρ m' ρ' hpre hagree
  have := facts_ffn
  have := facts_ffn_next
  refine ⟨_, _, _, Cert.FfnNextIdeal.Value.run_blocks m ρ, ?_⟩
  refine (θ_run Cert.FfnNextRefIdeal.defs _ _).mono (fun _ h c => ?_) (Cert.FfnNext.Ref.run m' ρ')
  obtain ⟨h0, h1, h2, h3, h4, h5⟩ := hagree c
  refine ⟨(h c).1.trans ?_, (h c).2.1.trans ?_, (h c).2.2.1.trans ?_, (h c).2.2.2⟩
  · have hp := hpre c
    rw [Cert.Finite.next_eq] at hp
    rw [h0, h1, h2, h3, Cert.FfnNext.arr_eq m c]
    exact (Cert.Ffn.value_eq _ _ _ _ (Cert.Finite.ffn_h _ _ _ _ hp.1) (Cert.Finite.ffn_norm _ _ _ _ hp.2.1)
      (Cert.Finite.ffn_in _ _ _ _ hp.2.2)).symm
  · rw [h4]
    exact (Cert.FfnNext.first_arr m c).symm
  · rw [h5]
    exact (Cert.FfnNext.second_arr m c).symm

/-- The reference of the half-step layer that casts the weights of the attention and of the next half step ends as the others do; -/
theorem ffn_attn_ref_frame : @Cert.quiescent_FfnAttnRefIdeal Cert.FfnAttnRefIdeal.Gen.facts := fun m ρ _ =>
  (θ_run Cert.FfnAttnRefIdeal.defs _ _).mono (fun r h => ⟨fun c => (h c).2.2.2.2.2, sem_eq_zero_of_no_sems (by decide) r.2⟩)
    (Cert.FfnAttnRefIdeal.Value.run (F := Ideal) m ρ)

/-- and its rows and its casts are the kernel's, where the first three arguments are finite. -/
theorem ffn_attn_value : @Cert.algebraic_FfnAttnIdeal_FfnAttnRefIdeal_pre_finite_ffn_attn
    Cert.FfnAttnIdeal.Gen.facts Cert.FfnAttnRefIdeal.Gen.facts facts_ffn_attn := by
  intro m ρ m' ρ' hpre hagree
  have := facts_ffn
  have := facts_ffn_attn
  refine ⟨_, _, _, _, _, Cert.FfnAttnIdeal.Value.run_blocks m ρ, ?_⟩
  refine (θ_run Cert.FfnAttnRefIdeal.defs _ _).mono (fun _ h c => ?_) (Cert.FfnAttn.Ref.run m' ρ')
  obtain ⟨h0, h1, h2, h3, h4, h5, h6, h7⟩ := hagree c
  refine ⟨(h c).1.trans ?_, (h c).2.1.trans ?_, (h c).2.2.1.trans ?_, (h c).2.2.2.1.trans ?_, (h c).2.2.2.2.1.trans ?_, (h c).2.2.2.2.2⟩
  · have hp := hpre c
    rw [Cert.Finite.attn_eq] at hp
    rw [h0, h1, h2, h3, Cert.FfnAttn.arr_eq m c]
    exact (Cert.Ffn.value_eq _ _ _ _ (Cert.Finite.ffn_h _ _ _ _ hp.1) (Cert.Finite.ffn_norm _ _ _ _ hp.2.1)
      (Cert.Finite.ffn_in _ _ _ _ hp.2.2)).symm
  · rw [h4]
    exact (Cert.FfnAttn.first_arr m c).symm
  · rw [h5]
    exact (Cert.FfnAttn.second_arr m c).symm
  · rw [h6]
    exact (Cert.FfnAttn.third_arr m c).symm
  · rw [h7]
    exact (Cert.FfnAttn.fourth_arr m c).symm

/-- The reference of the half-step layer that casts the weights of the state-space mixer and of the next half step ends as the others do; -/
theorem ffn_ssd_ref_frame : @Cert.quiescent_FfnSsdRefIdeal Cert.FfnSsdRefIdeal.Gen.facts := fun m ρ _ =>
  (θ_run Cert.FfnSsdRefIdeal.defs _ _).mono (fun r h => ⟨fun c => (h c).2.2.2.2.2.2, sem_eq_zero_of_no_sems (by decide) r.2⟩)
    (Cert.FfnSsdRefIdeal.Value.run (F := Ideal) m ρ)

/-- and its rows and its casts are the kernel's, where the first three arguments are finite. -/
theorem ffn_ssd_value : @Cert.algebraic_FfnSsdIdeal_FfnSsdRefIdeal_pre_finite_ffn_ssd
    Cert.FfnSsdIdeal.Gen.facts Cert.FfnSsdRefIdeal.Gen.facts facts_ffn_ssd := by
  intro m ρ m' ρ' hpre hagree
  have := facts_ffn
  have := facts_ffn_ssd
  refine ⟨_, _, _, _, _, _, Cert.FfnSsdIdeal.Value.run_blocks m ρ, ?_⟩
  refine (θ_run Cert.FfnSsdRefIdeal.defs _ _).mono (fun _ h c => ?_) (Cert.FfnSsd.Ref.run m' ρ')
  obtain ⟨h0, h1, h2, h3, h4, h5, h6, h7⟩ := hagree c
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
  · have hp := hpre c
    rw [Cert.Finite.ssd_eq] at hp
    rw [h0, h1, h2, h3, Cert.FfnSsd.arr_eq m c]
    exact (Cert.Ffn.value_eq _ _ _ _ (Cert.Finite.ffn_h _ _ _ _ hp.1) (Cert.Finite.ffn_norm _ _ _ _ hp.2.1)
      (Cert.Finite.ffn_in _ _ _ _ hp.2.2)).symm
  · rw [h4]
    exact (Cert.FfnSsd.first_arr m c).symm
  · rw [h4]
    exact (Cert.FfnSsd.second_arr m c).symm
  · rw [h5]
    exact (Cert.FfnSsd.third_arr m c).symm
  · rw [h6]
    exact (Cert.FfnSsd.fourth_arr m c).symm
  · rw [h7]
    exact (Cert.FfnSsd.fifth_arr m c).symm

theorem claim : Cert.Claim :=
  ⟨Cert.Kernel.Gen.facts, Cert.KernelIdeal.Gen.facts, Cert.ReferenceIdeal.Gen.facts, Cert.Ffn.Gen.facts, Cert.FfnIdeal.Gen.facts,
    Cert.FfnRefIdeal.Gen.facts,
    Cert.SsdIn.Gen.facts, Cert.SsdInIdeal.Gen.facts, Cert.SsdInRefIdeal.Gen.facts, Cert.SsdDt.Gen.facts, Cert.SsdDtIdeal.Gen.facts, Cert.SsdDtRefIdeal.Gen.facts, Cert.SsdOut.Gen.facts, Cert.SsdOutIdeal.Gen.facts, Cert.SsdOutRefIdeal.Gen.facts, Cert.AttnOut.Gen.facts, Cert.AttnOutIdeal.Gen.facts, Cert.AttnOutRefIdeal.Gen.facts, Cert.Qkv.Gen.facts, Cert.QkvIdeal.Gen.facts, Cert.QkvRefIdeal.Gen.facts,
    Cert.FfnNext.Gen.facts, Cert.FfnNextIdeal.Gen.facts, Cert.FfnNextRefIdeal.Gen.facts,
    Cert.FfnAttn.Gen.facts, Cert.FfnAttnIdeal.Gen.facts, Cert.FfnAttnRefIdeal.Gen.facts,
    Cert.FfnSsd.Gen.facts, Cert.FfnSsdIdeal.Gen.facts, Cert.FfnSsdRefIdeal.Gen.facts,
    facts_qkv, facts_ffn, facts_ffn_next, facts_ffn_attn, facts_ffn_ssd,
    fun m ρ _ => Cert.Kernel.Gen.frame m ρ,
    fun m ρ _ => Cert.KernelIdeal.Gen.frame m ρ,
    fun m ρ _ => Cert.KernelIdeal.Gen.frame m ρ,
    attn_ref_frame,
    fun m ρ _ => attn_ref_frame m ρ trivial,
    fun m ρ _ => Cert.Ffn.Gen.frame m ρ,
    fun m ρ _ => Cert.FfnIdeal.Gen.frame m ρ,
    fun m ρ _ => Cert.FfnIdeal.Gen.frame m ρ,
    ffn_ref_frame,
    fun m ρ _ => ffn_ref_frame m ρ trivial,
    fun m ρ _ => Cert.SsdIn.Gen.frame m ρ,
    fun m ρ _ => Cert.SsdInIdeal.Gen.frame m ρ,
    ssd_in_ref_frame,
    fun m ρ _ => Cert.SsdDt.Gen.frame m ρ,
    fun m ρ _ => Cert.SsdDtIdeal.Gen.frame m ρ,
    ssd_dt_ref_frame,
    fun m ρ _ => Cert.SsdOut.Gen.frame m ρ,
    fun m ρ _ => Cert.SsdOutIdeal.Gen.frame m ρ,
    ssd_out_ref_frame,
    fun m ρ _ => Cert.AttnOut.Gen.frame m ρ,
    fun m ρ _ => Cert.AttnOutIdeal.Gen.frame m ρ,
    attn_out_ref_frame,
    fun m ρ _ => Cert.Qkv.Gen.frame m ρ,
    fun m ρ _ => Cert.QkvIdeal.Gen.frame m ρ,
    qkv_ref_frame,
    fun m ρ _ => Cert.FfnNext.Gen.frame m ρ,
    fun m ρ _ => Cert.FfnNextIdeal.Gen.frame m ρ,
    fun m ρ _ => Cert.FfnNextIdeal.Gen.frame m ρ,
    ffn_next_ref_frame,
    fun m ρ _ => ffn_next_ref_frame m ρ trivial,
    fun m ρ _ => Cert.FfnAttn.Gen.frame m ρ,
    fun m ρ _ => Cert.FfnAttnIdeal.Gen.frame m ρ,
    fun m ρ _ => Cert.FfnAttnIdeal.Gen.frame m ρ,
    ffn_attn_ref_frame,
    fun m ρ _ => ffn_attn_ref_frame m ρ trivial,
    fun m ρ _ => Cert.FfnSsd.Gen.frame m ρ,
    fun m ρ _ => Cert.FfnSsdIdeal.Gen.frame m ρ,
    fun m ρ _ => Cert.FfnSsdIdeal.Gen.frame m ρ,
    ffn_ssd_ref_frame,
    fun m ρ _ => ffn_ssd_ref_frame m ρ trivial,
    trivial, attn_value, trivial, ffn_value, trivial, ssd_in_value, trivial, ssd_dt_value, trivial, ssd_out_value, trivial, attn_out_value, trivial, qkv_value, trivial, ffn_next_value, trivial, ffn_attn_value, trivial, ffn_ssd_value⟩

end Cert.Proof

end
